-- ==== Defs.lean ====
def Pre_Select (m : (ℓ : Loc Cert.Select.nD Cert.Select.τ Cert.Select.sig) → Buf (Elt Bits) ℓ) : Prop :=
  True

def Pre_SelectIdeal (m : (ℓ : Loc Cert.SelectIdeal.nD Cert.SelectIdeal.τ Cert.SelectIdeal.sig) → Buf (Elt Ideal) ℓ) : Prop :=
  True

def Pre_Attend [hPre_in_range : Cert.Pre_in_range.Facts] (m : (ℓ : Loc Cert.Attend.nD Cert.Attend.τ Cert.Attend.sig) → Buf (Elt Bits) ℓ) : Prop :=
  ∀ c : Dev Cert.Attend.nD,
    (Cert.Pre_in_range.fn (F := Bits) (m ((c.tc : Thread Cert.Attend.nD Cert.Attend.τ).loc Cert.Attend.main_arg0)) (m ((c.tc : Thread Cert.Attend.nD Cert.Attend.τ).loc Cert.Attend.main_arg1)) (m ((c.tc : Thread Cert.Attend.nD Cert.Attend.τ).loc Cert.Attend.main_arg2)) (m ((c.tc : Thread Cert.Attend.nD Cert.Attend.τ).loc Cert.Attend.main_arg3))) = (fun _ => 1#1)

def Pre_AttendIdeal [hPre_in_range : Cert.Pre_in_range.Facts] (m : (ℓ : Loc Cert.AttendIdeal.nD Cert.AttendIdeal.τ Cert.AttendIdeal.sig) → Buf (Elt Ideal) ℓ) : Prop :=
  ∀ c : Dev Cert.AttendIdeal.nD,
    (Cert.Pre_in_range.fn (F := Ideal) (m ((c.tc : Thread Cert.AttendIdeal.nD Cert.AttendIdeal.τ).loc Cert.AttendIdeal.main_arg0)) (m ((c.tc : Thread Cert.AttendIdeal.nD Cert.AttendIdeal.τ).loc Cert.AttendIdeal.main_arg1)) (m ((c.tc : Thread Cert.AttendIdeal.nD Cert.AttendIdeal.τ).loc Cert.AttendIdeal.main_arg2)) (m ((c.tc : Thread Cert.AttendIdeal.nD Cert.AttendIdeal.τ).loc Cert.AttendIdeal.main_arg3))) = (fun _ => 1#1)

def Pre_AttendIdeal_in_range_finite [hPre_in_range_finite : Cert.Pre_in_range_finite.Facts] (m : (ℓ : Loc Cert.AttendIdeal.nD Cert.AttendIdeal.τ Cert.AttendIdeal.sig) → Buf (Elt Ideal) ℓ) : Prop :=
  ∀ c : Dev Cert.AttendIdeal.nD,
    (Cert.Pre_in_range_finite.fn (F := Ideal) (m ((c.tc : Thread Cert.AttendIdeal.nD Cert.AttendIdeal.τ).loc Cert.AttendIdeal.main_arg0)) (m ((c.tc : Thread Cert.AttendIdeal.nD Cert.AttendIdeal.τ).loc Cert.AttendIdeal.main_arg1)) (m ((c.tc : Thread Cert.AttendIdeal.nD Cert.AttendIdeal.τ).loc Cert.AttendIdeal.main_arg2)) (m ((c.tc : Thread Cert.AttendIdeal.nD Cert.AttendIdeal.τ).loc Cert.AttendIdeal.main_arg3))) = (fun _ => 1#1)

def Pre_AttendReferenceIdeal (m : (ℓ : Loc Cert.AttendReferenceIdeal.nD Cert.AttendReferenceIdeal.τ Cert.AttendReferenceIdeal.sig) → Buf (Elt Ideal) ℓ) : Prop :=
  True

def Pre_AttendReferenceIdeal_in_range_finite [hPre_in_range_finite : Cert.Pre_in_range_finite.Facts] (m : (ℓ : Loc Cert.AttendReferenceIdeal.nD Cert.AttendReferenceIdeal.τ Cert.AttendReferenceIdeal.sig) → Buf (Elt Ideal) ℓ) : Prop :=
  ∀ c : Dev Cert.AttendReferenceIdeal.nD,
    (Cert.Pre_in_range_finite.fn (F := Ideal) (m ((c.tc : Thread Cert.AttendReferenceIdeal.nD Cert.AttendReferenceIdeal.τ).loc Cert.AttendReferenceIdeal.main_arg0)) (m ((c.tc : Thread Cert.AttendReferenceIdeal.nD Cert.AttendReferenceIdeal.τ).loc Cert.AttendReferenceIdeal.main_arg1)) (m ((c.tc : Thread Cert.AttendReferenceIdeal.nD Cert.AttendReferenceIdeal.τ).loc Cert.AttendReferenceIdeal.main_arg2)) (m ((c.tc : Thread Cert.AttendReferenceIdeal.nD Cert.AttendReferenceIdeal.τ).loc Cert.AttendReferenceIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def quiescent_Select [hSelect : Cert.Select.Facts] : Prop :=
  ∀ (m : (ℓ : Loc Cert.Select.nD Cert.Select.τ Cert.Select.sig) → Buf (Elt Bits) ℓ) (g : Dev Cert.Select.nD → PrngReg), Pre_Select m →
    θ_run (Cert.Select.defs (F := Bits)) (onTc (τ := Cert.Select.τ) (Cert.Select.main (F := Bits))) ⟨m, fun _ => 0, g⟩ (fun r => (∀ c : Dev Cert.Select.nD,
      r.2.mem ((c.tc : Thread Cert.Select.nD Cert.Select.τ).loc Cert.Select.main_arg0) = m ((c.tc : Thread Cert.Select.nD Cert.Select.τ).loc Cert.Select.main_arg0)
      ∧ r.2.mem ((c.tc : Thread Cert.Select.nD Cert.Select.τ).loc Cert.Select.main_arg1) = m ((c.tc : Thread Cert.Select.nD Cert.Select.τ).loc Cert.Select.main_arg1)
      ∧ r.2.mem ((c.tc : Thread Cert.Select.nD Cert.Select.τ).loc Cert.Select.main_arg2) = m ((c.tc : Thread Cert.Select.nD Cert.Select.τ).loc Cert.Select.main_arg2))
      ∧ r.2.sem = fun _ => 0)

def quiescent_SelectIdeal [hSelectIdeal : Cert.SelectIdeal.Facts] : Prop :=
  ∀ (m : (ℓ : Loc Cert.SelectIdeal.nD Cert.SelectIdeal.τ Cert.SelectIdeal.sig) → Buf (Elt Ideal) ℓ) (g : Dev Cert.SelectIdeal.nD → PrngReg), Pre_SelectIdeal m →
    θ_run (Cert.SelectIdeal.defs (F := Ideal)) (onTc (τ := Cert.SelectIdeal.τ) (Cert.SelectIdeal.main (F := Ideal))) ⟨m, fun _ => 0, g⟩ (fun r => (∀ c : Dev Cert.SelectIdeal.nD,
      r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
      ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1)
      ∧ r.2.mem ((c.tc : Thread Cert.SelectIdeal.nD Cert.SelectIdeal.τ).loc Cert.SelectIdeal.main_arg2) = m ((c.tc : Thread Cert.SelectIdeal.nD Cert.SelectIdeal.τ).loc Cert.SelectIdeal.main_arg2))
      ∧ r.2.sem = fun _ => 0)

def quiescent_Attend [hAttend : Cert.Attend.Facts] [hPre_in_range : Cert.Pre_in_range.Facts] : Prop :=
  ∀ (m : (ℓ : Loc Cert.Attend.nD Cert.Attend.τ Cert.Attend.sig) → Buf (Elt Bits) ℓ) (g : Dev Cert.Attend.nD → PrngReg), Pre_Attend m →
    θ_run (Cert.Attend.defs (F := Bits)) (onTc (τ := Cert.Attend.τ) (Cert.Attend.main (F := Bits))) ⟨m, fun _ => 0, g⟩ (fun r => (∀ c : Dev Cert.Attend.nD,
      r.2.mem ((c.tc : Thread Cert.Attend.nD Cert.Attend.τ).loc Cert.Attend.main_arg0) = m ((c.tc : Thread Cert.Attend.nD Cert.Attend.τ).loc Cert.Attend.main_arg0)
      ∧ r.2.mem ((c.tc : Thread Cert.Attend.nD Cert.Attend.τ).loc Cert.Attend.main_arg1) = m ((c.tc : Thread Cert.Attend.nD Cert.Attend.τ).loc Cert.Attend.main_arg1)
      ∧ r.2.mem ((c.tc : Thread Cert.Attend.nD Cert.Attend.τ).loc Cert.Attend.main_arg2) = m ((c.tc : Thread Cert.Attend.nD Cert.Attend.τ).loc Cert.Attend.main_arg2)
      ∧ r.2.mem ((c.tc : Thread Cert.Attend.nD Cert.Attend.τ).loc Cert.Attend.main_arg3) = m ((c.tc : Thread Cert.Attend.nD Cert.Attend.τ).loc Cert.Attend.main_arg3))
      ∧ r.2.sem = fun _ => 0)

def quiescent_AttendIdeal [hAttendIdeal : Cert.AttendIdeal.Facts] [hPre_in_range : Cert.Pre_in_range.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
      ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
      ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3))
      ∧ r.2.sem = fun _ => 0)

def quiescent_AttendIdeal_pre_in_range_finite [hAttendIdeal : Cert.AttendIdeal.Facts] [hPre_in_range_finite : Cert.Pre_in_range_finite.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal_in_range_finite m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
      ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
      ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3))
      ∧ r.2.sem = fun _ => 0)

def quiescent_AttendReferenceIdeal [hAttendReferenceIdeal : Cert.AttendReferenceIdeal.Facts] : Prop :=
  ∀ (m : (ℓ : Loc Cert.AttendReferenceIdeal.nD Cert.AttendReferenceIdeal.τ Cert.AttendReferenceIdeal.sig) → Buf (Elt Ideal) ℓ) (g : Dev Cert.AttendReferenceIdeal.nD → PrngReg), Pre_AttendReferenceIdeal m →
    θ_run (Cert.AttendReferenceIdeal.defs (F := Ideal)) (onTc (τ := Cert.AttendReferenceIdeal.τ) (Cert.AttendReferenceIdeal.main (F := Ideal))) ⟨m, fun _ => 0, g⟩ (fun r => (∀ c : Dev Cert.AttendReferenceIdeal.nD,
      r.2.mem ((c.tc : Thread Cert.AttendReferenceIdeal.nD Cert.AttendReferenceIdeal.τ).loc Cert.AttendReferenceIdeal.main_arg0) = m ((c.tc : Thread Cert.AttendReferenceIdeal.nD Cert.AttendReferenceIdeal.τ).loc Cert.AttendReferenceIdeal.main_arg0)
      ∧ r.2.mem ((c.tc : Thread Cert.AttendReferenceIdeal.nD Cert.AttendReferenceIdeal.τ).loc Cert.AttendReferenceIdeal.main_arg1) = m ((c.tc : Thread Cert.AttendReferenceIdeal.nD Cert.AttendReferenceIdeal.τ).loc Cert.AttendReferenceIdeal.main_arg1)
      ∧ r.2.mem ((c.tc : Thread Cert.AttendReferenceIdeal.nD Cert.AttendReferenceIdeal.τ).loc Cert.AttendReferenceIdeal.main_arg2) = m ((c.tc : Thread Cert.AttendReferenceIdeal.nD Cert.AttendReferenceIdeal.τ).loc Cert.AttendReferenceIdeal.main_arg2)
      ∧ r.2.mem ((c.tc : Thread Cert.AttendReferenceIdeal.nD Cert.AttendReferenceIdeal.τ).loc Cert.AttendReferenceIdeal.main_arg3) = m ((c.tc : Thread Cert.AttendReferenceIdeal.nD Cert.AttendReferenceIdeal.τ).loc Cert.AttendReferenceIdeal.main_arg3))
      ∧ r.2.sem = fun _ => 0)

def quiescent_AttendReferenceIdeal_pre_in_range_finite [hAttendReferenceIdeal : Cert.AttendReferenceIdeal.Facts] [hPre_in_range_finite : Cert.Pre_in_range_finite.Facts] : Prop :=
  ∀ (m : (ℓ : Loc Cert.AttendReferenceIdeal.nD Cert.AttendReferenceIdeal.τ Cert.AttendReferenceIdeal.sig) → Buf (Elt Ideal) ℓ) (g : Dev Cert.AttendReferenceIdeal.nD → PrngReg), Pre_AttendReferenceIdeal_in_range_finite m →
    θ_run (Cert.AttendReferenceIdeal.defs (F := Ideal)) (onTc (τ := Cert.AttendReferenceIdeal.τ) (Cert.AttendReferenceIdeal.main (F := Ideal))) ⟨m, fun _ => 0, g⟩ (fun r => (∀ c : Dev Cert.AttendReferenceIdeal.nD,
      r.2.mem ((c.tc : Thread Cert.AttendReferenceIdeal.nD Cert.AttendReferenceIdeal.τ).loc Cert.AttendReferenceIdeal.main_arg0) = m ((c.tc : Thread Cert.AttendReferenceIdeal.nD Cert.AttendReferenceIdeal.τ).loc Cert.AttendReferenceIdeal.main_arg0)
      ∧ r.2.mem ((c.tc : Thread Cert.AttendReferenceIdeal.nD Cert.AttendReferenceIdeal.τ).loc Cert.AttendReferenceIdeal.main_arg1) = m ((c.tc : Thread Cert.AttendReferenceIdeal.nD Cert.AttendReferenceIdeal.τ).loc Cert.AttendReferenceIdeal.main_arg1)
      ∧ r.2.mem ((c.tc : Thread Cert.AttendReferenceIdeal.nD Cert.AttendReferenceIdeal.τ).loc Cert.AttendReferenceIdeal.main_arg2) = m ((c.tc : Thread Cert.AttendReferenceIdeal.nD Cert.AttendReferenceIdeal.τ).loc Cert.AttendReferenceIdeal.main_arg2)
      ∧ r.2.mem ((c.tc : Thread Cert.AttendReferenceIdeal.nD Cert.AttendReferenceIdeal.τ).loc Cert.AttendReferenceIdeal.main_arg3) = m ((c.tc : Thread Cert.AttendReferenceIdeal.nD Cert.AttendReferenceIdeal.τ).loc Cert.AttendReferenceIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Select_SelectIdeal : Prop :=
  True

def preserves_Attend_AttendIdeal : Prop :=
  True

def algebraic_AttendIdeal_AttendReferenceIdeal_pre_in_range_finite [hAttendIdeal : Cert.AttendIdeal.Facts] [hAttendReferenceIdeal : Cert.AttendReferenceIdeal.Facts] [hPre_in_range_finite : Cert.Pre_in_range_finite.Facts] : Prop :=
  ∀ (m : (ℓ : Loc Cert.AttendIdeal.nD Cert.AttendIdeal.τ Cert.AttendIdeal.sig) → Buf (Elt Ideal) ℓ) (g : Dev Cert.AttendIdeal.nD → PrngReg)
    (m' : (ℓ : Loc Cert.AttendReferenceIdeal.nD Cert.AttendReferenceIdeal.τ Cert.AttendReferenceIdeal.sig) → Buf (Elt Ideal) ℓ) (g' : Dev Cert.AttendReferenceIdeal.nD → PrngReg), Pre_AttendIdeal_in_range_finite m →
    (∀ c : Dev Cert.AttendIdeal.nD,
      m' ((c.tc : Thread Cert.AttendReferenceIdeal.nD Cert.AttendReferenceIdeal.τ).loc Cert.AttendReferenceIdeal.main_arg0) = m ((c.tc : Thread Cert.AttendIdeal.nD Cert.AttendIdeal.τ).loc Cert.AttendIdeal.main_arg0)
      ∧ m' ((c.tc : Thread Cert.AttendReferenceIdeal.nD Cert.AttendReferenceIdeal.τ).loc Cert.AttendReferenceIdeal.main_arg1) = m ((c.tc : Thread Cert.AttendIdeal.nD Cert.AttendIdeal.τ).loc Cert.AttendIdeal.main_arg1)
      ∧ m' ((c.tc : Thread Cert.AttendReferenceIdeal.nD Cert.AttendReferenceIdeal.τ).loc Cert.AttendReferenceIdeal.main_arg2) = m ((c.tc : Thread Cert.AttendIdeal.nD Cert.AttendIdeal.τ).loc Cert.AttendIdeal.main_arg2)
      ∧ m' ((c.tc : Thread Cert.AttendReferenceIdeal.nD Cert.AttendReferenceIdeal.τ).loc Cert.AttendReferenceIdeal.main_arg3) = m ((c.tc : Thread Cert.AttendIdeal.nD Cert.AttendIdeal.τ).loc Cert.AttendIdeal.main_arg3)) →
    ∃ (v0 : (c : Dev Cert.AttendIdeal.nD) → Buf (Elt Ideal) ((c.tc : Thread Cert.AttendIdeal.nD Cert.AttendIdeal.τ).loc Cert.AttendIdeal.main_v3)),
      θ_run (Cert.AttendIdeal.defs (F := Ideal)) (onTc (τ := Cert.AttendIdeal.τ) (Cert.AttendIdeal.main (F := Ideal))) ⟨m, fun _ => 0, g⟩ (fun r => ∀ c : Dev Cert.AttendIdeal.nD,
          r.2.mem ((c.tc : Thread Cert.AttendIdeal.nD Cert.AttendIdeal.τ).loc Cert.AttendIdeal.main_v3) = v0 c
          ∧ r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
          ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
          ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
          ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3))
      ∧ θ_run (Cert.AttendReferenceIdeal.defs (F := Ideal)) (onTc (τ := Cert.AttendReferenceIdeal.τ) (Cert.AttendReferenceIdeal.main (F := Ideal))) ⟨m', fun _ => 0, g'⟩ (fun r => ∀ c : Dev Cert.AttendReferenceIdeal.nD,
          r.2.mem ((c.tc : Thread Cert.AttendReferenceIdeal.nD Cert.AttendReferenceIdeal.τ).loc Cert.AttendReferenceIdeal.main_v61) = v0 c
          ∧ r.2.mem ((c.tc : Thread Cert.AttendReferenceIdeal.nD Cert.AttendReferenceIdeal.τ).loc Cert.AttendReferenceIdeal.main_arg0) = m' ((c.tc : Thread Cert.AttendReferenceIdeal.nD Cert.AttendReferenceIdeal.τ).loc Cert.AttendReferenceIdeal.main_arg0)
          ∧ r.2.mem ((c.tc : Thread Cert.AttendReferenceIdeal.nD Cert.AttendReferenceIdeal.τ).loc Cert.AttendReferenceIdeal.main_arg1) = m' ((c.tc : Thread Cert.AttendReferenceIdeal.nD Cert.AttendReferenceIdeal.τ).loc Cert.AttendReferenceIdeal.main_arg1)
          ∧ r.2.mem ((c.tc : Thread Cert.AttendReferenceIdeal.nD Cert.AttendReferenceIdeal.τ).loc Cert.AttendReferenceIdeal.main_arg2) = m' ((c.tc : Thread Cert.AttendReferenceIdeal.nD Cert.AttendReferenceIdeal.τ).loc Cert.AttendReferenceIdeal.main_arg2)
          ∧ r.2.mem ((c.tc : Thread Cert.AttendReferenceIdeal.nD Cert.AttendReferenceIdeal.τ).loc Cert.AttendReferenceIdeal.main_arg3) = m' ((c.tc : Thread Cert.AttendReferenceIdeal.nD Cert.AttendReferenceIdeal.τ).loc Cert.AttendReferenceIdeal.main_arg3))

def Claim : Prop :=
  ∃ (hSelect : Cert.Select.Facts) (hSelectIdeal : Cert.SelectIdeal.Facts) (hAttend : Cert.Attend.Facts) (hAttendIdeal : Cert.AttendIdeal.Facts) (hAttendReferenceIdeal : Cert.AttendReferenceIdeal.Facts) (hReferenceIdeal : Cert.ReferenceIdeal.Facts) (hPre_in_range : Cert.Pre_in_range.Facts) (hPre_in_range_finite : Cert.Pre_in_range_finite.Facts),
    quiescent_Select (hSelect := hSelect)
    ∧ quiescent_SelectIdeal (hSelectIdeal := hSelectIdeal)
    ∧ quiescent_Attend (hAttend := hAttend) (hPre_in_range := hPre_in_range)
    ∧ quiescent_AttendIdeal (hAttendIdeal := hAttendIdeal) (hPre_in_range := hPre_in_range)
    ∧ quiescent_AttendIdeal_pre_in_range_finite (hAttendIdeal := hAttendIdeal) (hPre_in_range_finite := hPre_in_range_finite)
    ∧ quiescent_AttendReferenceIdeal (hAttendReferenceIdeal := hAttendReferenceIdeal)
    ∧ quiescent_AttendReferenceIdeal_pre_in_range_finite (hAttendReferenceIdeal := hAttendReferenceIdeal) (hPre_in_range_finite := hPre_in_range_finite)
    ∧ quiescent_ReferenceIdeal (hReferenceIdeal := hReferenceIdeal)
    ∧ preserves_Select_SelectIdeal
    ∧ preserves_Attend_AttendIdeal
    ∧ algebraic_AttendIdeal_AttendReferenceIdeal_pre_in_range_finite (hAttendIdeal := hAttendIdeal) (hAttendReferenceIdeal := hAttendReferenceIdeal) (hPre_in_range_finite := hPre_in_range_finite)
-- ==== Pre_in_range.lean ====
abbrev S16x128 : Shape := ⟨2, ![16, 128]⟩
abbrev S1x2048x16x64 : Shape := ⟨4, ![1, 2048, 16, 64]⟩
abbrev S_ : Shape := ⟨0, ![]⟩

class Facts : Prop where
  bcast_S_S16x128 : S_.BroadcastsInDim S16x128 (![] : Fin 0 → Fin S16x128.rank)
  reducesTo_S16x128_S_d0_1 : S16x128.ReducesTo [0, 1] S_
  h_S_ : 0 < S_.numel

variable [Facts]

def fn {F : FTy → Type} [FloatOps F] (main_arg0 : IVec S16x128 32) (main_arg1 : FVec F S1x2048x16x64 .f32) (main_arg2 : FVec F S1x2048x16x64 .f32) (main_arg3 : FVec F S1x2048x16x64 .f32) : IVec S_ 1 :=
  let main_c : IVec S_ 32 := constantI S_ 32 0#32
  let main_v0 : IVec S16x128 32 := broadcastInDim S16x128 ![] bcast_S_S16x128 main_c
  let main_v1 : IVec S16x128 1 := cmpi .sge main_arg0 main_v0
  let main_c_0 : IVec S_ 1 := constantI S_ 1 1#1
  let main_v2 : IVec S_ 1 := (fun x v => Host.reduce IntOp.andi x v reducesTo_S16x128_S_d0_1 h_S_) main_v1 main_c_0
  let main_c_1 : IVec S_ 32 := constantI S_ 32 2048#32
  let main_v3 : IVec S16x128 32 := broadcastInDim S16x128 ![] bcast_S_S16x128 main_c_1
  let main_v4 : IVec S16x128 1 := cmpi .slt main_arg0 main_v3
  let main_c_2 : IVec S_ 1 := constantI S_ 1 1#1
  let main_v5 : IVec S_ 1 := (fun x v => Host.reduce IntOp.andi x v reducesTo_S16x128_S_d0_1 h_S_) main_v4 main_c_2
  let main_v6 : IVec S_ 1 := andi main_v2 main_v5
  main_v6
-- ==== Pre_in_range_finite.lean ====
abbrev S16x128 : Shape := ⟨2, ![16, 128]⟩
abbrev S1x2048x16x64 : Shape := ⟨4, ![1, 2048, 16, 64]⟩
abbrev S_ : Shape := ⟨0, ![]⟩

class Facts : Prop where
  bcast_S_S16x128 : S_.BroadcastsInDim S16x128 (![] : Fin 0 → Fin S16x128.rank)
  reducesTo_S16x128_S_d0_1 : S16x128.ReducesTo [0, 1] S_
  h_S_ : 0 < S_.numel
  bcast_S_S1x2048x16x64 : S_.BroadcastsInDim S1x2048x16x64 (![] : Fin 0 → Fin S1x2048x16x64.rank)
  reducesTo_S1x2048x16x64_S_d0_1_2_3 : S1x2048x16x64.ReducesTo [0, 1, 2, 3] S_

variable [Facts]

def fn_part1 {F : FTy → Type} [FloatOps F] (main_v11 : IVec S_ 1) (main_v15 : IVec S_ 1) : IVec S_ 1 :=
  let main_v16 : IVec S_ 1 := andi main_v11 main_v15
  main_v16

def fn {F : FTy → Type} [FloatOps F] (main_arg0 : IVec S16x128 32) (main_arg1 : FVec F S1x2048x16x64 .f32) (main_arg2 : FVec F S1x2048x16x64 .f32) (main_arg3 : FVec F S1x2048x16x64 .f32) : IVec S_ 1 :=
  let main_c : IVec S_ 32 := constantI S_ 32 0#32
  let main_v0 : IVec S16x128 32 := broadcastInDim S16x128 ![] bcast_S_S16x128 main_c
  let main_v1 : IVec S16x128 1 := cmpi .sge main_arg0 main_v0
  let main_c_0 : IVec S_ 1 := constantI S_ 1 1#1
  let main_v2 : IVec S_ 1 := (fun x v => Host.reduce IntOp.andi x v reducesTo_S16x128_S_d0_1 h_S_) main_v1 main_c_0
  let main_c_1 : IVec S_ 32 := constantI S_ 32 2048#32
  let main_v3 : IVec S16x128 32 := broadcastInDim S16x128 ![] bcast_S_S16x128 main_c_1
  let main_v4 : IVec S16x128 1 := cmpi .slt main_arg0 main_v3
  let main_c_2 : IVec S_ 1 := constantI S_ 1 1#1
  let main_v5 : IVec S_ 1 := (fun x v => Host.reduce IntOp.andi x v reducesTo_S16x128_S_d0_1 h_S_) main_v4 main_c_2
  let main_v6 : IVec S_ 1 := andi main_v2 main_v5
  let main_v7 : FVec F S1x2048x16x64 .f32 := Host.absf main_arg1
  let main_cst : FVec F S_ .f32 := constant S_ .f32 0x7F800000#32
  let main_v8 : FVec F S1x2048x16x64 .f32 := broadcastInDim S1x2048x16x64 ![] bcast_S_S1x2048x16x64 main_cst
  let main_v9 : IVec S1x2048x16x64 1 := cmpf .olt main_v7 main_v8
  let main_c_3 : IVec S_ 1 := constantI S_ 1 1#1
  let main_v10 : IVec S_ 1 := (fun x v => Host.reduce IntOp.andi x v reducesTo_S1x2048x16x64_S_d0_1_2_3 h_S_) main_v9 main_c_3
  let main_v11 : IVec S_ 1 := andi main_v6 main_v10
  let main_v12 : FVec F S1x2048x16x64 .f32 := Host.absf main_arg2
  let main_cst_4 : FVec F S_ .f32 := constant S_ .f32 0x7F800000#32
  let main_v13 : FVec F S1x2048x16x64 .f32 := broadcastInDim S1x2048x16x64 ![] bcast_S_S1x2048x16x64 main_cst_4
  let main_v14 : IVec S1x2048x16x64 1 := cmpf .olt main_v12 main_v13
  let main_c_5 : IVec S_ 1 := constantI S_ 1 1#1
  let main_v15 : IVec S_ 1 := (fun x v => Host.reduce IntOp.andi x v reducesTo_S1x2048x16x64_S_d0_1_2_3 h_S_) main_v14 main_c_5
  fn_part1 (F := F) main_v11 main_v15
-- ==== Select.lean ====
abbrev S1x2048x16x64 : Shape := ⟨4, ![1, 2048, 16, 64]⟩
abbrev S2048x40 : Shape := ⟨2, ![2048, 40]⟩
abbrev S2048x1024 : Shape := ⟨2, ![2048, 1024]⟩
abbrev S_ : Shape := ⟨0, ![]⟩
abbrev S2048x2048 : Shape := ⟨2, ![2048, 2048]⟩
abbrev S81920 : Shape := ⟨1, ![81920]⟩
abbrev S2048 : Shape := ⟨1, ![2048]⟩
abbrev S81920x1 : Shape := ⟨2, ![81920, 1]⟩
abbrev S81920x2 : Shape := ⟨2, ![81920, 2]⟩
abbrev S16x128 : Shape := ⟨2, ![16, 128]⟩
abbrev S2048x128 : Shape := ⟨2, ![2048, 128]⟩
abbrev S16x2048 : Shape := ⟨2, ![16, 2048]⟩
abbrev S2x2048x64 : Shape := ⟨3, ![2, 2048, 64]⟩
abbrev S256x64 : Shape := ⟨2, ![256, 64]⟩
abbrev S1x256x64 : Shape := ⟨3, ![1, 256, 64]⟩
abbrev S128x64 : Shape := ⟨2, ![128, 64]⟩
abbrev S1x128 : Shape := ⟨2, ![1, 128]⟩
abbrev S256x128 : Shape := ⟨2, ![256, 128]⟩
abbrev S128 : Shape := ⟨1, ![128]⟩
abbrev S1x2048 : Shape := ⟨2, ![1, 2048]⟩
abbrev S16 : Shape := ⟨1, ![16]⟩
abbrev S16x1 : Shape := ⟨2, ![16, 1]⟩

abbrev nBuf : Space → Nat
  | .hbm => 40
  | .vmem => 9
  | .smem => 0
  | _ => 0

abbrev bufTy : (tb : Table) → Fin (tcTables nBuf tb) → BufTy
  | .hbm, ⟨0, _⟩ => ⟨S1x2048x16x64, .f32⟩
  | .hbm, ⟨1, _⟩ => ⟨S1x2048x16x64, .f32⟩
  | .hbm, ⟨2, _⟩ => ⟨S2048x40, .i32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048x2048, .f32⟩
  | .hbm, ⟨7, _⟩ => ⟨S81920, .i32⟩
  | .hbm, ⟨8, _⟩ => ⟨S2048, .i32⟩
  | .hbm, ⟨9, _⟩ => ⟨S2048x40, .i32⟩
  | .hbm, ⟨10, _⟩ => ⟨S81920, .i32⟩
  | .hbm, ⟨11, _⟩ => ⟨S_, .i32⟩
  | .hbm, ⟨12, _⟩ => ⟨S81920, .i32⟩
  | .hbm, ⟨13, _⟩ => ⟨S81920, .i1⟩
  | .hbm, ⟨14, _⟩ => ⟨S_, .i32⟩
  | .hbm, ⟨15, _⟩ => ⟨S81920, .i32⟩
  | .hbm, ⟨16, _⟩ => ⟨S81920, .i32⟩
  | .hbm, ⟨17, _⟩ => ⟨S81920, .i32⟩
  | .hbm, ⟨18, _⟩ => ⟨S_, .i32⟩
  | .hbm, ⟨19, _⟩ => ⟨S81920, .i32⟩
  | .hbm, ⟨20, _⟩ => ⟨S81920, .i1⟩
  | .hbm, ⟨21, _⟩ => ⟨S_, .i32⟩
  | .hbm, ⟨22, _⟩ => ⟨S81920, .i32⟩
  | .hbm, ⟨23, _⟩ => ⟨S81920, .i32⟩
  | .hbm, ⟨24, _⟩ => ⟨S81920, .i32⟩
  | .hbm, ⟨25, _⟩ => ⟨S81920x1, .i32⟩
  | .hbm, ⟨26, _⟩ => ⟨S81920x1, .i32⟩
  | .hbm, ⟨27, _⟩ => ⟨S81920x2, .i32⟩
  | .hbm, ⟨28, _⟩ => ⟨S_, .f32⟩
  | .hbm, ⟨29, _⟩ => ⟨S81920, .f32⟩
  | .hbm, ⟨30, _⟩ => ⟨S2048x2048, .f32⟩
  | .hbm, ⟨31, _⟩ => ⟨S_, .f32⟩
  | .hbm, ⟨32, _⟩ => ⟨S2048x2048, .f32⟩
  | .hbm, ⟨33, _⟩ => ⟨S2048x2048, .i1⟩
  | .hbm, ⟨34, _⟩ => ⟨S_, .f32⟩
  | .hbm, ⟨35, _⟩ => ⟨S_, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S16x128, .i32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x2048, .f32⟩
  | .local _ .vmem, ⟨5, _⟩ => ⟨S2048x2048, .f32⟩
  | .local _ .vmem, ⟨6, _⟩ => ⟨S16x128, .i32⟩
  | .local _ .vmem, ⟨7, _⟩ => ⟨S16x2048, .f32⟩
  | .local _ .vmem, ⟨8, _⟩ => ⟨S2x2048x64, .f32⟩
  | _, _ => ⟨S1x2048x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_cst_6 : Ref sig .tc := ⟨.hbm, 35, rfl⟩
abbrev main_call0_v0 : Ref sig .tc := ⟨.hbm, 36, rfl⟩
abbrev main_call0_v1 : Ref sig .tc := ⟨.hbm, 37, rfl⟩
abbrev main_v24 : Ref sig .tc := ⟨.hbm, 38, rfl⟩
abbrev main_v25 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![8], ![false]⟩

def k0_cond17 (i : grid0.Coords) : BitVec 1 :=
  let arg0 : BitVec 32 := BitVec.ofNat 32 (i 0).val
  let c7_i32_2805 : BitVec 32 := 7#32
  let v4194 : BitVec 1 := Scalar.cmpi .eq arg0 c7_i32_2805
  let v4195 : BitVec 32 := Scalar.extui v4194
  let c0_i32_2806 : BitVec 32 := 0#32
  let v4196 : BitVec 1 := Scalar.cmpi .ne v4195 c0_i32_2806
  v4196

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Attend.lean ====
abbrev S16x128 : Shape := ⟨2, ![16, 128]⟩
abbrev S1x2048x16x64 : Shape := ⟨4, ![1, 2048, 16, 64]⟩
abbrev S2048x1024 : Shape := ⟨2, ![2048, 1024]⟩
abbrev S2048x128 : Shape := ⟨2, ![2048, 128]⟩
abbrev S40x64 : Shape := ⟨2, ![40, 64]⟩
abbrev S40x2048 : Shape := ⟨2, ![40, 2048]⟩
abbrev S1x1 : Shape := ⟨2, ![1, 1]⟩
abbrev S1x64 : Shape := ⟨2, ![1, 64]⟩
abbrev S40x1 : Shape := ⟨2, ![40, 1]⟩
abbrev S256x64 : Shape := ⟨2, ![256, 64]⟩
abbrev S40x256 : Shape := ⟨2, ![40, 256]⟩
abbrev S40 : Shape := ⟨1, ![40]⟩
abbrev S1x128 : Shape := ⟨2, ![1, 128]⟩
abbrev S256x128 : Shape := ⟨2, ![256, 128]⟩
abbrev S128 : Shape := ⟨1, ![128]⟩

abbrev nBuf : Space → Nat
  | .hbm => 8
  | .vmem => 10
  | .smem => 1
  | _ => 0

abbrev bufTy : (tb : Table) → Fin (tcTables nBuf tb) → BufTy
  | .hbm, ⟨0, _⟩ => ⟨S16x128, .i32⟩
  | .hbm, ⟨1, _⟩ => ⟨S1x2048x16x64, .f32⟩
  | .hbm, ⟨2, _⟩ => ⟨S1x2048x16x64, .f32⟩
  | .hbm, ⟨3, _⟩ => ⟨S1x2048x16x64, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S40x64, .f32⟩
  | .local _ .vmem, ⟨9, _⟩ => ⟨S40x2048, .f32⟩
  | .local _ .smem, ⟨0, _⟩ => ⟨S16x128, .i32⟩
  | _, _ => ⟨S16x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let c2_i32 : BitVec 32 := 2#32
  let arg0 : BitVec 32 := BitVec.ofNat 32 (i 0).val
  let v0 : BitVec 32 := Scalar.muli c2_i32 arg0
  let c0_i32 : BitVec 32 := 0#32
  let v1 : BitVec 32 := Scalar.addi v0 c0_i32
  let v2 : Index := Scalar.indexCast v1
  let c0 : Index := 0#32
  ![v2.toNat, 0]
def k0_off2 (i : grid0.Coords) : Fin 2 → Nat :=
  let c2_i32_0 : BitVec 32 := 2#32
  let arg0 : BitVec 32 := BitVec.ofNat 32 (i 0).val
  let v4 : BitVec 32 := Scalar.muli c2_i32_0 arg0
  let c0_i32_1 : BitVec 32 := 0#32
  let v5 : BitVec 32 := Scalar.addi v4 c0_i32_1
  let v6 : Index := Scalar.indexCast v5
  let c1 : Index := 1#32
  ![v6.toNat, 1]
def k0_off3 (i : grid0.Coords) : Fin 2 → Nat :=
  let c2_i32_2 : BitVec 32 := 2#32
  let arg0 : BitVec 32 := BitVec.ofNat 32 (i 0).val
  let v8 : BitVec 32 := Scalar.muli c2_i32_2 arg0
  let c0_i32_3 : BitVec 32 := 0#32
  let v9 : BitVec 32 := Scalar.addi v8 c0_i32_3
  let v10 : Index := Scalar.indexCast v9
  let c2 : Index := 2#32
  ![v10.toNat, 2]
def k0_off4 (i : grid0.Coords) : Fin 2 → Nat :=
  let c2_i32_4 : BitVec 32 := 2#32
  let arg0 : BitVec 32 := BitVec.ofNat 32 (i 0).val
  let v12 : BitVec 32 := Scalar.muli c2_i32_4 arg0
  let c0_i32_5 : BitVec 32 := 0#32
  let v13 : BitVec 32 := Scalar.addi v12 c0_i32_5
  let v14 : Index := Scalar.indexCast v13
  let c3 : Index := 3#32
  ![v14.toNat, 3]
def k0_off5 (i : grid0.Coords) : Fin 2 → Nat :=
  let c2_i32_6 : BitVec 32 := 2#32
  let arg0 : BitVec 32 := BitVec.ofNat 32 (i 0).val
  let v16 : BitVec 32 := Scalar.muli c2_i32_6 arg0
  let c0_i32_7 : BitVec 32 := 0#32
  let v17 : BitVec 32 := Scalar.addi v16 c0_i32_7
  let v18 : Index := Scalar.indexCast v17
  let c4 : Index := 4#32
  ![v18.toNat, 4]
def k0_off6 (i : grid0.Coords) : Fin 2 → Nat :=
  let c2_i32_8 : BitVec 32 := 2#32
  let arg0 : BitVec 32 := BitVec.ofNat 32 (i 0).val
  let v20 : BitVec 32 := Scalar.muli c2_i32_8 arg0
  let c0_i32_9 : BitVec 32 := 0#32
  let v21 : BitVec 32 := Scalar.addi v20 c0_i32_9
  let v22 : Index := Scalar.indexCast v21
  let c5 : Index := 5#32
  ![v22.toNat, 5]
def k0_off7 (i : grid0.Coords) : Fin 2 → Nat :=
  let c2_i32_10 : BitVec 32 := 2#32
  let arg0 : BitVec 32 := BitVec.ofNat 32 (i 0).val
  let v24 : BitVec 32 := Scalar.muli c2_i32_10 arg0
  let c0_i32_11 : BitVec 32 := 0#32
  let v25 : BitVec 32 := Scalar.addi v24 c0_i32_11
  let v26 : Index := Scalar.indexCast v25
  let c6 : Index := 6#32
  ![v26.toNat, 6]
def k0_off8 (i : grid0.Coords) : Fin 2 → Nat :=
  let c2_i32_12 : BitVec 32 := 2#32
  let arg0 : BitVec 32 := BitVec.ofNat 32 (i 0).val
  let v28 : BitVec 32 := Scalar.muli c2_i32_12 arg0
  let c0_i32_13 : BitVec 32 := 0#32
  let v29 : BitVec 32 := Scalar.addi v28 c0_i32_13
  let v30 : Index := Scalar.indexCast v29
  let c7 : Index := 7#32
  ![v30.toNat, 7]
def k0_off9 (i : grid0.Coords) : Fin 2 → Nat :=
  let c2_i32_14 : BitVec 32 := 2#32
  let arg0 : BitVec 32 := BitVec.ofNat 32 (i 0).val
  let v32 : BitVec 32 := Scalar.muli c2_i32_14 arg0
  let c0_i32_15 : BitVec 32 := 0#32
  let v33 : BitVec 32 := Scalar.addi v32 c0_i32_15
  let v34 : Index := Scalar.indexCast v33
  let c8 : Index := 8#32
  ![v34.toNat, 8]
def k0_off10 (i : grid0.Coords) : Fin 2 → Nat :=
  let c2_i32_16 : BitVec 32 := 2#32
  let arg0 : BitVec 32 := BitVec.ofNat 32 (i 0).val
  let v36 : BitVec 32 := Scalar.muli c2_i32_16 arg0
  let c0_i32_17 : BitVec 32 := 0#32
  let v37 : BitVec 32 := Scalar.addi v36 c0_i32_17
  let v38 : Index := Scalar.indexCast v37
  let c9 : Index := 9#32
  ![v38.toNat, 9]
def k0_off11 (i : grid0.Coords) : Fin 2 → Nat :=
  let c2_i32_18 : BitVec 32 := 2#32
  let arg0 : BitVec 32 := BitVec.ofNat 32 (i 0).val
  let v40 : BitVec 32 := Scalar.muli c2_i32_18 arg0
  let c0_i32_19 : BitVec 32 := 0#32
  let v41 : BitVec 32 := Scalar.addi v40 c0_i32_19
  let v42 : Index := Scalar.indexCast v41
  let c10 : Index := 10#32
  ![v42.toNat, 10]
def k0_off12 (i : grid0.Coords) : Fin 2 → Nat :=
  let c2_i32_20 : BitVec 32 := 2#32
  let arg0 : BitVec 32 := BitVec.ofNat 32 (i 0).val
  let v44 : BitVec 32 := Scalar.muli c2_i32_20 arg0
  let c0_i32_21 : BitVec 32 := 0#32
  let v45 : BitVec 32 := Scalar.addi v44 c0_i32_21
  let v46 : Index := Scalar.indexCast v45
  let c11 : Index := 11#32
  ![v46.toNat, 11]
def k0_off13 (i : grid0.Coords) : Fin 2 → Nat :=
  let c2_i32_22 : BitVec 32 := 2#32
  let arg0 : BitVec 32 := BitVec.ofNat 32 (i 0).val
  let v48 : BitVec 32 := Scalar.muli c2_i32_22 arg0
  let c0_i32_23 : BitVec 32 := 0#32
  let v49 : BitVec 32 := Scalar.addi v48 c0_i32_23
  let v50 : Index := Scalar.indexCast v49
  let c12 : Index := 12#32
  ![v50.toNat, 12]
def k0_off14 (i : grid0.Coords) : Fin 2 → Nat :=
  let c2_i32_24 : BitVec 32 := 2#32
  let arg0 : BitVec 32 := BitVec.ofNat 32 (i 0).val
  let v52 : BitVec 32 := Scalar.muli c2_i32_24 arg0
  let c0_i32_25 : BitVec 32 := 0#32
  let v53 : BitVec 32 := Scalar.addi v52 c0_i32_25
  let v54 : Index := Scalar.indexCast v53
  let c13 : Index := 13#32
  ![v54.toNat, 13]
def k0_off15 (i : grid0.Coords) : Fin 2 → Nat :=
  let c2_i32_26 : BitVec 32 := 2#32
  let arg0 : BitVec 32 := BitVec.ofNat 32 (i 0).val
  let v56 : BitVec 32 := Scalar.muli c2_i32_26 arg0
  let c0_i32_27 : BitVec 32 := 0#32
  let v57 : BitVec 32 := Scalar.addi v56 c0_i32_27
  let v58 : Index := Scalar.indexCast v57
  let c14 : Index := 14#32
  ![v58.toNat, 14]
def k0_off16 (i : grid0.Coords) : Fin 2 → Nat :=
  let c2_i32_28 : BitVec 32 := 2#32
  let arg0 : BitVec 32 := BitVec.ofNat 32 (i 0).val
  let v60 : BitVec 32 := Scalar.muli c2_i32_28 arg0
  let c0_i32_29 : BitVec 32 := 0#32
  let v61 : BitVec 32 := Scalar.addi v60 c0_i32_29
  let v62 : Index := Scalar.indexCast v61
  let c15 : Index := 15#32
  ![v62.toNat, 15]
def k0_off17 (i : grid0.Coords) : Fin 2 → Nat :=
  let c2_i32_30 : BitVec 32 := 2#32
  let arg0 : BitVec 32 := BitVec.ofNat 32 (i 0).val
  let v64 : BitVec 32 := Scalar.muli c2_i32_30 arg0
  let c0_i32_31 : BitVec 32 := 0#32
  let v65 : BitVec 32 := Scalar.addi v64 c0_i32_31
  let v66 : Index := Scalar.indexCast v65
  let c16 : Index := 16#32
  ![v66.toNat, 16]
def k0_off18 (i : grid0.Coords) : Fin 2 → Nat :=
  let c2_i32_32 : BitVec 32 := 2#32
  let arg0 : BitVec 32 := BitVec.ofNat 32 (i 0).val
  let v68 : BitVec 32 := Scalar.muli c2_i32_32 arg0
  let c0_i32_33 : BitVec 32 := 0#32
  let v69 : BitVec 32 := Scalar.addi v68 c0_i32_33
  let v70 : Index := Scalar.indexCast v69
  let c17 : Index := 17#32
  ![v70.toNat, 17]
def k0_off19 (i : grid0.Coords) : Fin 2 → Nat :=
  let c2_i32_34 : BitVec 32 := 2#32
  let arg0 : BitVec 32 := BitVec.ofNat 32 (i 0).val
  let v72 : BitVec 32 := Scalar.muli c2_i32_34 arg0
  let c0_i32_35 : BitVec 32 := 0#32
  let v73 : BitVec 32 := Scalar.addi v72 c0_i32_35
  let v74 : Index := Scalar.indexCast v73
  let c18 : Index := 18#32
  ![v74.toNat, 18]
def k0_off20 (i : grid0.Coords) : Fin 2 → Nat :=
  let c2_i32_36 : BitVec 32 := 2#32
  let arg0 : BitVec 32 := BitVec.ofNat 32 (i 0).val
  let v76 : BitVec 32 := Scalar.muli c2_i32_36 arg0
  let c0_i32_37 : BitVec 32 := 0#32
  let v77 : BitVec 32 := Scalar.addi v76 c0_i32_37
  let v78 : Index := Scalar.indexCast v77
  let c19 : Index := 19#32
  ![v78.toNat, 19]
def k0_off21 (i : grid0.Coords) : Fin 2 → Nat :=
  let c2_i32_38 : BitVec 32 := 2#32
  let arg0 : BitVec 32 := BitVec.ofNat 32 (i 0).val
  let v80 : BitVec 32 := Scalar.muli c2_i32_38 arg0
  let c0_i32_39 : BitVec 32 := 0#32
  let v81 : BitVec 32 := Scalar.addi v80 c0_i32_39
  let v82 : Index := Scalar.indexCast v81
  let c20 : Index := 20#32
  ![v82.toNat, 20]
def k0_off22 (i : grid0.Coords) : Fin 2 → Nat :=
  let c2_i32_40 : BitVec 32 := 2#32
  let arg0 : BitVec 32 := BitVec.ofNat 32 (i 0).val
  let v84 : BitVec 32 := Scalar.muli c2_i32_40 arg0
  let c0_i32_41 : BitVec 32 := 0#32
  let v85 : BitVec 32 := Scalar.addi v84 c0_i32_41
  let v86 : Index := Scalar.indexCast v85
  let c21 : Index := 21#32
  ![v86.toNat, 21]
def k0_off23 (i : grid0.Coords) : Fin 2 → Nat :=
  let c2_i32_42 : BitVec 32 := 2#32
  let arg0 : BitVec 32 := BitVec.ofNat 32 (i 0).val
  let v88 : BitVec 32 := Scalar.muli c2_i32_42 arg0
  let c0_i32_43 : BitVec 32 := 0#32
  let v89 : BitVec 32 := Scalar.addi v88 c0_i32_43
  let v90 : Index := Scalar.indexCast v89
  let c22 : Index := 22#32
  ![v90.toNat, 22]
def k0_off24 (i : grid0.Coords) : Fin 2 → Nat :=
  let c2_i32_44 : BitVec 32 := 2#32
  let arg0 : BitVec 32 := BitVec.ofNat 32 (i 0).val
  let v92 : BitVec 32 := Scalar.muli c2_i32_44 arg0
  let c0_i32_45 : BitVec 32 := 0#32
  let v93 : BitVec 32 := Scalar.addi v92 c0_i32_45
  let v94 : Index := Scalar.indexCast v93
  let c23 : Index := 23#32
  ![v94.toNat, 23]
def k0_off25 (i : grid0.Coords) : Fin 2 → Nat :=
  let c2_i32_46 : BitVec 32 := 2#32
  let arg0 : BitVec 32 := BitVec.ofNat 32 (i 0).val
  let v96 : BitVec 32 := Scalar.muli c2_i32_46 arg0
  let c0_i32_47 : BitVec 32 := 0#32
  let v97 : BitVec 32 := Scalar.addi v96 c0_i32_47
  let v98 : Index := Scalar.indexCast v97
  let c24 : Index := 24#32
  ![v98.toNat, 24]
def k0_off26 (i : grid0.Coords) : Fin 2 → Nat :=
  let c2_i32_48 : BitVec 32 := 2#32
  let arg0 : BitVec 32 := BitVec.ofNat 32 (i 0).val
  let v100 : BitVec 32 := Scalar.muli c2_i32_48 arg0
  let c0_i32_49 : BitVec 32 := 0#32
  let v101 : BitVec 32 := Scalar.addi v100 c0_i32_49
  let v102 : Index := Scalar.indexCast v101
  let c25 : Index := 25#32
  ![v102.toNat, 25]
def k0_off27 (i : grid0.Coords) : Fin 2 → Nat :=
  let c2_i32_50 : BitVec 32 := 2#32
  let arg0 : BitVec 32 := BitVec.ofNat 32 (i 0).val
  let v104 : BitVec 32 := Scalar.muli c2_i32_50 arg0
  let c0_i32_51 : BitVec 32 := 0#32
  let v105 : BitVec 32 := Scalar.addi v104 c0_i32_51
  let v106 : Index := Scalar.indexCast v105
  let c26 : Index := 26#32
  ![v106.toNat, 26]
def k0_off28 (i : grid0.Coords) : Fin 2 → Nat :=
  let c2_i32_52 : BitVec 32 := 2#32
  let arg0 : BitVec 32 := BitVec.ofNat 32 (i 0).val
  let v108 : BitVec 32 := Scalar.muli c2_i32_52 arg0
  let c0_i32_53 : BitVec 32 := 0#32
  let v109 : BitVec 32 := Scalar.addi v108 c0_i32_53
  let v110 : Index := Scalar.indexCast v109
  let c27 : Index := 27#32
  ![v110.toNat, 27]
def k0_off29 (i : grid0.Coords) : Fin 2 → Nat :=
  let c2_i32_54 : BitVec 32 := 2#32
  let arg0 : BitVec 32 := BitVec.ofNat 32 (i 0).val
  let v112 : BitVec 32 := Scalar.muli c2_i32_54 arg0
  let c0_i32_55 : BitVec 32 := 0#32
  let v113 : BitVec 32 := Scalar.addi v112 c0_i32_55
  let v114 : Index := Scalar.indexCast v113
  let c28 : Index := 28#32
  ![v114.toNat, 28]
def k0_off30 (i : grid0.Coords) : Fin 2 → Nat :=
  let c2_i32_56 : BitVec 32 := 2#32
  let arg0 : BitVec 32 := BitVec.ofNat 32 (i 0).val
  let v116 : BitVec 32 := Scalar.muli c2_i32_56 arg0
  let c0_i32_57 : BitVec 32 := 0#32
  let v117 : BitVec 32 := Scalar.addi v116 c0_i32_57
  let v118 : Index := Scalar.indexCast v117
  let c29 : Index := 29#32
  ![v118.toNat, 29]
def k0_off31 (i : grid0.Coords) : Fin 2 → Nat :=
  let c2_i32_58 : BitVec 32 := 2#32
  let arg0 : BitVec 32 := BitVec.ofNat 32 (i 0).val
  let v120 : BitVec 32 := Scalar.muli c2_i32_58 arg0
  let c0_i32_59 : BitVec 32 := 0#32
  let v121 : BitVec 32 := Scalar.addi v120 c0_i32_59
  let v122 : Index := Scalar.indexCast v121
  let c30 : Index := 30#32
  ![v122.toNat, 30]
def k0_off32 (i : grid0.Coords) : Fin 2 → Nat :=
  let c2_i32_60 : BitVec 32 := 2#32
  let arg0 : BitVec 32 := BitVec.ofNat 32 (i 0).val
  let v124 : BitVec 32 := Scalar.muli c2_i32_60 arg0
  let c0_i32_61 : BitVec 32 := 0#32
  let v125 : BitVec 32 := Scalar.addi v124 c0_i32_61
  let v126 : Index := Scalar.indexCast v125
  let c31 : Index := 31#32
  ![v126.toNat, 31]
def k0_off33 (i : grid0.Coords) : Fin 2 → Nat :=
  let c2_i32_62 : BitVec 32 := 2#32
  let arg0 : BitVec 32 := BitVec.ofNat 32 (i 0).val
  let v128 : BitVec 32 := Scalar.muli c2_i32_62 arg0
  let c0_i32_63 : BitVec 32 := 0#32
  let v129 : BitVec 32 := Scalar.addi v128 c0_i32_63
  let v130 : Index := Scalar.indexCast v129
  let c32 : Index := 32#32
  ![v130.toNat, 32]
def k0_off34 (i : grid0.Coords) : Fin 2 → Nat :=
  let c2_i32_64 : BitVec 32 := 2#32
  let arg0 : BitVec 32 := BitVec.ofNat 32 (i 0).val
  let v132 : BitVec 32 := Scalar.muli c2_i32_64 arg0
  let c0_i32_65 : BitVec 32 := 0#32
  let v133 : BitVec 32 := Scalar.addi v132 c0_i32_65
  let v134 : Index := Scalar.indexCast v133
  let c33 : Index := 33#32
  ![v134.toNat, 33]
def k0_off35 (i : grid0.Coords) : Fin 2 → Nat :=
  let c2_i32_66 : BitVec 32 := 2#32
  let arg0 : BitVec 32 := BitVec.ofNat 32 (i 0).val
  let v136 : BitVec 32 := Scalar.muli c2_i32_66 arg0
  let c0_i32_67 : BitVec 32 := 0#32
  let v137 : BitVec 32 := Scalar.addi v136 c0_i32_67
  let v138 : Index := Scalar.indexCast v137
  let c34 : Index := 34#32
  ![v138.toNat, 34]
def k0_off36 (i : grid0.Coords) : Fin 2 → Nat :=
  let c2_i32_68 : BitVec 32 := 2#32
  let arg0 : BitVec 32 := BitVec.ofNat 32 (i 0).val
  let v140 : BitVec 32 := Scalar.muli c2_i32_68 arg0
  let c0_i32_69 : BitVec 32 := 0#32
  let v141 : BitVec 32 := Scalar.addi v140 c0_i32_69
  let v142 : Index := Scalar.indexCast v141
  let c35 : Index := 35#32
  ![v142.toNat, 35]
def k0_off37 (i : grid0.Coords) : Fin 2 → Nat :=
  let c2_i32_70 : BitVec 32 := 2#32
  let arg0 : BitVec 32 := BitVec.ofNat 32 (i 0).val
  let v144 : BitVec 32 := Scalar.muli c2_i32_70 arg0
  let c0_i32_71 : BitVec 32 := 0#32
  let v145 : BitVec 32 := Scalar.addi v144 c0_i32_71
  let v146 : Index := Scalar.indexCast v145
  let c36 : Index := 36#32
  ![v146.toNat, 36]
def k0_off38 (i : grid0.Coords) : Fin 2 → Nat :=
  let c2_i32_72 : BitVec 32 := 2#32
  let arg0 : BitVec 32 := BitVec.ofNat 32 (i 0).val
  let v148 : BitVec 32 := Scalar.muli c2_i32_72 arg0
  let c0_i32_73 : BitVec 32 := 0#32
  let v149 : BitVec 32 := Scalar.addi v148 c0_i32_73
  let v150 : Index := Scalar.indexCast v149
  let c37 : Index := 37#32
  ![v150.toNat, 37]
def k0_off39 (i : grid0.Coords) : Fin 2 → Nat :=
  let c2_i32_74 : BitVec 32 := 2#32
  let arg0 : BitVec 32 := BitVec.ofNat 32 (i 0).val
  let v152 : BitVec 32 := Scalar.muli c2_i32_74 arg0
  let c0_i32_75 : BitVec 32 := 0#32
  let v153 : BitVec 32 := Scalar.addi v152 c0_i32_75
  let v154 : Index := Scalar.indexCast v153
  let c38 : Index := 38#32
  ![v154.toNat, 38]
def k0_off40 (i : grid0.Coords) : Fin 2 → Nat :=
  let c2_i32_76 : BitVec 32 := 2#32
  let arg0 : BitVec 32 := BitVec.ofNat 32 (i 0).val
  let v156 : BitVec 32 := Scalar.muli c2_i32_76 arg0
  let c0_i32_77 : BitVec 32 := 0#32
  let v157 : BitVec 32 := Scalar.addi v156 c0_i32_77
  let v158 : Index := Scalar.indexCast v157
  let c39 : Index := 39#32
  ![v158.toNat, 39]
def k0_off41 (v3 : BitVec 32) : Fin 2 → Nat :=
  let v160 : Index := Scalar.indexCast v3
  let c0_78 : Index := 0#32
  ![v160.toNat, 0]

def k0_off42 (v7 : BitVec 32) : Fin 2 → Nat :=
  let v166 : Index := Scalar.indexCast v7
  let c0_81 : Index := 0#32
  ![v166.toNat, 0]

def k0_off43 (v11 : BitVec 32) : Fin 2 → Nat :=
  let v172 : Index := Scalar.indexCast v11
  let c0_84 : Index := 0#32
  ![v172.toNat, 0]

def k0_off44 (v15 : BitVec 32) : Fin 2 → Nat :=
  let v178 : Index := Scalar.indexCast v15
  let c0_87 : Index := 0#32
  ![v178.toNat, 0]

def k0_off45 (v19 : BitVec 32) : Fin 2 → Nat :=
  let v184 : Index := Scalar.indexCast v19
  let c0_90 : Index := 0#32
  ![v184.toNat, 0]

def k0_off46 (v23 : BitVec 32) : Fin 2 → Nat :=
  let v190 : Index := Scalar.indexCast v23
  let c0_93 : Index := 0#32
  ![v190.toNat, 0]

def k0_off47 (v27 : BitVec 32) : Fin 2 → Nat :=
  let v196 : Index := Scalar.indexCast v27
  let c0_96 : Index := 0#32
  ![v196.toNat, 0]

def k0_off48 (v31 : BitVec 32) : Fin 2 → Nat :=
  let v202 : Index := Scalar.indexCast v31
  let c0_99 : Index := 0#32
  ![v202.toNat, 0]

def k0_off49 (v35 : BitVec 32) : Fin 2 → Nat :=
  let v208 : Index := Scalar.indexCast v35
  let c0_102 : Index := 0#32
  ![v208.toNat, 0]

def k0_off50 (v39 : BitVec 32) : Fin 2 → Nat :=
  let v214 : Index := Scalar.indexCast v39
  let c0_105 : Index := 0#32
  ![v214.toNat, 0]

def k0_off51 (v43 : BitVec 32) : Fin 2 → Nat :=
  let v220 : Index := Scalar.indexCast v43
  let c0_108 : Index := 0#32
  ![v220.toNat, 0]

def k0_off52 (v47 : BitVec 32) : Fin 2 → Nat :=
  let v226 : Index := Scalar.indexCast v47
  let c0_111 : Index := 0#32
  ![v226.toNat, 0]

def k0_off53 (v51 : BitVec 32) : Fin 2 → Nat :=
  let v232 : Index := Scalar.indexCast v51
  let c0_114 : Index := 0#32
  ![v232.toNat, 0]

def k0_off54 (v55 : BitVec 32) : Fin 2 → Nat :=
  let v238 : Index := Scalar.indexCast v55
  let c0_117 : Index := 0#32
  ![v238.toNat, 0]

def k0_off55 (v59 : BitVec 32) : Fin 2 → Nat :=
  let v244 : Index := Scalar.indexCast v59
  let c0_120 : Index := 0#32
  ![v244.toNat, 0]

def k0_off56 (v63 : BitVec 32) : Fin 2 → Nat :=
  let v250 : Index := Scalar.indexCast v63
  let c0_123 : Index := 0#32
  ![v250.toNat, 0]

def k0_off57 (v67 : BitVec 32) : Fin 2 → Nat :=
  let v256 : Index := Scalar.indexCast v67
  let c0_126 : Index := 0#32
  ![v256.toNat, 0]

def k0_off58 (v71 : BitVec 32) : Fin 2 → Nat :=
  let v262 : Index := Scalar.indexCast v71
  let c0_129 : Index := 0#32
  ![v262.toNat, 0]

def k0_off59 (v75 : BitVec 32) : Fin 2 → Nat :=
  let v268 : Index := Scalar.indexCast v75
  let c0_132 : Index := 0#32
  ![v268.toNat, 0]

def k0_off60 (v79 : BitVec 32) : Fin 2 → Nat :=
  let v274 : Index := Scalar.indexCast v79
  let c0_135 : Index := 0#32
  ![v274.toNat, 0]

def k0_off61 (v83 : BitVec 32) : Fin 2 → Nat :=
  let v280 : Index := Scalar.indexCast v83
  let c0_138 : Index := 0#32
  ![v280.toNat, 0]

def k0_off62 (v87 : BitVec 32) : Fin 2 → Nat :=
  let v286 : Index := Scalar.indexCast v87
  let c0_141 : Index := 0#32
  ![v286.toNat, 0]

def k0_off63 (v91 : BitVec 32) : Fin 2 → Nat :=
  let v292 : Index := Scalar.indexCast v91
  let c0_144 : Index := 0#32
  ![v292.toNat, 0]

def k0_off64 (v95 : BitVec 32) : Fin 2 → Nat :=
  let v298 : Index := Scalar.indexCast v95
  let c0_147 : Index := 0#32
  ![v298.toNat, 0]

def k0_off65 (v99 : BitVec 32) : Fin 2 → Nat :=
  let v304 : Index := Scalar.indexCast v99
  let c0_150 : Index := 0#32
  ![v304.toNat, 0]

def k0_off66 (v103 : BitVec 32) : Fin 2 → Nat :=
  let v310 : Index := Scalar.indexCast v103
  let c0_153 : Index := 0#32
  ![v310.toNat, 0]

def k0_off67 (v107 : BitVec 32) : Fin 2 → Nat :=
  let v316 : Index := Scalar.indexCast v107
  let c0_156 : Index := 0#32
  ![v316.toNat, 0]

def k0_off68 (v111 : BitVec 32) : Fin 2 → Nat :=
  let v322 : Index := Scalar.indexCast v111
  let c0_159 : Index := 0#32
  ![v322.toNat, 0]

def k0_off69 (v115 : BitVec 32) : Fin 2 → Nat :=
  let v328 : Index := Scalar.indexCast v115
  let c0_162 : Index := 0#32
  ![v328.toNat, 0]

def k0_off70 (v119 : BitVec 32) : Fin 2 → Nat :=
  let v334 : Index := Scalar.indexCast v119
  let c0_165 : Index := 0#32
  ![v334.toNat, 0]

def k0_off71 (v123 : BitVec 32) : Fin 2 → Nat :=
  let v340 : Index := Scalar.indexCast v123
  let c0_168 : Index := 0#32
  ![v340.toNat, 0]

def k0_off72 (v127 : BitVec 32) : Fin 2 → Nat :=
  let v346 : Index := Scalar.indexCast v127
  let c0_171 : Index := 0#32
  ![v346.toNat, 0]

def k0_off73 (v131 : BitVec 32) : Fin 2 → Nat :=
  let v352 : Index := Scalar.indexCast v131
  let c0_174 : Index := 0#32
  ![v352.toNat, 0]

def k0_off74 (v135 : BitVec 32) : Fin 2 → Nat :=
  let v358 : Index := Scalar.indexCast v135
  let c0_177 : Index := 0#32
  ![v358.toNat, 0]

def k0_off75 (v139 : BitVec 32) : Fin 2 → Nat :=
  let v364 : Index := Scalar.indexCast v139
  let c0_180 : Index := 0#32
  ![v364.toNat, 0]

def k0_off76 (v143 : BitVec 32) : Fin 2 → Nat :=
  let v370 : Index := Scalar.indexCast v143
  let c0_183 : Index := 0#32
  ![v370.toNat, 0]

def k0_off77 (v147 : BitVec 32) : Fin 2 → Nat :=
  let v376 : Index := Scalar.indexCast v147
  let c0_186 : Index := 0#32
  ![v376.toNat, 0]

def k0_off78 (v151 : BitVec 32) : Fin 2 → Nat :=
  let v382 : Index := Scalar.indexCast v151
  let c0_189 : Index := 0#32
  ![v382.toNat, 0]

def k0_off79 (v155 : BitVec 32) : Fin 2 → Nat :=
  let v388 : Index := Scalar.indexCast v155
  let c0_192 : Index := 0#32
  ![v388.toNat, 0]

def k0_off80 (v159 : BitVec 32) : Fin 2 → Nat :=
  let v394 : Index := Scalar.indexCast v159
  let c0_195 : Index := 0#32
  ![v394.toNat, 0]

def k0_off81 (i : grid0.Coords) : Fin 2 → Nat :=
  let c2_i32_299 : BitVec 32 := 2#32
  let arg0 : BitVec 32 := BitVec.ofNat 32 (i 0).val
  let v582 : BitVec 32 := Scalar.muli c2_i32_299 arg0
  let c1_i32 : BitVec 32 := 1#32
  let v583 : BitVec 32 := Scalar.addi v582 c1_i32
  let v584 : Index := Scalar.indexCast v583
  let c0_300 : Index := 0#32
  ![v584.toNat, 0]
def k0_off82 (i : grid0.Coords) : Fin 2 → Nat :=
  let c2_i32_301 : BitVec 32 := 2#32
  let arg0 : BitVec 32 := BitVec.ofNat 32 (i 0).val
  let v586 : BitVec 32 := Scalar.muli c2_i32_301 arg0
  let c1_i32_302 : BitVec 32 := 1#32
  let v587 : BitVec 32 := Scalar.addi v586 c1_i32_302
  let v588 : Index := Scalar.indexCast v587
  let c1_303 : Index := 1#32
  ![v588.toNat, 1]
def k0_off83 (i : grid0.Coords) : Fin 2 → Nat :=
  let c2_i32_304 : BitVec 32 := 2#32
  let arg0 : BitVec 32 := BitVec.ofNat 32 (i 0).val
  let v590 : BitVec 32 := Scalar.muli c2_i32_304 arg0
  let c1_i32_305 : BitVec 32 := 1#32
  let v591 : BitVec 32 := Scalar.addi v590 c1_i32_305
  let v592 : Index := Scalar.indexCast v591
  let c2_306 : Index := 2#32
  ![v592.toNat, 2]
def k0_off84 (i : grid0.Coords) : Fin 2 → Nat :=
  let c2_i32_307 : BitVec 32 := 2#32
  let arg0 : BitVec 32 := BitVec.ofNat 32 (i 0).val
  let v594 : BitVec 32 := Scalar.muli c2_i32_307 arg0
  let c1_i32_308 : BitVec 32 := 1#32
  let v595 : BitVec 32 := Scalar.addi v594 c1_i32_308
  let v596 : Index := Scalar.indexCast v595
  let c3_309 : Index := 3#32
  ![v596.toNat, 3]
def k0_off85 (i : grid0.Coords) : Fin 2 → Nat :=
  let c2_i32_310 : BitVec 32 := 2#32
  let arg0 : BitVec 32 := BitVec.ofNat 32 (i 0).val
  let v598 : BitVec 32 := Scalar.muli c2_i32_310 arg0
  let c1_i32_311 : BitVec 32 := 1#32
  let v599 : BitVec 32 := Scalar.addi v598 c1_i32_311
  let v600 : Index := Scalar.indexCast v599
  let c4_312 : Index := 4#32
  ![v600.toNat, 4]
def k0_off86 (i : grid0.Coords) : Fin 2 → Nat :=
  let c2_i32_313 : BitVec 32 := 2#32
  let arg0 : BitVec 32 := BitVec.ofNat 32 (i 0).val
  let v602 : BitVec 32 := Scalar.muli c2_i32_313 arg0
  let c1_i32_314 : BitVec 32 := 1#32
  let v603 : BitVec 32 := Scalar.addi v602 c1_i32_314
  let v604 : Index := Scalar.indexCast v603
  let c5_315 : Index := 5#32
  ![v604.toNat, 5]
def k0_off87 (i : grid0.Coords) : Fin 2 → Nat :=
  let c2_i32_316 : BitVec 32 := 2#32
  let arg0 : BitVec 32 := BitVec.ofNat 32 (i 0).val
  let v606 : BitVec 32 := Scalar.muli c2_i32_316 arg0
  let c1_i32_317 : BitVec 32 := 1#32
  let v607 : BitVec 32 := Scalar.addi v606 c1_i32_317
  let v608 : Index := Scalar.indexCast v607
  let c6_318 : Index := 6#32
  ![v608.toNat, 6]
def k0_off88 (i : grid0.Coords) : Fin 2 → Nat :=
  let c2_i32_319 : BitVec 32 := 2#32
  let arg0 : BitVec 32 := BitVec.ofNat 32 (i 0).val
  let v610 : BitVec 32 := Scalar.muli c2_i32_319 arg0
  let c1_i32_320 : BitVec 32 := 1#32
  let v611 : BitVec 32 := Scalar.addi v610 c1_i32_320
  let v612 : Index := Scalar.indexCast v611
  let c7_321 : Index := 7#32
  ![v612.toNat, 7]
def k0_off89 (i : grid0.Coords) : Fin 2 → Nat :=
  let c2_i32_322 : BitVec 32 := 2#32
  let arg0 : BitVec 32 := BitVec.ofNat 32 (i 0).val
  let v614 : BitVec 32 := Scalar.muli c2_i32_322 arg0
  let c1_i32_323 : BitVec 32 := 1#32
  let v615 : BitVec 32 := Scalar.addi v614 c1_i32_323
  let v616 : Index := Scalar.indexCast v615
  let c8_324 : Index := 8#32
  ![v616.toNat, 8]
def k0_off90 (i : grid0.Coords) : Fin 2 → Nat :=
  let c2_i32_325 : BitVec 32 := 2#32
  let arg0 : BitVec 32 := BitVec.ofNat 32 (i 0).val
  let v618 : BitVec 32 := Scalar.muli c2_i32_325 arg0
  let c1_i32_326 : BitVec 32 := 1#32
  let v619 : BitVec 32 := Scalar.addi v618 c1_i32_326
  let v620 : Index := Scalar.indexCast v619
  let c9_327 : Index := 9#32
  ![v620.toNat, 9]
def k0_off91 (i : grid0.Coords) : Fin 2 → Nat :=
  let c2_i32_328 : BitVec 32 := 2#32
  let arg0 : BitVec 32 := BitVec.ofNat 32 (i 0).val
  let v622 : BitVec 32 := Scalar.muli c2_i32_328 arg0
  let c1_i32_329 : BitVec 32 := 1#32
  let v623 : BitVec 32 := Scalar.addi v622 c1_i32_329
  let v624 : Index := Scalar.indexCast v623
  let c10_330 : Index := 10#32
  ![v624.toNat, 10]
def k0_off92 (i : grid0.Coords) : Fin 2 → Nat :=
  let c2_i32_331 : BitVec 32 := 2#32
  let arg0 : BitVec 32 := BitVec.ofNat 32 (i 0).val
  let v626 : BitVec 32 := Scalar.muli c2_i32_331 arg0
  let c1_i32_332 : BitVec 32 := 1#32
  let v627 : BitVec 32 := Scalar.addi v626 c1_i32_332
  let v628 : Index := Scalar.indexCast v627
  let c11_333 : Index := 11#32
  ![v628.toNat, 11]
def k0_off93 (i : grid0.Coords) : Fin 2 → Nat :=
  let c2_i32_334 : BitVec 32 := 2#32
  let arg0 : BitVec 32 := BitVec.ofNat 32 (i 0).val
  let v630 : BitVec 32 := Scalar.muli c2_i32_334 arg0
  let c1_i32_335 : BitVec 32 := 1#32
  let v631 : BitVec 32 := Scalar.addi v630 c1_i32_335
  let v632 : Index := Scalar.indexCast v631
  let c12_336 : Index := 12#32
  ![v632.toNat, 12]
def k0_off94 (i : grid0.Coords) : Fin 2 → Nat :=
  let c2_i32_337 : BitVec 32 := 2#32
  let arg0 : BitVec 32 := BitVec.ofNat 32 (i 0).val
  let v634 : BitVec 32 := Scalar.muli c2_i32_337 arg0
  let c1_i32_338 : BitVec 32 := 1#32
  let v635 : BitVec 32 := Scalar.addi v634 c1_i32_338
  let v636 : Index := Scalar.indexCast v635
  let c13_339 : Index := 13#32
  ![v636.toNat, 13]
def k0_off95 (i : grid0.Coords) : Fin 2 → Nat :=
  let c2_i32_340 : BitVec 32 := 2#32
  let arg0 : BitVec 32 := BitVec.ofNat 32 (i 0).val
  let v638 : BitVec 32 := Scalar.muli c2_i32_340 arg0
  let c1_i32_341 : BitVec 32 := 1#32
  let v639 : BitVec 32 := Scalar.addi v638 c1_i32_341
  let v640 : Index := Scalar.indexCast v639
  let c14_342 : Index := 14#32
  ![v640.toNat, 14]
def k0_off96 (i : grid0.Coords) : Fin 2 → Nat :=
  let c2_i32_343 : BitVec 32 := 2#32
  let arg0 : BitVec 32 := BitVec.ofNat 32 (i 0).val
  let v642 : BitVec 32 := Scalar.muli c2_i32_343 arg0
  let c1_i32_344 : BitVec 32 := 1#32
  let v643 : BitVec 32 := Scalar.addi v642 c1_i32_344
  let v644 : Index := Scalar.indexCast v643
  let c15_345 : Index := 15#32
  ![v644.toNat, 15]
def k0_off97 (i : grid0.Coords) : Fin 2 → Nat :=
  let c2_i32_346 : BitVec 32 := 2#32
  let arg0 : BitVec 32 := BitVec.ofNat 32 (i 0).val
  let v646 : BitVec 32 := Scalar.muli c2_i32_346 arg0
  let c1_i32_347 : BitVec 32 := 1#32
  let v647 : BitVec 32 := Scalar.addi v646 c1_i32_347
  let v648 : Index := Scalar.indexCast v647
  let c16_348 : Index := 16#32
  ![v648.toNat, 16]
def k0_off98 (i : grid0.Coords) : Fin 2 → Nat :=
  let c2_i32_349 : BitVec 32 := 2#32
  let arg0 : BitVec 32 := BitVec.ofNat 32 (i 0).val
  let v650 : BitVec 32 := Scalar.muli c2_i32_349 arg0
  let c1_i32_350 : BitVec 32 := 1#32
  let v651 : BitVec 32 := Scalar.addi v650 c1_i32_350
  let v652 : Index := Scalar.indexCast v651
  let c17_351 : Index := 17#32
  ![v652.toNat, 17]
def k0_off99 (i : grid0.Coords) : Fin 2 → Nat :=
  let c2_i32_352 : BitVec 32 := 2#32
  let arg0 : BitVec 32 := BitVec.ofNat 32 (i 0).val
  let v654 : BitVec 32 := Scalar.muli c2_i32_352 arg0
  let c1_i32_353 : BitVec 32 := 1#32
  let v655 : BitVec 32 := Scalar.addi v654 c1_i32_353
  let v656 : Index := Scalar.indexCast v655
  let c18_354 : Index := 18#32
  ![v656.toNat, 18]
def k0_off100 (i : grid0.Coords) : Fin 2 → Nat :=
  let c2_i32_355 : BitVec 32 := 2#32
  let arg0 : BitVec 32 := BitVec.ofNat 32 (i 0).val
  let v658 : BitVec 32 := Scalar.muli c2_i32_355 arg0
  let c1_i32_356 : BitVec 32 := 1#32
  let v659 : BitVec 32 := Scalar.addi v658 c1_i32_356
  let v660 : Index := Scalar.indexCast v659
  let c19_357 : Index := 19#32
  ![v660.toNat, 19]
def k0_off101 (i : grid0.Coords) : Fin 2 → Nat :=
  let c2_i32_358 : BitVec 32 := 2#32
  let arg0 : BitVec 32 := BitVec.ofNat 32 (i 0).val
  let v662 : BitVec 32 := Scalar.muli c2_i32_358 arg0
  let c1_i32_359 : BitVec 32 := 1#32
  let v663 : BitVec 32 := Scalar.addi v662 c1_i32_359
  let v664 : Index := Scalar.indexCast v663
  let c20_360 : Index := 20#32
  ![v664.toNat, 20]
def k0_off102 (i : grid0.Coords) : Fin 2 → Nat :=
  let c2_i32_361 : BitVec 32 := 2#32
  let arg0 : BitVec 32 := BitVec.ofNat 32 (i 0).val
  let v666 : BitVec 32 := Scalar.muli c2_i32_361 arg0
  let c1_i32_362 : BitVec 32 := 1#32
  let v667 : BitVec 32 := Scalar.addi v666 c1_i32_362
  let v668 : Index := Scalar.indexCast v667
  let c21_363 : Index := 21#32
  ![v668.toNat, 21]
def k0_off103 (i : grid0.Coords) : Fin 2 → Nat :=
  let c2_i32_364 : BitVec 32 := 2#32
  let arg0 : BitVec 32 := BitVec.ofNat 32 (i 0).val
  let v670 : BitVec 32 := Scalar.muli c2_i32_364 arg0
  let c1_i32_365 : BitVec 32 := 1#32
  let v671 : BitVec 32 := Scalar.addi v670 c1_i32_365
  let v672 : Index := Scalar.indexCast v671
  let c22_366 : Index := 22#32
  ![v672.toNat, 22]
def k0_off104 (i : grid0.Coords) : Fin 2 → Nat :=
  let c2_i32_367 : BitVec 32 := 2#32
  let arg0 : BitVec 32 := BitVec.ofNat 32 (i 0).val
  let v674 : BitVec 32 := Scalar.muli c2_i32_367 arg0
  let c1_i32_368 : BitVec 32 := 1#32
  let v675 : BitVec 32 := Scalar.addi v674 c1_i32_368
  let v676 : Index := Scalar.indexCast v675
  let c23_369 : Index := 23#32
  ![v676.toNat, 23]
def k0_off105 (i : grid0.Coords) : Fin 2 → Nat :=
  let c2_i32_370 : BitVec 32 := 2#32
  let arg0 : BitVec 32 := BitVec.ofNat 32 (i 0).val
  let v678 : BitVec 32 := Scalar.muli c2_i32_370 arg0
  let c1_i32_371 : BitVec 32 := 1#32
  let v679 : BitVec 32 := Scalar.addi v678 c1_i32_371
  let v680 : Index := Scalar.indexCast v679
  let c24_372 : Index := 24#32
  ![v680.toNat, 24]
def k0_off106 (i : grid0.Coords) : Fin 2 → Nat :=
  let c2_i32_373 : BitVec 32 := 2#32
  let arg0 : BitVec 32 := BitVec.ofNat 32 (i 0).val
  let v682 : BitVec 32 := Scalar.muli c2_i32_373 arg0
  let c1_i32_374 : BitVec 32 := 1#32
  let v683 : BitVec 32 := Scalar.addi v682 c1_i32_374
  let v684 : Index := Scalar.indexCast v683
  let c25_375 : Index := 25#32
  ![v684.toNat, 25]
def k0_off107 (i : grid0.Coords) : Fin 2 → Nat :=
  let c2_i32_376 : BitVec 32 := 2#32
  let arg0 : BitVec 32 := BitVec.ofNat 32 (i 0).val
  let v686 : BitVec 32 := Scalar.muli c2_i32_376 arg0
  let c1_i32_377 : BitVec 32 := 1#32
  let v687 : BitVec 32 := Scalar.addi v686 c1_i32_377
  let v688 : Index := Scalar.indexCast v687
  let c26_378 : Index := 26#32
  ![v688.toNat, 26]
def k0_off108 (i : grid0.Coords) : Fin 2 → Nat :=
  let c2_i32_379 : BitVec 32 := 2#32
  let arg0 : BitVec 32 := BitVec.ofNat 32 (i 0).val
  let v690 : BitVec 32 := Scalar.muli c2_i32_379 arg0
  let c1_i32_380 : BitVec 32 := 1#32
  let v691 : BitVec 32 := Scalar.addi v690 c1_i32_380
  let v692 : Index := Scalar.indexCast v691
  let c27_381 : Index := 27#32
  ![v692.toNat, 27]
def k0_off109 (i : grid0.Coords) : Fin 2 → Nat :=
  let c2_i32_382 : BitVec 32 := 2#32
  let arg0 : BitVec 32 := BitVec.ofNat 32 (i 0).val
  let v694 : BitVec 32 := Scalar.muli c2_i32_382 arg0
  let c1_i32_383 : BitVec 32 := 1#32
  let v695 : BitVec 32 := Scalar.addi v694 c1_i32_383
  let v696 : Index := Scalar.indexCast v695
  let c28_384 : Index := 28#32
  ![v696.toNat, 28]
def k0_off110 (i : grid0.Coords) : Fin 2 → Nat :=
  let c2_i32_385 : BitVec 32 := 2#32
  let arg0 : BitVec 32 := BitVec.ofNat 32 (i 0).val
  let v698 : BitVec 32 := Scalar.muli c2_i32_385 arg0
  let c1_i32_386 : BitVec 32 := 1#32
  let v699 : BitVec 32 := Scalar.addi v698 c1_i32_386
  let v700 : Index := Scalar.indexCast v699
  let c29_387 : Index := 29#32
  ![v700.toNat, 29]
def k0_off111 (i : grid0.Coords) : Fin 2 → Nat :=
  let c2_i32_388 : BitVec 32 := 2#32
  let arg0 : BitVec 32 := BitVec.ofNat 32 (i 0).val
  let v702 : BitVec 32 := Scalar.muli c2_i32_388 arg0
  let c1_i32_389 : BitVec 32 := 1#32
  let v703 : BitVec 32 := Scalar.addi v702 c1_i32_389
  let v704 : Index := Scalar.indexCast v703
  let c30_390 : Index := 30#32
  ![v704.toNat, 30]
def k0_off112 (i : grid0.Coords) : Fin 2 → Nat :=
  let c2_i32_391 : BitVec 32 := 2#32
  let arg0 : BitVec 32 := BitVec.ofNat 32 (i 0).val
  let v706 : BitVec 32 := Scalar.muli c2_i32_391 arg0
  let c1_i32_392 : BitVec 32 := 1#32
  let v707 : BitVec 32 := Scalar.addi v706 c1_i32_392
  let v708 : Index := Scalar.indexCast v707
  let c31_393 : Index := 31#32
  ![v708.toNat, 31]
def k0_off113 (i : grid0.Coords) : Fin 2 → Nat :=
  let c2_i32_394 : BitVec 32 := 2#32
  let arg0 : BitVec 32 := BitVec.ofNat 32 (i 0).val
  let v710 : BitVec 32 := Scalar.muli c2_i32_394 arg0
  let c1_i32_395 : BitVec 32 := 1#32
  let v711 : BitVec 32 := Scalar.addi v710 c1_i32_395
  let v712 : Index := Scalar.indexCast v711
  let c32_396 : Index := 32#32
  ![v712.toNat, 32]
def k0_off114 (i : grid0.Coords) : Fin 2 → Nat :=
  let c2_i32_397 : BitVec 32 := 2#32
  let arg0 : BitVec 32 := BitVec.ofNat 32 (i 0).val
  let v714 : BitVec 32 := Scalar.muli c2_i32_397 arg0
  let c1_i32_398 : BitVec 32 := 1#32
  let v715 : BitVec 32 := Scalar.addi v714 c1_i32_398
  let v716 : Index := Scalar.indexCast v715
  let c33_399 : Index := 33#32
  ![v716.toNat, 33]
def k0_off115 (i : grid0.Coords) : Fin 2 → Nat :=
  let c2_i32_400 : BitVec 32 := 2#32
  let arg0 : BitVec 32 := BitVec.ofNat 32 (i 0).val
  let v718 : BitVec 32 := Scalar.muli c2_i32_400 arg0
  let c1_i32_401 : BitVec 32 := 1#32
  let v719 : BitVec 32 := Scalar.addi v718 c1_i32_401
  let v720 : Index := Scalar.indexCast v719
  let c34_402 : Index := 34#32
  ![v720.toNat, 34]
def k0_off116 (i : grid0.Coords) : Fin 2 → Nat :=
  let c2_i32_403 : BitVec 32 := 2#32
  let arg0 : BitVec 32 := BitVec.ofNat 32 (i 0).val
  let v722 : BitVec 32 := Scalar.muli c2_i32_403 arg0
  let c1_i32_404 : BitVec 32 := 1#32
  let v723 : BitVec 32 := Scalar.addi v722 c1_i32_404
  let v724 : Index := Scalar.indexCast v723
  let c35_405 : Index := 35#32
  ![v724.toNat, 35]
def k0_off117 (i : grid0.Coords) : Fin 2 → Nat :=
  let c2_i32_406 : BitVec 32 := 2#32
  let arg0 : BitVec 32 := BitVec.ofNat 32 (i 0).val
  let v726 : BitVec 32 := Scalar.muli c2_i32_406 arg0
  let c1_i32_407 : BitVec 32 := 1#32
  let v727 : BitVec 32 := Scalar.addi v726 c1_i32_407
  let v728 : Index := Scalar.indexCast v727
  let c36_408 : Index := 36#32
  ![v728.toNat, 36]
def k0_off118 (i : grid0.Coords) : Fin 2 → Nat :=
  let c2_i32_409 : BitVec 32 := 2#32
  let arg0 : BitVec 32 := BitVec.ofNat 32 (i 0).val
  let v730 : BitVec 32 := Scalar.muli c2_i32_409 arg0
  let c1_i32_410 : BitVec 32 := 1#32
  let v731 : BitVec 32 := Scalar.addi v730 c1_i32_410
  let v732 : Index := Scalar.indexCast v731
  let c37_411 : Index := 37#32
  ![v732.toNat, 37]
def k0_off119 (i : grid0.Coords) : Fin 2 → Nat :=
  let c2_i32_412 : BitVec 32 := 2#32
  let arg0 : BitVec 32 := BitVec.ofNat 32 (i 0).val
  let v734 : BitVec 32 := Scalar.muli c2_i32_412 arg0
  let c1_i32_413 : BitVec 32 := 1#32
  let v735 : BitVec 32 := Scalar.addi v734 c1_i32_413
  let v736 : Index := Scalar.indexCast v735
  let c38_414 : Index := 38#32
  ![v736.toNat, 38]
def k0_off120 (i : grid0.Coords) : Fin 2 → Nat :=
  let c2_i32_415 : BitVec 32 := 2#32
  let arg0 : BitVec 32 := BitVec.ofNat 32 (i 0).val
  let v738 : BitVec 32 := Scalar.muli c2_i32_415 arg0
  let c1_i32_416 : BitVec 32 := 1#32
  let v739 : BitVec 32 := Scalar.addi v738 c1_i32_416
  let v740 : Index := Scalar.indexCast v739
  let c39_417 : Index := 39#32
  ![v740.toNat, 39]
def k0_off121 (v585 : BitVec 32) : Fin 2 → Nat :=
  let v742 : Index := Scalar.indexCast v585
  let c64 : Index := 64#32
  ![v742.toNat, 64]

def k0_off122 (v589 : BitVec 32) : Fin 2 → Nat :=
  let v748 : Index := Scalar.indexCast v589
  let c64_420 : Index := 64#32
  ![v748.toNat, 64]

def k0_off123 (v593 : BitVec 32) : Fin 2 → Nat :=
  let v754 : Index := Scalar.indexCast v593
  let c64_423 : Index := 64#32
  ![v754.toNat, 64]

def k0_off124 (v597 : BitVec 32) : Fin 2 → Nat :=
  let v760 : Index := Scalar.indexCast v597
  let c64_426 : Index := 64#32
  ![v760.toNat, 64]

def k0_off125 (v601 : BitVec 32) : Fin 2 → Nat :=
  let v766 : Index := Scalar.indexCast v601
  let c64_429 : Index := 64#32
  ![v766.toNat, 64]

def k0_off126 (v605 : BitVec 32) : Fin 2 → Nat :=
  let v772 : Index := Scalar.indexCast v605
  let c64_432 : Index := 64#32
  ![v772.toNat, 64]

def k0_off127 (v609 : BitVec 32) : Fin 2 → Nat :=
  let v778 : Index := Scalar.indexCast v609
  let c64_435 : Index := 64#32
  ![v778.toNat, 64]

def k0_off128 (v613 : BitVec 32) : Fin 2 → Nat :=
  let v784 : Index := Scalar.indexCast v613
  let c64_438 : Index := 64#32
  ![v784.toNat, 64]

def k0_off129 (v617 : BitVec 32) : Fin 2 → Nat :=
  let v790 : Index := Scalar.indexCast v617
  let c64_441 : Index := 64#32
  ![v790.toNat, 64]

def k0_off130 (v621 : BitVec 32) : Fin 2 → Nat :=
  let v796 : Index := Scalar.indexCast v621
  let c64_444 : Index := 64#32
  ![v796.toNat, 64]

def k0_off131 (v625 : BitVec 32) : Fin 2 → Nat :=
  let v802 : Index := Scalar.indexCast v625
  let c64_447 : Index := 64#32
  ![v802.toNat, 64]

def k0_off132 (v629 : BitVec 32) : Fin 2 → Nat :=
  let v808 : Index := Scalar.indexCast v629
  let c64_450 : Index := 64#32
  ![v808.toNat, 64]

def k0_off133 (v633 : BitVec 32) : Fin 2 → Nat :=
  let v814 : Index := Scalar.indexCast v633
  let c64_453 : Index := 64#32
  ![v814.toNat, 64]

def k0_off134 (v637 : BitVec 32) : Fin 2 → Nat :=
  let v820 : Index := Scalar.indexCast v637
  let c64_456 : Index := 64#32
  ![v820.toNat, 64]

def k0_off135 (v641 : BitVec 32) : Fin 2 → Nat :=
  let v826 : Index := Scalar.indexCast v641
  let c64_459 : Index := 64#32
  ![v826.toNat, 64]

def k0_off136 (v645 : BitVec 32) : Fin 2 → Nat :=
  let v832 : Index := Scalar.indexCast v645
  let c64_462 : Index := 64#32
  ![v832.toNat, 64]

def k0_off137 (v649 : BitVec 32) : Fin 2 → Nat :=
  let v838 : Index := Scalar.indexCast v649
  let c64_465 : Index := 64#32
  ![v838.toNat, 64]

def k0_off138 (v653 : BitVec 32) : Fin 2 → Nat :=
  let v844 : Index := Scalar.indexCast v653
  let c64_468 : Index := 64#32
  ![v844.toNat, 64]

def k0_off139 (v657 : BitVec 32) : Fin 2 → Nat :=
  let v850 : Index := Scalar.indexCast v657
  let c64_471 : Index := 64#32
  ![v850.toNat, 64]

def k0_off140 (v661 : BitVec 32) : Fin 2 → Nat :=
  let v856 : Index := Scalar.indexCast v661
  let c64_474 : Index := 64#32
  ![v856.toNat, 64]

def k0_off141 (v665 : BitVec 32) : Fin 2 → Nat :=
  let v862 : Index := Scalar.indexCast v665
  let c64_477 : Index := 64#32
  ![v862.toNat, 64]

def k0_off142 (v669 : BitVec 32) : Fin 2 → Nat :=
  let v868 : Index := Scalar.indexCast v669
  let c64_480 : Index := 64#32
  ![v868.toNat, 64]

def k0_off143 (v673 : BitVec 32) : Fin 2 → Nat :=
  let v874 : Index := Scalar.indexCast v673
  let c64_483 : Index := 64#32
  ![v874.toNat, 64]

def k0_off144 (v677 : BitVec 32) : Fin 2 → Nat :=
  let v880 : Index := Scalar.indexCast v677
  let c64_486 : Index := 64#32
  ![v880.toNat, 64]

def k0_off145 (v681 : BitVec 32) : Fin 2 → Nat :=
  let v886 : Index := Scalar.indexCast v681
  let c64_489 : Index := 64#32
  ![v886.toNat, 64]

def k0_off146 (v685 : BitVec 32) : Fin 2 → Nat :=
  let v892 : Index := Scalar.indexCast v685
  let c64_492 : Index := 64#32
  ![v892.toNat, 64]

def k0_off147 (v689 : BitVec 32) : Fin 2 → Nat :=
  let v898 : Index := Scalar.indexCast v689
  let c64_495 : Index := 64#32
  ![v898.toNat, 64]

def k0_off148 (v693 : BitVec 32) : Fin 2 → Nat :=
  let v904 : Index := Scalar.indexCast v693
  let c64_498 : Index := 64#32
  ![v904.toNat, 64]

def k0_off149 (v697 : BitVec 32) : Fin 2 → Nat :=
  let v910 : Index := Scalar.indexCast v697
  let c64_501 : Index := 64#32
  ![v910.toNat, 64]

def k0_off150 (v701 : BitVec 32) : Fin 2 → Nat :=
  let v916 : Index := Scalar.indexCast v701
  let c64_504 : Index := 64#32
  ![v916.toNat, 64]

def k0_off151 (v705 : BitVec 32) : Fin 2 → Nat :=
  let v922 : Index := Scalar.indexCast v705
  let c64_507 : Index := 64#32
  ![v922.toNat, 64]

def k0_off152 (v709 : BitVec 32) : Fin 2 → Nat :=
  let v928 : Index := Scalar.indexCast v709
  let c64_510 : Index := 64#32
  ![v928.toNat, 64]

def k0_off153 (v713 : BitVec 32) : Fin 2 → Nat :=
  let v934 : Index := Scalar.indexCast v713
  let c64_513 : Index := 64#32
  ![v934.toNat, 64]

def k0_off154 (v717 : BitVec 32) : Fin 2 → Nat :=
  let v940 : Index := Scalar.indexCast v717
  let c64_516 : Index := 64#32
  ![v940.toNat, 64]

def k0_off155 (v721 : BitVec 32) : Fin 2 → Nat :=
  let v946 : Index := Scalar.indexCast v721
  let c64_519 : Index := 64#32
  ![v946.toNat, 64]

def k0_off156 (v725 : BitVec 32) : Fin 2 → Nat :=
  let v952 : Index := Scalar.indexCast v725
  let c64_522 : Index := 64#32
  ![v952.toNat, 64]

def k0_off157 (v729 : BitVec 32) : Fin 2 → Nat :=
  let v958 : Index := Scalar.indexCast v729
  let c64_525 : Index := 64#32
  ![v958.toNat, 64]

def k0_off158 (v733 : BitVec 32) : Fin 2 → Nat :=
  let v964 : Index := Scalar.indexCast v733
  let c64_528 : Index := 64#32
  ![v964.toNat, 64]

def k0_off159 (v737 : BitVec 32) : Fin 2 → Nat :=
  let v970 : Index := Scalar.indexCast v737
  let c64_531 : Index := 64#32
  ![v970.toNat, 64]

def k0_off160 (v741 : BitVec 32) : Fin 2 → Nat :=
  let v976 : Index := Scalar.indexCast v741
  let c64_534 : Index := 64#32
  ![v976.toNat, 64]

def k0_off161 (v3 : BitVec 32) : Fin 2 → Nat :=
  let v1231 : Index := Scalar.indexCast v3
  let c0_688 : Index := 0#32
  ![v1231.toNat, 0]

def k0_chk1 (v3 : BitVec 32) : Prop :=
  (∀ a, (k0_off41 v3) a + S1x64.size a ≤ S2048x128.size a) ∧
  (∀ a, (k0_off161 v3) a + S1x128.size a ≤ S2048x128.size a)
theorem k0_off41_inb : ∀ (v3 : BitVec 32) (k0_hw1 : k0_chk1 v3), ∀ a, (k0_off41 v3) a + S1x64.size a ≤ S2048x128.size a := fun v3 k0_hw1 => k0_hw1.1
theorem k0_off161_inb : ∀ (v3 : BitVec 32) (k0_hw1 : k0_chk1 v3), ∀ a, (k0_off161 v3) a + S1x128.size a ≤ S2048x128.size a := fun v3 k0_hw1 => k0_hw1.2

def k0_off162 (v7 : BitVec 32) : Fin 2 → Nat :=
  let v1239 : Index := Scalar.indexCast v7
  let c0_690 : Index := 0#32
  ![v1239.toNat, 0]

def k0_chk2 (v7 : BitVec 32) : Prop :=
  (∀ a, (k0_off42 v7) a + S1x64.size a ≤ S2048x128.size a) ∧
  (∀ a, (k0_off162 v7) a + S1x128.size a ≤ S2048x128.size a)
theorem k0_off42_inb : ∀ (v7 : BitVec 32) (k0_hw2 : k0_chk2 v7), ∀ a, (k0_off42 v7) a + S1x64.size a ≤ S2048x128.size a := fun v7 k0_hw2 => k0_hw2.1
theorem k0_off162_inb : ∀ (v7 : BitVec 32) (k0_hw2 : k0_chk2 v7), ∀ a, (k0_off162 v7) a + S1x128.size a ≤ S2048x128.size a := fun v7 k0_hw2 => k0_hw2.2

def k0_off163 (v11 : BitVec 32) : Fin 2 → Nat :=
  let v1247 : Index := Scalar.indexCast v11
  let c0_692 : Index := 0#32
  ![v1247.toNat, 0]

def k0_chk3 (v11 : BitVec 32) : Prop :=
  (∀ a, (k0_off43 v11) a + S1x64.size a ≤ S2048x128.size a) ∧
  (∀ a, (k0_off163 v11) a + S1x128.size a ≤ S2048x128.size a)
theorem k0_off43_inb : ∀ (v11 : BitVec 32) (k0_hw3 : k0_chk3 v11), ∀ a, (k0_off43 v11) a + S1x64.size a ≤ S2048x128.size a := fun v11 k0_hw3 => k0_hw3.1
theorem k0_off163_inb : ∀ (v11 : BitVec 32) (k0_hw3 : k0_chk3 v11), ∀ a, (k0_off163 v11) a + S1x128.size a ≤ S2048x128.size a := fun v11 k0_hw3 => k0_hw3.2

def k0_off164 (v15 : BitVec 32) : Fin 2 → Nat :=
  let v1255 : Index := Scalar.indexCast v15
  let c0_694 : Index := 0#32
  ![v1255.toNat, 0]

def k0_chk4 (v15 : BitVec 32) : Prop :=
  (∀ a, (k0_off44 v15) a + S1x64.size a ≤ S2048x128.size a) ∧
  (∀ a, (k0_off164 v15) a + S1x128.size a ≤ S2048x128.size a)
theorem k0_off44_inb : ∀ (v15 : BitVec 32) (k0_hw4 : k0_chk4 v15), ∀ a, (k0_off44 v15) a + S1x64.size a ≤ S2048x128.size a := fun v15 k0_hw4 => k0_hw4.1
theorem k0_off164_inb : ∀ (v15 : BitVec 32) (k0_hw4 : k0_chk4 v15), ∀ a, (k0_off164 v15) a + S1x128.size a ≤ S2048x128.size a := fun v15 k0_hw4 => k0_hw4.2

def k0_off165 (v19 : BitVec 32) : Fin 2 → Nat :=
  let v1263 : Index := Scalar.indexCast v19
  let c0_696 : Index := 0#32
  ![v1263.toNat, 0]

def k0_chk5 (v19 : BitVec 32) : Prop :=
  (∀ a, (k0_off45 v19) a + S1x64.size a ≤ S2048x128.size a) ∧
  (∀ a, (k0_off165 v19) a + S1x128.size a ≤ S2048x128.size a)
theorem k0_off45_inb : ∀ (v19 : BitVec 32) (k0_hw5 : k0_chk5 v19), ∀ a, (k0_off45 v19) a + S1x64.size a ≤ S2048x128.size a := fun v19 k0_hw5 => k0_hw5.1
theorem k0_off165_inb : ∀ (v19 : BitVec 32) (k0_hw5 : k0_chk5 v19), ∀ a, (k0_off165 v19) a + S1x128.size a ≤ S2048x128.size a := fun v19 k0_hw5 => k0_hw5.2

def k0_off166 (v23 : BitVec 32) : Fin 2 → Nat :=
  let v1271 : Index := Scalar.indexCast v23
  let c0_698 : Index := 0#32
  ![v1271.toNat, 0]

def k0_chk6 (v23 : BitVec 32) : Prop :=
  (∀ a, (k0_off46 v23) a + S1x64.size a ≤ S2048x128.size a) ∧
  (∀ a, (k0_off166 v23) a + S1x128.size a ≤ S2048x128.size a)
theorem k0_off46_inb : ∀ (v23 : BitVec 32) (k0_hw6 : k0_chk6 v23), ∀ a, (k0_off46 v23) a + S1x64.size a ≤ S2048x128.size a := fun v23 k0_hw6 => k0_hw6.1
theorem k0_off166_inb : ∀ (v23 : BitVec 32) (k0_hw6 : k0_chk6 v23), ∀ a, (k0_off166 v23) a + S1x128.size a ≤ S2048x128.size a := fun v23 k0_hw6 => k0_hw6.2

def k0_off167 (v27 : BitVec 32) : Fin 2 → Nat :=
  let v1279 : Index := Scalar.indexCast v27
  let c0_700 : Index := 0#32
  ![v1279.toNat, 0]

def k0_chk7 (v27 : BitVec 32) : Prop :=
  (∀ a, (k0_off47 v27) a + S1x64.size a ≤ S2048x128.size a) ∧
  (∀ a, (k0_off167 v27) a + S1x128.size a ≤ S2048x128.size a)
theorem k0_off47_inb : ∀ (v27 : BitVec 32) (k0_hw7 : k0_chk7 v27), ∀ a, (k0_off47 v27) a + S1x64.size a ≤ S2048x128.size a := fun v27 k0_hw7 => k0_hw7.1
theorem k0_off167_inb : ∀ (v27 : BitVec 32) (k0_hw7 : k0_chk7 v27), ∀ a, (k0_off167 v27) a + S1x128.size a ≤ S2048x128.size a := fun v27 k0_hw7 => k0_hw7.2

def k0_off168 (v31 : BitVec 32) : Fin 2 → Nat :=
  let v1287 : Index := Scalar.indexCast v31
  let c0_702 : Index := 0#32
  ![v1287.toNat, 0]

def k0_chk8 (v31 : BitVec 32) : Prop :=
  (∀ a, (k0_off48 v31) a + S1x64.size a ≤ S2048x128.size a) ∧
  (∀ a, (k0_off168 v31) a + S1x128.size a ≤ S2048x128.size a)
theorem k0_off48_inb : ∀ (v31 : BitVec 32) (k0_hw8 : k0_chk8 v31), ∀ a, (k0_off48 v31) a + S1x64.size a ≤ S2048x128.size a := fun v31 k0_hw8 => k0_hw8.1
theorem k0_off168_inb : ∀ (v31 : BitVec 32) (k0_hw8 : k0_chk8 v31), ∀ a, (k0_off168 v31) a + S1x128.size a ≤ S2048x128.size a := fun v31 k0_hw8 => k0_hw8.2

def k0_off169 (v35 : BitVec 32) : Fin 2 → Nat :=
  let v1295 : Index := Scalar.indexCast v35
  let c0_704 : Index := 0#32
  ![v1295.toNat, 0]

def k0_chk9 (v35 : BitVec 32) : Prop :=
  (∀ a, (k0_off49 v35) a + S1x64.size a ≤ S2048x128.size a) ∧
  (∀ a, (k0_off169 v35) a + S1x128.size a ≤ S2048x128.size a)
theorem k0_off49_inb : ∀ (v35 : BitVec 32) (k0_hw9 : k0_chk9 v35), ∀ a, (k0_off49 v35) a + S1x64.size a ≤ S2048x128.size a := fun v35 k0_hw9 => k0_hw9.1
theorem k0_off169_inb : ∀ (v35 : BitVec 32) (k0_hw9 : k0_chk9 v35), ∀ a, (k0_off169 v35) a + S1x128.size a ≤ S2048x128.size a := fun v35 k0_hw9 => k0_hw9.2

def k0_off170 (v39 : BitVec 32) : Fin 2 → Nat :=
  let v1303 : Index := Scalar.indexCast v39
  let c0_706 : Index := 0#32
  ![v1303.toNat, 0]

def k0_chk10 (v39 : BitVec 32) : Prop :=
  (∀ a, (k0_off50 v39) a + S1x64.size a ≤ S2048x128.size a) ∧
  (∀ a, (k0_off170 v39) a + S1x128.size a ≤ S2048x128.size a)
theorem k0_off50_inb : ∀ (v39 : BitVec 32) (k0_hw10 : k0_chk10 v39), ∀ a, (k0_off50 v39) a + S1x64.size a ≤ S2048x128.size a := fun v39 k0_hw10 => k0_hw10.1
theorem k0_off170_inb : ∀ (v39 : BitVec 32) (k0_hw10 : k0_chk10 v39), ∀ a, (k0_off170 v39) a + S1x128.size a ≤ S2048x128.size a := fun v39 k0_hw10 => k0_hw10.2

def k0_off171 (v43 : BitVec 32) : Fin 2 → Nat :=
  let v1311 : Index := Scalar.indexCast v43
  let c0_708 : Index := 0#32
  ![v1311.toNat, 0]

def k0_chk11 (v43 : BitVec 32) : Prop :=
  (∀ a, (k0_off51 v43) a + S1x64.size a ≤ S2048x128.size a) ∧
  (∀ a, (k0_off171 v43) a + S1x128.size a ≤ S2048x128.size a)
theorem k0_off51_inb : ∀ (v43 : BitVec 32) (k0_hw11 : k0_chk11 v43), ∀ a, (k0_off51 v43) a + S1x64.size a ≤ S2048x128.size a := fun v43 k0_hw11 => k0_hw11.1
theorem k0_off171_inb : ∀ (v43 : BitVec 32) (k0_hw11 : k0_chk11 v43), ∀ a, (k0_off171 v43) a + S1x128.size a ≤ S2048x128.size a := fun v43 k0_hw11 => k0_hw11.2

def k0_off172 (v47 : BitVec 32) : Fin 2 → Nat :=
  let v1319 : Index := Scalar.indexCast v47
  let c0_710 : Index := 0#32
  ![v1319.toNat, 0]

def k0_chk12 (v47 : BitVec 32) : Prop :=
  (∀ a, (k0_off52 v47) a + S1x64.size a ≤ S2048x128.size a) ∧
  (∀ a, (k0_off172 v47) a + S1x128.size a ≤ S2048x128.size a)
theorem k0_off52_inb : ∀ (v47 : BitVec 32) (k0_hw12 : k0_chk12 v47), ∀ a, (k0_off52 v47) a + S1x64.size a ≤ S2048x128.size a := fun v47 k0_hw12 => k0_hw12.1
theorem k0_off172_inb : ∀ (v47 : BitVec 32) (k0_hw12 : k0_chk12 v47), ∀ a, (k0_off172 v47) a + S1x128.size a ≤ S2048x128.size a := fun v47 k0_hw12 => k0_hw12.2

def k0_off173 (v51 : BitVec 32) : Fin 2 → Nat :=
  let v1327 : Index := Scalar.indexCast v51
  let c0_712 : Index := 0#32
  ![v1327.toNat, 0]

def k0_chk13 (v51 : BitVec 32) : Prop :=
  (∀ a, (k0_off53 v51) a + S1x64.size a ≤ S2048x128.size a) ∧
  (∀ a, (k0_off173 v51) a + S1x128.size a ≤ S2048x128.size a)
theorem k0_off53_inb : ∀ (v51 : BitVec 32) (k0_hw13 : k0_chk13 v51), ∀ a, (k0_off53 v51) a + S1x64.size a ≤ S2048x128.size a := fun v51 k0_hw13 => k0_hw13.1
theorem k0_off173_inb : ∀ (v51 : BitVec 32) (k0_hw13 : k0_chk13 v51), ∀ a, (k0_off173 v51) a + S1x128.size a ≤ S2048x128.size a := fun v51 k0_hw13 => k0_hw13.2

def k0_off174 (v55 : BitVec 32) : Fin 2 → Nat :=
  let v1335 : Index := Scalar.indexCast v55
  let c0_714 : Index := 0#32
  ![v1335.toNat, 0]

def k0_chk14 (v55 : BitVec 32) : Prop :=
  (∀ a, (k0_off54 v55) a + S1x64.size a ≤ S2048x128.size a) ∧
  (∀ a, (k0_off174 v55) a + S1x128.size a ≤ S2048x128.size a)
theorem k0_off54_inb : ∀ (v55 : BitVec 32) (k0_hw14 : k0_chk14 v55), ∀ a, (k0_off54 v55) a + S1x64.size a ≤ S2048x128.size a := fun v55 k0_hw14 => k0_hw14.1
theorem k0_off174_inb : ∀ (v55 : BitVec 32) (k0_hw14 : k0_chk14 v55), ∀ a, (k0_off174 v55) a + S1x128.size a ≤ S2048x128.size a := fun v55 k0_hw14 => k0_hw14.2

def k0_off175 (v59 : BitVec 32) : Fin 2 → Nat :=
  let v1343 : Index := Scalar.indexCast v59
  let c0_716 : Index := 0#32
  ![v1343.toNat, 0]

def k0_chk15 (v59 : BitVec 32) : Prop :=
  (∀ a, (k0_off55 v59) a + S1x64.size a ≤ S2048x128.size a) ∧
  (∀ a, (k0_off175 v59) a + S1x128.size a ≤ S2048x128.size a)
theorem k0_off55_inb : ∀ (v59 : BitVec 32) (k0_hw15 : k0_chk15 v59), ∀ a, (k0_off55 v59) a + S1x64.size a ≤ S2048x128.size a := fun v59 k0_hw15 => k0_hw15.1
theorem k0_off175_inb : ∀ (v59 : BitVec 32) (k0_hw15 : k0_chk15 v59), ∀ a, (k0_off175 v59) a + S1x128.size a ≤ S2048x128.size a := fun v59 k0_hw15 => k0_hw15.2

def k0_off176 (v63 : BitVec 32) : Fin 2 → Nat :=
  let v1351 : Index := Scalar.indexCast v63
  let c0_718 : Index := 0#32
  ![v1351.toNat, 0]

def k0_chk16 (v63 : BitVec 32) : Prop :=
  (∀ a, (k0_off56 v63) a + S1x64.size a ≤ S2048x128.size a) ∧
  (∀ a, (k0_off176 v63) a + S1x128.size a ≤ S2048x128.size a)
theorem k0_off56_inb : ∀ (v63 : BitVec 32) (k0_hw16 : k0_chk16 v63), ∀ a, (k0_off56 v63) a + S1x64.size a ≤ S2048x128.size a := fun v63 k0_hw16 => k0_hw16.1
theorem k0_off176_inb : ∀ (v63 : BitVec 32) (k0_hw16 : k0_chk16 v63), ∀ a, (k0_off176 v63) a + S1x128.size a ≤ S2048x128.size a := fun v63 k0_hw16 => k0_hw16.2

def k0_off177 (v67 : BitVec 32) : Fin 2 → Nat :=
  let v1359 : Index := Scalar.indexCast v67
  let c0_720 : Index := 0#32
  ![v1359.toNat, 0]

def k0_chk17 (v67 : BitVec 32) : Prop :=
  (∀ a, (k0_off57 v67) a + S1x64.size a ≤ S2048x128.size a) ∧
  (∀ a, (k0_off177 v67) a + S1x128.size a ≤ S2048x128.size a)
theorem k0_off57_inb : ∀ (v67 : BitVec 32) (k0_hw17 : k0_chk17 v67), ∀ a, (k0_off57 v67) a + S1x64.size a ≤ S2048x128.size a := fun v67 k0_hw17 => k0_hw17.1
theorem k0_off177_inb : ∀ (v67 : BitVec 32) (k0_hw17 : k0_chk17 v67), ∀ a, (k0_off177 v67) a + S1x128.size a ≤ S2048x128.size a := fun v67 k0_hw17 => k0_hw17.2

def k0_off178 (v71 : BitVec 32) : Fin 2 → Nat :=
  let v1367 : Index := Scalar.indexCast v71
  let c0_722 : Index := 0#32
  ![v1367.toNat, 0]

def k0_chk18 (v71 : BitVec 32) : Prop :=
  (∀ a, (k0_off58 v71) a + S1x64.size a ≤ S2048x128.size a) ∧
  (∀ a, (k0_off178 v71) a + S1x128.size a ≤ S2048x128.size a)
theorem k0_off58_inb : ∀ (v71 : BitVec 32) (k0_hw18 : k0_chk18 v71), ∀ a, (k0_off58 v71) a + S1x64.size a ≤ S2048x128.size a := fun v71 k0_hw18 => k0_hw18.1
theorem k0_off178_inb : ∀ (v71 : BitVec 32) (k0_hw18 : k0_chk18 v71), ∀ a, (k0_off178 v71) a + S1x128.size a ≤ S2048x128.size a := fun v71 k0_hw18 => k0_hw18.2

def k0_off179 (v75 : BitVec 32) : Fin 2 → Nat :=
  let v1375 : Index := Scalar.indexCast v75
  let c0_724 : Index := 0#32
  ![v1375.toNat, 0]

def k0_chk19 (v75 : BitVec 32) : Prop :=
  (∀ a, (k0_off59 v75) a + S1x64.size a ≤ S2048x128.size a) ∧
  (∀ a, (k0_off179 v75) a + S1x128.size a ≤ S2048x128.size a)
theorem k0_off59_inb : ∀ (v75 : BitVec 32) (k0_hw19 : k0_chk19 v75), ∀ a, (k0_off59 v75) a + S1x64.size a ≤ S2048x128.size a := fun v75 k0_hw19 => k0_hw19.1
theorem k0_off179_inb : ∀ (v75 : BitVec 32) (k0_hw19 : k0_chk19 v75), ∀ a, (k0_off179 v75) a + S1x128.size a ≤ S2048x128.size a := fun v75 k0_hw19 => k0_hw19.2

def k0_off180 (v79 : BitVec 32) : Fin 2 → Nat :=
  let v1383 : Index := Scalar.indexCast v79
  let c0_726 : Index := 0#32
  ![v1383.toNat, 0]

def k0_chk20 (v79 : BitVec 32) : Prop :=
  (∀ a, (k0_off60 v79) a + S1x64.size a ≤ S2048x128.size a) ∧
  (∀ a, (k0_off180 v79) a + S1x128.size a ≤ S2048x128.size a)
theorem k0_off60_inb : ∀ (v79 : BitVec 32) (k0_hw20 : k0_chk20 v79), ∀ a, (k0_off60 v79) a + S1x64.size a ≤ S2048x128.size a := fun v79 k0_hw20 => k0_hw20.1
theorem k0_off180_inb : ∀ (v79 : BitVec 32) (k0_hw20 : k0_chk20 v79), ∀ a, (k0_off180 v79) a + S1x128.size a ≤ S2048x128.size a := fun v79 k0_hw20 => k0_hw20.2

def k0_off181 (v83 : BitVec 32) : Fin 2 → Nat :=
  let v1391 : Index := Scalar.indexCast v83
  let c0_728 : Index := 0#32
  ![v1391.toNat, 0]

def k0_chk21 (v83 : BitVec 32) : Prop :=
  (∀ a, (k0_off61 v83) a + S1x64.size a ≤ S2048x128.size a) ∧
  (∀ a, (k0_off181 v83) a + S1x128.size a ≤ S2048x128.size a)
theorem k0_off61_inb : ∀ (v83 : BitVec 32) (k0_hw21 : k0_chk21 v83), ∀ a, (k0_off61 v83) a + S1x64.size a ≤ S2048x128.size a := fun v83 k0_hw21 => k0_hw21.1
theorem k0_off181_inb : ∀ (v83 : BitVec 32) (k0_hw21 : k0_chk21 v83), ∀ a, (k0_off181 v83) a + S1x128.size a ≤ S2048x128.size a := fun v83 k0_hw21 => k0_hw21.2

def k0_off182 (v87 : BitVec 32) : Fin 2 → Nat :=
  let v1399 : Index := Scalar.indexCast v87
  let c0_730 : Index := 0#32
  ![v1399.toNat, 0]

def k0_chk22 (v87 : BitVec 32) : Prop :=
  (∀ a, (k0_off62 v87) a + S1x64.size a ≤ S2048x128.size a) ∧
  (∀ a, (k0_off182 v87) a + S1x128.size a ≤ S2048x128.size a)
theorem k0_off62_inb : ∀ (v87 : BitVec 32) (k0_hw22 : k0_chk22 v87), ∀ a, (k0_off62 v87) a + S1x64.size a ≤ S2048x128.size a := fun v87 k0_hw22 => k0_hw22.1
theorem k0_off182_inb : ∀ (v87 : BitVec 32) (k0_hw22 : k0_chk22 v87), ∀ a, (k0_off182 v87) a + S1x128.size a ≤ S2048x128.size a := fun v87 k0_hw22 => k0_hw22.2

def k0_off183 (v91 : BitVec 32) : Fin 2 → Nat :=
  let v1407 : Index := Scalar.indexCast v91
  let c0_732 : Index := 0#32
  ![v1407.toNat, 0]

def k0_chk23 (v91 : BitVec 32) : Prop :=
  (∀ a, (k0_off63 v91) a + S1x64.size a ≤ S2048x128.size a) ∧
  (∀ a, (k0_off183 v91) a + S1x128.size a ≤ S2048x128.size a)
theorem k0_off63_inb : ∀ (v91 : BitVec 32) (k0_hw23 : k0_chk23 v91), ∀ a, (k0_off63 v91) a + S1x64.size a ≤ S2048x128.size a := fun v91 k0_hw23 => k0_hw23.1
theorem k0_off183_inb : ∀ (v91 : BitVec 32) (k0_hw23 : k0_chk23 v91), ∀ a, (k0_off183 v91) a + S1x128.size a ≤ S2048x128.size a := fun v91 k0_hw23 => k0_hw23.2

def k0_off184 (v95 : BitVec 32) : Fin 2 → Nat :=
  let v1415 : Index := Scalar.indexCast v95
  let c0_734 : Index := 0#32
  ![v1415.toNat, 0]

def k0_chk24 (v95 : BitVec 32) : Prop :=
  (∀ a, (k0_off64 v95) a + S1x64.size a ≤ S2048x128.size a) ∧
  (∀ a, (k0_off184 v95) a + S1x128.size a ≤ S2048x128.size a)
theorem k0_off64_inb : ∀ (v95 : BitVec 32) (k0_hw24 : k0_chk24 v95), ∀ a, (k0_off64 v95) a + S1x64.size a ≤ S2048x128.size a := fun v95 k0_hw24 => k0_hw24.1
theorem k0_off184_inb : ∀ (v95 : BitVec 32) (k0_hw24 : k0_chk24 v95), ∀ a, (k0_off184 v95) a + S1x128.size a ≤ S2048x128.size a := fun v95 k0_hw24 => k0_hw24.2

def k0_off185 (v99 : BitVec 32) : Fin 2 → Nat :=
  let v1423 : Index := Scalar.indexCast v99
  let c0_736 : Index := 0#32
  ![v1423.toNat, 0]

def k0_chk25 (v99 : BitVec 32) : Prop :=
  (∀ a, (k0_off65 v99) a + S1x64.size a ≤ S2048x128.size a) ∧
  (∀ a, (k0_off185 v99) a + S1x128.size a ≤ S2048x128.size a)
theorem k0_off65_inb : ∀ (v99 : BitVec 32) (k0_hw25 : k0_chk25 v99), ∀ a, (k0_off65 v99) a + S1x64.size a ≤ S2048x128.size a := fun v99 k0_hw25 => k0_hw25.1
theorem k0_off185_inb : ∀ (v99 : BitVec 32) (k0_hw25 : k0_chk25 v99), ∀ a, (k0_off185 v99) a + S1x128.size a ≤ S2048x128.size a := fun v99 k0_hw25 => k0_hw25.2

def k0_off186 (v103 : BitVec 32) : Fin 2 → Nat :=
  let v1431 : Index := Scalar.indexCast v103
  let c0_738 : Index := 0#32
  ![v1431.toNat, 0]

def k0_chk26 (v103 : BitVec 32) : Prop :=
  (∀ a, (k0_off66 v103) a + S1x64.size a ≤ S2048x128.size a) ∧
  (∀ a, (k0_off186 v103) a + S1x128.size a ≤ S2048x128.size a)
theorem k0_off66_inb : ∀ (v103 : BitVec 32) (k0_hw26 : k0_chk26 v103), ∀ a, (k0_off66 v103) a + S1x64.size a ≤ S2048x128.size a := fun v103 k0_hw26 => k0_hw26.1
theorem k0_off186_inb : ∀ (v103 : BitVec 32) (k0_hw26 : k0_chk26 v103), ∀ a, (k0_off186 v103) a + S1x128.size a ≤ S2048x128.size a := fun v103 k0_hw26 => k0_hw26.2

def k0_off187 (v107 : BitVec 32) : Fin 2 → Nat :=
  let v1439 : Index := Scalar.indexCast v107
  let c0_740 : Index := 0#32
  ![v1439.toNat, 0]

def k0_chk27 (v107 : BitVec 32) : Prop :=
  (∀ a, (k0_off67 v107) a + S1x64.size a ≤ S2048x128.size a) ∧
  (∀ a, (k0_off187 v107) a + S1x128.size a ≤ S2048x128.size a)
theorem k0_off67_inb : ∀ (v107 : BitVec 32) (k0_hw27 : k0_chk27 v107), ∀ a, (k0_off67 v107) a + S1x64.size a ≤ S2048x128.size a := fun v107 k0_hw27 => k0_hw27.1
theorem k0_off187_inb : ∀ (v107 : BitVec 32) (k0_hw27 : k0_chk27 v107), ∀ a, (k0_off187 v107) a + S1x128.size a ≤ S2048x128.size a := fun v107 k0_hw27 => k0_hw27.2

def k0_off188 (v111 : BitVec 32) : Fin 2 → Nat :=
  let v1447 : Index := Scalar.indexCast v111
  let c0_742 : Index := 0#32
  ![v1447.toNat, 0]

def k0_chk28 (v111 : BitVec 32) : Prop :=
  (∀ a, (k0_off68 v111) a + S1x64.size a ≤ S2048x128.size a) ∧
  (∀ a, (k0_off188 v111) a + S1x128.size a ≤ S2048x128.size a)
theorem k0_off68_inb : ∀ (v111 : BitVec 32) (k0_hw28 : k0_chk28 v111), ∀ a, (k0_off68 v111) a + S1x64.size a ≤ S2048x128.size a := fun v111 k0_hw28 => k0_hw28.1
theorem k0_off188_inb : ∀ (v111 : BitVec 32) (k0_hw28 : k0_chk28 v111), ∀ a, (k0_off188 v111) a + S1x128.size a ≤ S2048x128.size a := fun v111 k0_hw28 => k0_hw28.2

def k0_off189 (v115 : BitVec 32) : Fin 2 → Nat :=
  let v1455 : Index := Scalar.indexCast v115
  let c0_744 : Index := 0#32
  ![v1455.toNat, 0]

def k0_chk29 (v115 : BitVec 32) : Prop :=
  (∀ a, (k0_off69 v115) a + S1x64.size a ≤ S2048x128.size a) ∧
  (∀ a, (k0_off189 v115) a + S1x128.size a ≤ S2048x128.size a)
theorem k0_off69_inb : ∀ (v115 : BitVec 32) (k0_hw29 : k0_chk29 v115), ∀ a, (k0_off69 v115) a + S1x64.size a ≤ S2048x128.size a := fun v115 k0_hw29 => k0_hw29.1
theorem k0_off189_inb : ∀ (v115 : BitVec 32) (k0_hw29 : k0_chk29 v115), ∀ a, (k0_off189 v115) a + S1x128.size a ≤ S2048x128.size a := fun v115 k0_hw29 => k0_hw29.2

def k0_off190 (v119 : BitVec 32) : Fin 2 → Nat :=
  let v1463 : Index := Scalar.indexCast v119
  let c0_746 : Index := 0#32
  ![v1463.toNat, 0]

def k0_chk30 (v119 : BitVec 32) : Prop :=
  (∀ a, (k0_off70 v119) a + S1x64.size a ≤ S2048x128.size a) ∧
  (∀ a, (k0_off190 v119) a + S1x128.size a ≤ S2048x128.size a)
theorem k0_off70_inb : ∀ (v119 : BitVec 32) (k0_hw30 : k0_chk30 v119), ∀ a, (k0_off70 v119) a + S1x64.size a ≤ S2048x128.size a := fun v119 k0_hw30 => k0_hw30.1
theorem k0_off190_inb : ∀ (v119 : BitVec 32) (k0_hw30 : k0_chk30 v119), ∀ a, (k0_off190 v119) a + S1x128.size a ≤ S2048x128.size a := fun v119 k0_hw30 => k0_hw30.2

def k0_off191 (v123 : BitVec 32) : Fin 2 → Nat :=
  let v1471 : Index := Scalar.indexCast v123
  let c0_748 : Index := 0#32
  ![v1471.toNat, 0]

def k0_chk31 (v123 : BitVec 32) : Prop :=
  (∀ a, (k0_off71 v123) a + S1x64.size a ≤ S2048x128.size a) ∧
  (∀ a, (k0_off191 v123) a + S1x128.size a ≤ S2048x128.size a)
theorem k0_off71_inb : ∀ (v123 : BitVec 32) (k0_hw31 : k0_chk31 v123), ∀ a, (k0_off71 v123) a + S1x64.size a ≤ S2048x128.size a := fun v123 k0_hw31 => k0_hw31.1
theorem k0_off191_inb : ∀ (v123 : BitVec 32) (k0_hw31 : k0_chk31 v123), ∀ a, (k0_off191 v123) a + S1x128.size a ≤ S2048x128.size a := fun v123 k0_hw31 => k0_hw31.2

def k0_off192 (v127 : BitVec 32) : Fin 2 → Nat :=
  let v1479 : Index := Scalar.indexCast v127
  let c0_750 : Index := 0#32
  ![v1479.toNat, 0]

def k0_chk32 (v127 : BitVec 32) : Prop :=
  (∀ a, (k0_off72 v127) a + S1x64.size a ≤ S2048x128.size a) ∧
  (∀ a, (k0_off192 v127) a + S1x128.size a ≤ S2048x128.size a)
theorem k0_off72_inb : ∀ (v127 : BitVec 32) (k0_hw32 : k0_chk32 v127), ∀ a, (k0_off72 v127) a + S1x64.size a ≤ S2048x128.size a := fun v127 k0_hw32 => k0_hw32.1
theorem k0_off192_inb : ∀ (v127 : BitVec 32) (k0_hw32 : k0_chk32 v127), ∀ a, (k0_off192 v127) a + S1x128.size a ≤ S2048x128.size a := fun v127 k0_hw32 => k0_hw32.2

def k0_off193 (v131 : BitVec 32) : Fin 2 → Nat :=
  let v1487 : Index := Scalar.indexCast v131
  let c0_752 : Index := 0#32
  ![v1487.toNat, 0]

def k0_chk33 (v131 : BitVec 32) : Prop :=
  (∀ a, (k0_off73 v131) a + S1x64.size a ≤ S2048x128.size a) ∧
  (∀ a, (k0_off193 v131) a + S1x128.size a ≤ S2048x128.size a)
theorem k0_off73_inb : ∀ (v131 : BitVec 32) (k0_hw33 : k0_chk33 v131), ∀ a, (k0_off73 v131) a + S1x64.size a ≤ S2048x128.size a := fun v131 k0_hw33 => k0_hw33.1
theorem k0_off193_inb : ∀ (v131 : BitVec 32) (k0_hw33 : k0_chk33 v131), ∀ a, (k0_off193 v131) a + S1x128.size a ≤ S2048x128.size a := fun v131 k0_hw33 => k0_hw33.2

def k0_off194 (v135 : BitVec 32) : Fin 2 → Nat :=
  let v1495 : Index := Scalar.indexCast v135
  let c0_754 : Index := 0#32
  ![v1495.toNat, 0]

def k0_chk34 (v135 : BitVec 32) : Prop :=
  (∀ a, (k0_off74 v135) a + S1x64.size a ≤ S2048x128.size a) ∧
  (∀ a, (k0_off194 v135) a + S1x128.size a ≤ S2048x128.size a)
theorem k0_off74_inb : ∀ (v135 : BitVec 32) (k0_hw34 : k0_chk34 v135), ∀ a, (k0_off74 v135) a + S1x64.size a ≤ S2048x128.size a := fun v135 k0_hw34 => k0_hw34.1
theorem k0_off194_inb : ∀ (v135 : BitVec 32) (k0_hw34 : k0_chk34 v135), ∀ a, (k0_off194 v135) a + S1x128.size a ≤ S2048x128.size a := fun v135 k0_hw34 => k0_hw34.2

def k0_off195 (v139 : BitVec 32) : Fin 2 → Nat :=
  let v1503 : Index := Scalar.indexCast v139
  let c0_756 : Index := 0#32
  ![v1503.toNat, 0]

def k0_chk35 (v139 : BitVec 32) : Prop :=
  (∀ a, (k0_off75 v139) a + S1x64.size a ≤ S2048x128.size a) ∧
  (∀ a, (k0_off195 v139) a + S1x128.size a ≤ S2048x128.size a)
theorem k0_off75_inb : ∀ (v139 : BitVec 32) (k0_hw35 : k0_chk35 v139), ∀ a, (k0_off75 v139) a + S1x64.size a ≤ S2048x128.size a := fun v139 k0_hw35 => k0_hw35.1
theorem k0_off195_inb : ∀ (v139 : BitVec 32) (k0_hw35 : k0_chk35 v139), ∀ a, (k0_off195 v139) a + S1x128.size a ≤ S2048x128.size a := fun v139 k0_hw35 => k0_hw35.2

def k0_off196 (v143 : BitVec 32) : Fin 2 → Nat :=
  let v1511 : Index := Scalar.indexCast v143
  let c0_758 : Index := 0#32
  ![v1511.toNat, 0]

def k0_chk36 (v143 : BitVec 32) : Prop :=
  (∀ a, (k0_off76 v143) a + S1x64.size a ≤ S2048x128.size a) ∧
  (∀ a, (k0_off196 v143) a + S1x128.size a ≤ S2048x128.size a)
theorem k0_off76_inb : ∀ (v143 : BitVec 32) (k0_hw36 : k0_chk36 v143), ∀ a, (k0_off76 v143) a + S1x64.size a ≤ S2048x128.size a := fun v143 k0_hw36 => k0_hw36.1
theorem k0_off196_inb : ∀ (v143 : BitVec 32) (k0_hw36 : k0_chk36 v143), ∀ a, (k0_off196 v143) a + S1x128.size a ≤ S2048x128.size a := fun v143 k0_hw36 => k0_hw36.2

def k0_off197 (v147 : BitVec 32) : Fin 2 → Nat :=
  let v1519 : Index := Scalar.indexCast v147
  let c0_760 : Index := 0#32
  ![v1519.toNat, 0]

def k0_chk37 (v147 : BitVec 32) : Prop :=
  (∀ a, (k0_off77 v147) a + S1x64.size a ≤ S2048x128.size a) ∧
  (∀ a, (k0_off197 v147) a + S1x128.size a ≤ S2048x128.size a)
theorem k0_off77_inb : ∀ (v147 : BitVec 32) (k0_hw37 : k0_chk37 v147), ∀ a, (k0_off77 v147) a + S1x64.size a ≤ S2048x128.size a := fun v147 k0_hw37 => k0_hw37.1
theorem k0_off197_inb : ∀ (v147 : BitVec 32) (k0_hw37 : k0_chk37 v147), ∀ a, (k0_off197 v147) a + S1x128.size a ≤ S2048x128.size a := fun v147 k0_hw37 => k0_hw37.2

def k0_off198 (v151 : BitVec 32) : Fin 2 → Nat :=
  let v1527 : Index := Scalar.indexCast v151
  let c0_762 : Index := 0#32
  ![v1527.toNat, 0]

def k0_chk38 (v151 : BitVec 32) : Prop :=
  (∀ a, (k0_off78 v151) a + S1x64.size a ≤ S2048x128.size a) ∧
  (∀ a, (k0_off198 v151) a + S1x128.size a ≤ S2048x128.size a)
theorem k0_off78_inb : ∀ (v151 : BitVec 32) (k0_hw38 : k0_chk38 v151), ∀ a, (k0_off78 v151) a + S1x64.size a ≤ S2048x128.size a := fun v151 k0_hw38 => k0_hw38.1
theorem k0_off198_inb : ∀ (v151 : BitVec 32) (k0_hw38 : k0_chk38 v151), ∀ a, (k0_off198 v151) a + S1x128.size a ≤ S2048x128.size a := fun v151 k0_hw38 => k0_hw38.2

def k0_off199 (v155 : BitVec 32) : Fin 2 → Nat :=
  let v1535 : Index := Scalar.indexCast v155
  let c0_764 : Index := 0#32
  ![v1535.toNat, 0]

def k0_chk39 (v155 : BitVec 32) : Prop :=
  (∀ a, (k0_off79 v155) a + S1x64.size a ≤ S2048x128.size a) ∧
  (∀ a, (k0_off199 v155) a + S1x128.size a ≤ S2048x128.size a)
theorem k0_off79_inb : ∀ (v155 : BitVec 32) (k0_hw39 : k0_chk39 v155), ∀ a, (k0_off79 v155) a + S1x64.size a ≤ S2048x128.size a := fun v155 k0_hw39 => k0_hw39.1
theorem k0_off199_inb : ∀ (v155 : BitVec 32) (k0_hw39 : k0_chk39 v155), ∀ a, (k0_off199 v155) a + S1x128.size a ≤ S2048x128.size a := fun v155 k0_hw39 => k0_hw39.2

def k0_off200 (v159 : BitVec 32) : Fin 2 → Nat :=
  let v1543 : Index := Scalar.indexCast v159
  let c0_766 : Index := 0#32
  ![v1543.toNat, 0]

def k0_chk40 (v159 : BitVec 32) : Prop :=
  (∀ a, (k0_off80 v159) a + S1x64.size a ≤ S2048x128.size a) ∧
  (∀ a, (k0_off200 v159) a + S1x128.size a ≤ S2048x128.size a)
theorem k0_off80_inb : ∀ (v159 : BitVec 32) (k0_hw40 : k0_chk40 v159), ∀ a, (k0_off80 v159) a + S1x64.size a ≤ S2048x128.size a := fun v159 k0_hw40 => k0_hw40.1
theorem k0_off200_inb : ∀ (v159 : BitVec 32) (k0_hw40 : k0_chk40 v159), ∀ a, (k0_off200 v159) a + S1x128.size a ≤ S2048x128.size a := fun v159 k0_hw40 => k0_hw40.2

def k0_off201 (v585 : BitVec 32) : Fin 2 → Nat :=
  let v1551 : Index := Scalar.indexCast v585
  let c0_768 : Index := 0#32
  ![v1551.toNat, 0]

def k0_chk41 (v585 : BitVec 32) : Prop :=
  (∀ a, (k0_off121 v585) a + S1x64.size a ≤ S2048x128.size a) ∧
  (∀ a, (k0_off201 v585) a + S1x128.size a ≤ S2048x128.size a)
theorem k0_off121_inb : ∀ (v585 : BitVec 32) (k0_hw41 : k0_chk41 v585), ∀ a, (k0_off121 v585) a + S1x64.size a ≤ S2048x128.size a := fun v585 k0_hw41 => k0_hw41.1
theorem k0_off201_inb : ∀ (v585 : BitVec 32) (k0_hw41 : k0_chk41 v585), ∀ a, (k0_off201 v585) a + S1x128.size a ≤ S2048x128.size a := fun v585 k0_hw41 => k0_hw41.2

def k0_off202 (v589 : BitVec 32) : Fin 2 → Nat :=
  let v1559 : Index := Scalar.indexCast v589
  let c0_770 : Index := 0#32
  ![v1559.toNat, 0]

def k0_chk42 (v589 : BitVec 32) : Prop :=
  (∀ a, (k0_off122 v589) a + S1x64.size a ≤ S2048x128.size a) ∧
  (∀ a, (k0_off202 v589) a + S1x128.size a ≤ S2048x128.size a)
theorem k0_off122_inb : ∀ (v589 : BitVec 32) (k0_hw42 : k0_chk42 v589), ∀ a, (k0_off122 v589) a + S1x64.size a ≤ S2048x128.size a := fun v589 k0_hw42 => k0_hw42.1
theorem k0_off202_inb : ∀ (v589 : BitVec 32) (k0_hw42 : k0_chk42 v589), ∀ a, (k0_off202 v589) a + S1x128.size a ≤ S2048x128.size a := fun v589 k0_hw42 => k0_hw42.2

def k0_off203 (v593 : BitVec 32) : Fin 2 → Nat :=
  let v1567 : Index := Scalar.indexCast v593
  let c0_772 : Index := 0#32
  ![v1567.toNat, 0]

def k0_chk43 (v593 : BitVec 32) : Prop :=
  (∀ a, (k0_off123 v593) a + S1x64.size a ≤ S2048x128.size a) ∧
  (∀ a, (k0_off203 v593) a + S1x128.size a ≤ S2048x128.size a)
theorem k0_off123_inb : ∀ (v593 : BitVec 32) (k0_hw43 : k0_chk43 v593), ∀ a, (k0_off123 v593) a + S1x64.size a ≤ S2048x128.size a := fun v593 k0_hw43 => k0_hw43.1
theorem k0_off203_inb : ∀ (v593 : BitVec 32) (k0_hw43 : k0_chk43 v593), ∀ a, (k0_off203 v593) a + S1x128.size a ≤ S2048x128.size a := fun v593 k0_hw43 => k0_hw43.2

def k0_off204 (v597 : BitVec 32) : Fin 2 → Nat :=
  let v1575 : Index := Scalar.indexCast v597
  let c0_774 : Index := 0#32
  ![v1575.toNat, 0]

def k0_chk44 (v597 : BitVec 32) : Prop :=
  (∀ a, (k0_off124 v597) a + S1x64.size a ≤ S2048x128.size a) ∧
  (∀ a, (k0_off204 v597) a + S1x128.size a ≤ S2048x128.size a)
theorem k0_off124_inb : ∀ (v597 : BitVec 32) (k0_hw44 : k0_chk44 v597), ∀ a, (k0_off124 v597) a + S1x64.size a ≤ S2048x128.size a := fun v597 k0_hw44 => k0_hw44.1
theorem k0_off204_inb : ∀ (v597 : BitVec 32) (k0_hw44 : k0_chk44 v597), ∀ a, (k0_off204 v597) a + S1x128.size a ≤ S2048x128.size a := fun v597 k0_hw44 => k0_hw44.2

def k0_off205 (v601 : BitVec 32) : Fin 2 → Nat :=
  let v1583 : Index := Scalar.indexCast v601
  let c0_776 : Index := 0#32
  ![v1583.toNat, 0]

def k0_chk45 (v601 : BitVec 32) : Prop :=
  (∀ a, (k0_off125 v601) a + S1x64.size a ≤ S2048x128.size a) ∧
  (∀ a, (k0_off205 v601) a + S1x128.size a ≤ S2048x128.size a)
theorem k0_off125_inb : ∀ (v601 : BitVec 32) (k0_hw45 : k0_chk45 v601), ∀ a, (k0_off125 v601) a + S1x64.size a ≤ S2048x128.size a := fun v601 k0_hw45 => k0_hw45.1
theorem k0_off205_inb : ∀ (v601 : BitVec 32) (k0_hw45 : k0_chk45 v601), ∀ a, (k0_off205 v601) a + S1x128.size a ≤ S2048x128.size a := fun v601 k0_hw45 => k0_hw45.2

def k0_off206 (v605 : BitVec 32) : Fin 2 → Nat :=
  let v1591 : Index := Scalar.indexCast v605
  let c0_778 : Index := 0#32
  ![v1591.toNat, 0]

def k0_chk46 (v605 : BitVec 32) : Prop :=
  (∀ a, (k0_off126 v605) a + S1x64.size a ≤ S2048x128.size a) ∧
  (∀ a, (k0_off206 v605) a + S1x128.size a ≤ S2048x128.size a)
theorem k0_off126_inb : ∀ (v605 : BitVec 32) (k0_hw46 : k0_chk46 v605), ∀ a, (k0_off126 v605) a + S1x64.size a ≤ S2048x128.size a := fun v605 k0_hw46 => k0_hw46.1
theorem k0_off206_inb : ∀ (v605 : BitVec 32) (k0_hw46 : k0_chk46 v605), ∀ a, (k0_off206 v605) a + S1x128.size a ≤ S2048x128.size a := fun v605 k0_hw46 => k0_hw46.2

def k0_off207 (v609 : BitVec 32) : Fin 2 → Nat :=
  let v1599 : Index := Scalar.indexCast v609
  let c0_780 : Index := 0#32
  ![v1599.toNat, 0]

def k0_chk47 (v609 : BitVec 32) : Prop :=
  (∀ a, (k0_off127 v609) a + S1x64.size a ≤ S2048x128.size a) ∧
  (∀ a, (k0_off207 v609) a + S1x128.size a ≤ S2048x128.size a)
theorem k0_off127_inb : ∀ (v609 : BitVec 32) (k0_hw47 : k0_chk47 v609), ∀ a, (k0_off127 v609) a + S1x64.size a ≤ S2048x128.size a := fun v609 k0_hw47 => k0_hw47.1
theorem k0_off207_inb : ∀ (v609 : BitVec 32) (k0_hw47 : k0_chk47 v609), ∀ a, (k0_off207 v609) a + S1x128.size a ≤ S2048x128.size a := fun v609 k0_hw47 => k0_hw47.2

def k0_off208 (v613 : BitVec 32) : Fin 2 → Nat :=
  let v1607 : Index := Scalar.indexCast v613
  let c0_782 : Index := 0#32
  ![v1607.toNat, 0]

def k0_chk48 (v613 : BitVec 32) : Prop :=
  (∀ a, (k0_off128 v613) a + S1x64.size a ≤ S2048x128.size a) ∧
  (∀ a, (k0_off208 v613) a + S1x128.size a ≤ S2048x128.size a)
theorem k0_off128_inb : ∀ (v613 : BitVec 32) (k0_hw48 : k0_chk48 v613), ∀ a, (k0_off128 v613) a + S1x64.size a ≤ S2048x128.size a := fun v613 k0_hw48 => k0_hw48.1
theorem k0_off208_inb : ∀ (v613 : BitVec 32) (k0_hw48 : k0_chk48 v613), ∀ a, (k0_off208 v613) a + S1x128.size a ≤ S2048x128.size a := fun v613 k0_hw48 => k0_hw48.2

def k0_off209 (v617 : BitVec 32) : Fin 2 → Nat :=
  let v1615 : Index := Scalar.indexCast v617
  let c0_784 : Index := 0#32
  ![v1615.toNat, 0]

def k0_chk49 (v617 : BitVec 32) : Prop :=
  (∀ a, (k0_off129 v617) a + S1x64.size a ≤ S2048x128.size a) ∧
  (∀ a, (k0_off209 v617) a + S1x128.size a ≤ S2048x128.size a)
theorem k0_off129_inb : ∀ (v617 : BitVec 32) (k0_hw49 : k0_chk49 v617), ∀ a, (k0_off129 v617) a + S1x64.size a ≤ S2048x128.size a := fun v617 k0_hw49 => k0_hw49.1
theorem k0_off209_inb : ∀ (v617 : BitVec 32) (k0_hw49 : k0_chk49 v617), ∀ a, (k0_off209 v617) a + S1x128.size a ≤ S2048x128.size a := fun v617 k0_hw49 => k0_hw49.2

def k0_off210 (v621 : BitVec 32) : Fin 2 → Nat :=
  let v1623 : Index := Scalar.indexCast v621
  let c0_786 : Index := 0#32
  ![v1623.toNat, 0]

def k0_chk50 (v621 : BitVec 32) : Prop :=
  (∀ a, (k0_off130 v621) a + S1x64.size a ≤ S2048x128.size a) ∧
  (∀ a, (k0_off210 v621) a + S1x128.size a ≤ S2048x128.size a)
theorem k0_off130_inb : ∀ (v621 : BitVec 32) (k0_hw50 : k0_chk50 v621), ∀ a, (k0_off130 v621) a + S1x64.size a ≤ S2048x128.size a := fun v621 k0_hw50 => k0_hw50.1
theorem k0_off210_inb : ∀ (v621 : BitVec 32) (k0_hw50 : k0_chk50 v621), ∀ a, (k0_off210 v621) a + S1x128.size a ≤ S2048x128.size a := fun v621 k0_hw50 => k0_hw50.2

def k0_off211 (v625 : BitVec 32) : Fin 2 → Nat :=
  let v1631 : Index := Scalar.indexCast v625
  let c0_788 : Index := 0#32
  ![v1631.toNat, 0]

def k0_chk51 (v625 : BitVec 32) : Prop :=
  (∀ a, (k0_off131 v625) a + S1x64.size a ≤ S2048x128.size a) ∧
  (∀ a, (k0_off211 v625) a + S1x128.size a ≤ S2048x128.size a)
theorem k0_off131_inb : ∀ (v625 : BitVec 32) (k0_hw51 : k0_chk51 v625), ∀ a, (k0_off131 v625) a + S1x64.size a ≤ S2048x128.size a := fun v625 k0_hw51 => k0_hw51.1
theorem k0_off211_inb : ∀ (v625 : BitVec 32) (k0_hw51 : k0_chk51 v625), ∀ a, (k0_off211 v625) a + S1x128.size a ≤ S2048x128.size a := fun v625 k0_hw51 => k0_hw51.2

def k0_off212 (v629 : BitVec 32) : Fin 2 → Nat :=
  let v1639 : Index := Scalar.indexCast v629
  let c0_790 : Index := 0#32
  ![v1639.toNat, 0]

def k0_chk52 (v629 : BitVec 32) : Prop :=
  (∀ a, (k0_off132 v629) a + S1x64.size a ≤ S2048x128.size a) ∧
  (∀ a, (k0_off212 v629) a + S1x128.size a ≤ S2048x128.size a)
theorem k0_off132_inb : ∀ (v629 : BitVec 32) (k0_hw52 : k0_chk52 v629), ∀ a, (k0_off132 v629) a + S1x64.size a ≤ S2048x128.size a := fun v629 k0_hw52 => k0_hw52.1
theorem k0_off212_inb : ∀ (v629 : BitVec 32) (k0_hw52 : k0_chk52 v629), ∀ a, (k0_off212 v629) a + S1x128.size a ≤ S2048x128.size a := fun v629 k0_hw52 => k0_hw52.2

def k0_off213 (v633 : BitVec 32) : Fin 2 → Nat :=
  let v1647 : Index := Scalar.indexCast v633
  let c0_792 : Index := 0#32
  ![v1647.toNat, 0]

def k0_chk53 (v633 : BitVec 32) : Prop :=
  (∀ a, (k0_off133 v633) a + S1x64.size a ≤ S2048x128.size a) ∧
  (∀ a, (k0_off213 v633) a + S1x128.size a ≤ S2048x128.size a)
theorem k0_off133_inb : ∀ (v633 : BitVec 32) (k0_hw53 : k0_chk53 v633), ∀ a, (k0_off133 v633) a + S1x64.size a ≤ S2048x128.size a := fun v633 k0_hw53 => k0_hw53.1
theorem k0_off213_inb : ∀ (v633 : BitVec 32) (k0_hw53 : k0_chk53 v633), ∀ a, (k0_off213 v633) a + S1x128.size a ≤ S2048x128.size a := fun v633 k0_hw53 => k0_hw53.2

def k0_off214 (v637 : BitVec 32) : Fin 2 → Nat :=
  let v1655 : Index := Scalar.indexCast v637
  let c0_794 : Index := 0#32
  ![v1655.toNat, 0]

def k0_chk54 (v637 : BitVec 32) : Prop :=
  (∀ a, (k0_off134 v637) a + S1x64.size a ≤ S2048x128.size a) ∧
  (∀ a, (k0_off214 v637) a + S1x128.size a ≤ S2048x128.size a)
theorem k0_off134_inb : ∀ (v637 : BitVec 32) (k0_hw54 : k0_chk54 v637), ∀ a, (k0_off134 v637) a + S1x64.size a ≤ S2048x128.size a := fun v637 k0_hw54 => k0_hw54.1
theorem k0_off214_inb : ∀ (v637 : BitVec 32) (k0_hw54 : k0_chk54 v637), ∀ a, (k0_off214 v637) a + S1x128.size a ≤ S2048x128.size a := fun v637 k0_hw54 => k0_hw54.2

def k0_off215 (v641 : BitVec 32) : Fin 2 → Nat :=
  let v1663 : Index := Scalar.indexCast v641
  let c0_796 : Index := 0#32
  ![v1663.toNat, 0]

def k0_chk55 (v641 : BitVec 32) : Prop :=
  (∀ a, (k0_off135 v641) a + S1x64.size a ≤ S2048x128.size a) ∧
  (∀ a, (k0_off215 v641) a + S1x128.size a ≤ S2048x128.size a)
theorem k0_off135_inb : ∀ (v641 : BitVec 32) (k0_hw55 : k0_chk55 v641), ∀ a, (k0_off135 v641) a + S1x64.size a ≤ S2048x128.size a := fun v641 k0_hw55 => k0_hw55.1
theorem k0_off215_inb : ∀ (v641 : BitVec 32) (k0_hw55 : k0_chk55 v641), ∀ a, (k0_off215 v641) a + S1x128.size a ≤ S2048x128.size a := fun v641 k0_hw55 => k0_hw55.2

def k0_off216 (v645 : BitVec 32) : Fin 2 → Nat :=
  let v1671 : Index := Scalar.indexCast v645
  let c0_798 : Index := 0#32
  ![v1671.toNat, 0]

def k0_chk56 (v645 : BitVec 32) : Prop :=
  (∀ a, (k0_off136 v645) a + S1x64.size a ≤ S2048x128.size a) ∧
  (∀ a, (k0_off216 v645) a + S1x128.size a ≤ S2048x128.size a)
theorem k0_off136_inb : ∀ (v645 : BitVec 32) (k0_hw56 : k0_chk56 v645), ∀ a, (k0_off136 v645) a + S1x64.size a ≤ S2048x128.size a := fun v645 k0_hw56 => k0_hw56.1
theorem k0_off216_inb : ∀ (v645 : BitVec 32) (k0_hw56 : k0_chk56 v645), ∀ a, (k0_off216 v645) a + S1x128.size a ≤ S2048x128.size a := fun v645 k0_hw56 => k0_hw56.2

def k0_off217 (v649 : BitVec 32) : Fin 2 → Nat :=
  let v1679 : Index := Scalar.indexCast v649
  let c0_800 : Index := 0#32
  ![v1679.toNat, 0]

def k0_chk57 (v649 : BitVec 32) : Prop :=
  (∀ a, (k0_off137 v649) a + S1x64.size a ≤ S2048x128.size a) ∧
  (∀ a, (k0_off217 v649) a + S1x128.size a ≤ S2048x128.size a)
theorem k0_off137_inb : ∀ (v649 : BitVec 32) (k0_hw57 : k0_chk57 v649), ∀ a, (k0_off137 v649) a + S1x64.size a ≤ S2048x128.size a := fun v649 k0_hw57 => k0_hw57.1
theorem k0_off217_inb : ∀ (v649 : BitVec 32) (k0_hw57 : k0_chk57 v649), ∀ a, (k0_off217 v649) a + S1x128.size a ≤ S2048x128.size a := fun v649 k0_hw57 => k0_hw57.2

def k0_off218 (v653 : BitVec 32) : Fin 2 → Nat :=
  let v1687 : Index := Scalar.indexCast v653
  let c0_802 : Index := 0#32
  ![v1687.toNat, 0]

def k0_chk58 (v653 : BitVec 32) : Prop :=
  (∀ a, (k0_off138 v653) a + S1x64.size a ≤ S2048x128.size a) ∧
  (∀ a, (k0_off218 v653) a + S1x128.size a ≤ S2048x128.size a)
theorem k0_off138_inb : ∀ (v653 : BitVec 32) (k0_hw58 : k0_chk58 v653), ∀ a, (k0_off138 v653) a + S1x64.size a ≤ S2048x128.size a := fun v653 k0_hw58 => k0_hw58.1
theorem k0_off218_inb : ∀ (v653 : BitVec 32) (k0_hw58 : k0_chk58 v653), ∀ a, (k0_off218 v653) a + S1x128.size a ≤ S2048x128.size a := fun v653 k0_hw58 => k0_hw58.2

def k0_off219 (v657 : BitVec 32) : Fin 2 → Nat :=
  let v1695 : Index := Scalar.indexCast v657
  let c0_804 : Index := 0#32
  ![v1695.toNat, 0]

def k0_chk59 (v657 : BitVec 32) : Prop :=
  (∀ a, (k0_off139 v657) a + S1x64.size a ≤ S2048x128.size a) ∧
  (∀ a, (k0_off219 v657) a + S1x128.size a ≤ S2048x128.size a)
theorem k0_off139_inb : ∀ (v657 : BitVec 32) (k0_hw59 : k0_chk59 v657), ∀ a, (k0_off139 v657) a + S1x64.size a ≤ S2048x128.size a := fun v657 k0_hw59 => k0_hw59.1
theorem k0_off219_inb : ∀ (v657 : BitVec 32) (k0_hw59 : k0_chk59 v657), ∀ a, (k0_off219 v657) a + S1x128.size a ≤ S2048x128.size a := fun v657 k0_hw59 => k0_hw59.2

def k0_off220 (v661 : BitVec 32) : Fin 2 → Nat :=
  let v1703 : Index := Scalar.indexCast v661
  let c0_806 : Index := 0#32
  ![v1703.toNat, 0]

def k0_chk60 (v661 : BitVec 32) : Prop :=
  (∀ a, (k0_off140 v661) a + S1x64.size a ≤ S2048x128.size a) ∧
  (∀ a, (k0_off220 v661) a + S1x128.size a ≤ S2048x128.size a)
theorem k0_off140_inb : ∀ (v661 : BitVec 32) (k0_hw60 : k0_chk60 v661), ∀ a, (k0_off140 v661) a + S1x64.size a ≤ S2048x128.size a := fun v661 k0_hw60 => k0_hw60.1
theorem k0_off220_inb : ∀ (v661 : BitVec 32) (k0_hw60 : k0_chk60 v661), ∀ a, (k0_off220 v661) a + S1x128.size a ≤ S2048x128.size a := fun v661 k0_hw60 => k0_hw60.2

def k0_off221 (v665 : BitVec 32) : Fin 2 → Nat :=
  let v1711 : Index := Scalar.indexCast v665
  let c0_808 : Index := 0#32
  ![v1711.toNat, 0]

def k0_chk61 (v665 : BitVec 32) : Prop :=
  (∀ a, (k0_off141 v665) a + S1x64.size a ≤ S2048x128.size a) ∧
  (∀ a, (k0_off221 v665) a + S1x128.size a ≤ S2048x128.size a)
theorem k0_off141_inb : ∀ (v665 : BitVec 32) (k0_hw61 : k0_chk61 v665), ∀ a, (k0_off141 v665) a + S1x64.size a ≤ S2048x128.size a := fun v665 k0_hw61 => k0_hw61.1
theorem k0_off221_inb : ∀ (v665 : BitVec 32) (k0_hw61 : k0_chk61 v665), ∀ a, (k0_off221 v665) a + S1x128.size a ≤ S2048x128.size a := fun v665 k0_hw61 => k0_hw61.2

def k0_off222 (v669 : BitVec 32) : Fin 2 → Nat :=
  let v1719 : Index := Scalar.indexCast v669
  let c0_810 : Index := 0#32
  ![v1719.toNat, 0]

def k0_chk62 (v669 : BitVec 32) : Prop :=
  (∀ a, (k0_off142 v669) a + S1x64.size a ≤ S2048x128.size a) ∧
  (∀ a, (k0_off222 v669) a + S1x128.size a ≤ S2048x128.size a)
theorem k0_off142_inb : ∀ (v669 : BitVec 32) (k0_hw62 : k0_chk62 v669), ∀ a, (k0_off142 v669) a + S1x64.size a ≤ S2048x128.size a := fun v669 k0_hw62 => k0_hw62.1
theorem k0_off222_inb : ∀ (v669 : BitVec 32) (k0_hw62 : k0_chk62 v669), ∀ a, (k0_off222 v669) a + S1x128.size a ≤ S2048x128.size a := fun v669 k0_hw62 => k0_hw62.2

def k0_off223 (v673 : BitVec 32) : Fin 2 → Nat :=
  let v1727 : Index := Scalar.indexCast v673
  let c0_812 : Index := 0#32
  ![v1727.toNat, 0]

def k0_chk63 (v673 : BitVec 32) : Prop :=
  (∀ a, (k0_off143 v673) a + S1x64.size a ≤ S2048x128.size a) ∧
  (∀ a, (k0_off223 v673) a + S1x128.size a ≤ S2048x128.size a)
theorem k0_off143_inb : ∀ (v673 : BitVec 32) (k0_hw63 : k0_chk63 v673), ∀ a, (k0_off143 v673) a + S1x64.size a ≤ S2048x128.size a := fun v673 k0_hw63 => k0_hw63.1
theorem k0_off223_inb : ∀ (v673 : BitVec 32) (k0_hw63 : k0_chk63 v673), ∀ a, (k0_off223 v673) a + S1x128.size a ≤ S2048x128.size a := fun v673 k0_hw63 => k0_hw63.2

def k0_off224 (v677 : BitVec 32) : Fin 2 → Nat :=
  let v1735 : Index := Scalar.indexCast v677
  let c0_814 : Index := 0#32
  ![v1735.toNat, 0]

def k0_chk64 (v677 : BitVec 32) : Prop :=
  (∀ a, (k0_off144 v677) a + S1x64.size a ≤ S2048x128.size a) ∧
  (∀ a, (k0_off224 v677) a + S1x128.size a ≤ S2048x128.size a)
theorem k0_off144_inb : ∀ (v677 : BitVec 32) (k0_hw64 : k0_chk64 v677), ∀ a, (k0_off144 v677) a + S1x64.size a ≤ S2048x128.size a := fun v677 k0_hw64 => k0_hw64.1
theorem k0_off224_inb : ∀ (v677 : BitVec 32) (k0_hw64 : k0_chk64 v677), ∀ a, (k0_off224 v677) a + S1x128.size a ≤ S2048x128.size a := fun v677 k0_hw64 => k0_hw64.2

def k0_off225 (v681 : BitVec 32) : Fin 2 → Nat :=
  let v1743 : Index := Scalar.indexCast v681
  let c0_816 : Index := 0#32
  ![v1743.toNat, 0]

def k0_chk65 (v681 : BitVec 32) : Prop :=
  (∀ a, (k0_off145 v681) a + S1x64.size a ≤ S2048x128.size a) ∧
  (∀ a, (k0_off225 v681) a + S1x128.size a ≤ S2048x128.size a)
theorem k0_off145_inb : ∀ (v681 : BitVec 32) (k0_hw65 : k0_chk65 v681), ∀ a, (k0_off145 v681) a + S1x64.size a ≤ S2048x128.size a := fun v681 k0_hw65 => k0_hw65.1
theorem k0_off225_inb : ∀ (v681 : BitVec 32) (k0_hw65 : k0_chk65 v681), ∀ a, (k0_off225 v681) a + S1x128.size a ≤ S2048x128.size a := fun v681 k0_hw65 => k0_hw65.2

def k0_off226 (v685 : BitVec 32) : Fin 2 → Nat :=
  let v1751 : Index := Scalar.indexCast v685
  let c0_818 : Index := 0#32
  ![v1751.toNat, 0]

def k0_chk66 (v685 : BitVec 32) : Prop :=
  (∀ a, (k0_off146 v685) a + S1x64.size a ≤ S2048x128.size a) ∧
  (∀ a, (k0_off226 v685) a + S1x128.size a ≤ S2048x128.size a)
theorem k0_off146_inb : ∀ (v685 : BitVec 32) (k0_hw66 : k0_chk66 v685), ∀ a, (k0_off146 v685) a + S1x64.size a ≤ S2048x128.size a := fun v685 k0_hw66 => k0_hw66.1
theorem k0_off226_inb : ∀ (v685 : BitVec 32) (k0_hw66 : k0_chk66 v685), ∀ a, (k0_off226 v685) a + S1x128.size a ≤ S2048x128.size a := fun v685 k0_hw66 => k0_hw66.2

def k0_off227 (v689 : BitVec 32) : Fin 2 → Nat :=
  let v1759 : Index := Scalar.indexCast v689
  let c0_820 : Index := 0#32
  ![v1759.toNat, 0]

def k0_chk67 (v689 : BitVec 32) : Prop :=
  (∀ a, (k0_off147 v689) a + S1x64.size a ≤ S2048x128.size a) ∧
  (∀ a, (k0_off227 v689) a + S1x128.size a ≤ S2048x128.size a)
theorem k0_off147_inb : ∀ (v689 : BitVec 32) (k0_hw67 : k0_chk67 v689), ∀ a, (k0_off147 v689) a + S1x64.size a ≤ S2048x128.size a := fun v689 k0_hw67 => k0_hw67.1
theorem k0_off227_inb : ∀ (v689 : BitVec 32) (k0_hw67 : k0_chk67 v689), ∀ a, (k0_off227 v689) a + S1x128.size a ≤ S2048x128.size a := fun v689 k0_hw67 => k0_hw67.2

def k0_off228 (v693 : BitVec 32) : Fin 2 → Nat :=
  let v1767 : Index := Scalar.indexCast v693
  let c0_822 : Index := 0#32
  ![v1767.toNat, 0]

def k0_chk68 (v693 : BitVec 32) : Prop :=
  (∀ a, (k0_off148 v693) a + S1x64.size a ≤ S2048x128.size a) ∧
  (∀ a, (k0_off228 v693) a + S1x128.size a ≤ S2048x128.size a)
theorem k0_off148_inb : ∀ (v693 : BitVec 32) (k0_hw68 : k0_chk68 v693), ∀ a, (k0_off148 v693) a + S1x64.size a ≤ S2048x128.size a := fun v693 k0_hw68 => k0_hw68.1
theorem k0_off228_inb : ∀ (v693 : BitVec 32) (k0_hw68 : k0_chk68 v693), ∀ a, (k0_off228 v693) a + S1x128.size a ≤ S2048x128.size a := fun v693 k0_hw68 => k0_hw68.2

def k0_off229 (v697 : BitVec 32) : Fin 2 → Nat :=
  let v1775 : Index := Scalar.indexCast v697
  let c0_824 : Index := 0#32
  ![v1775.toNat, 0]

def k0_chk69 (v697 : BitVec 32) : Prop :=
  (∀ a, (k0_off149 v697) a + S1x64.size a ≤ S2048x128.size a) ∧
  (∀ a, (k0_off229 v697) a + S1x128.size a ≤ S2048x128.size a)
theorem k0_off149_inb : ∀ (v697 : BitVec 32) (k0_hw69 : k0_chk69 v697), ∀ a, (k0_off149 v697) a + S1x64.size a ≤ S2048x128.size a := fun v697 k0_hw69 => k0_hw69.1
theorem k0_off229_inb : ∀ (v697 : BitVec 32) (k0_hw69 : k0_chk69 v697), ∀ a, (k0_off229 v697) a + S1x128.size a ≤ S2048x128.size a := fun v697 k0_hw69 => k0_hw69.2

def k0_off230 (v701 : BitVec 32) : Fin 2 → Nat :=
  let v1783 : Index := Scalar.indexCast v701
  let c0_826 : Index := 0#32
  ![v1783.toNat, 0]

def k0_chk70 (v701 : BitVec 32) : Prop :=
  (∀ a, (k0_off150 v701) a + S1x64.size a ≤ S2048x128.size a) ∧
  (∀ a, (k0_off230 v701) a + S1x128.size a ≤ S2048x128.size a)
theorem k0_off150_inb : ∀ (v701 : BitVec 32) (k0_hw70 : k0_chk70 v701), ∀ a, (k0_off150 v701) a + S1x64.size a ≤ S2048x128.size a := fun v701 k0_hw70 => k0_hw70.1
theorem k0_off230_inb : ∀ (v701 : BitVec 32) (k0_hw70 : k0_chk70 v701), ∀ a, (k0_off230 v701) a + S1x128.size a ≤ S2048x128.size a := fun v701 k0_hw70 => k0_hw70.2

def k0_off231 (v705 : BitVec 32) : Fin 2 → Nat :=
  let v1791 : Index := Scalar.indexCast v705
  let c0_828 : Index := 0#32
  ![v1791.toNat, 0]

def k0_chk71 (v705 : BitVec 32) : Prop :=
  (∀ a, (k0_off151 v705) a + S1x64.size a ≤ S2048x128.size a) ∧
  (∀ a, (k0_off231 v705) a + S1x128.size a ≤ S2048x128.size a)
theorem k0_off151_inb : ∀ (v705 : BitVec 32) (k0_hw71 : k0_chk71 v705), ∀ a, (k0_off151 v705) a + S1x64.size a ≤ S2048x128.size a := fun v705 k0_hw71 => k0_hw71.1
theorem k0_off231_inb : ∀ (v705 : BitVec 32) (k0_hw71 : k0_chk71 v705), ∀ a, (k0_off231 v705) a + S1x128.size a ≤ S2048x128.size a := fun v705 k0_hw71 => k0_hw71.2

def k0_off232 (v709 : BitVec 32) : Fin 2 → Nat :=
  let v1799 : Index := Scalar.indexCast v709
  let c0_830 : Index := 0#32
  ![v1799.toNat, 0]

def k0_chk72 (v709 : BitVec 32) : Prop :=
  (∀ a, (k0_off152 v709) a + S1x64.size a ≤ S2048x128.size a) ∧
  (∀ a, (k0_off232 v709) a + S1x128.size a ≤ S2048x128.size a)
theorem k0_off152_inb : ∀ (v709 : BitVec 32) (k0_hw72 : k0_chk72 v709), ∀ a, (k0_off152 v709) a + S1x64.size a ≤ S2048x128.size a := fun v709 k0_hw72 => k0_hw72.1
theorem k0_off232_inb : ∀ (v709 : BitVec 32) (k0_hw72 : k0_chk72 v709), ∀ a, (k0_off232 v709) a + S1x128.size a ≤ S2048x128.size a := fun v709 k0_hw72 => k0_hw72.2

def k0_off233 (v713 : BitVec 32) : Fin 2 → Nat :=
  let v1807 : Index := Scalar.indexCast v713
  let c0_832 : Index := 0#32
  ![v1807.toNat, 0]

def k0_chk73 (v713 : BitVec 32) : Prop :=
  (∀ a, (k0_off153 v713) a + S1x64.size a ≤ S2048x128.size a) ∧
  (∀ a, (k0_off233 v713) a + S1x128.size a ≤ S2048x128.size a)
theorem k0_off153_inb : ∀ (v713 : BitVec 32) (k0_hw73 : k0_chk73 v713), ∀ a, (k0_off153 v713) a + S1x64.size a ≤ S2048x128.size a := fun v713 k0_hw73 => k0_hw73.1
theorem k0_off233_inb : ∀ (v713 : BitVec 32) (k0_hw73 : k0_chk73 v713), ∀ a, (k0_off233 v713) a + S1x128.size a ≤ S2048x128.size a := fun v713 k0_hw73 => k0_hw73.2

def k0_off234 (v717 : BitVec 32) : Fin 2 → Nat :=
  let v1815 : Index := Scalar.indexCast v717
  let c0_834 : Index := 0#32
  ![v1815.toNat, 0]

def k0_chk74 (v717 : BitVec 32) : Prop :=
  (∀ a, (k0_off154 v717) a + S1x64.size a ≤ S2048x128.size a) ∧
  (∀ a, (k0_off234 v717) a + S1x128.size a ≤ S2048x128.size a)
theorem k0_off154_inb : ∀ (v717 : BitVec 32) (k0_hw74 : k0_chk74 v717), ∀ a, (k0_off154 v717) a + S1x64.size a ≤ S2048x128.size a := fun v717 k0_hw74 => k0_hw74.1
theorem k0_off234_inb : ∀ (v717 : BitVec 32) (k0_hw74 : k0_chk74 v717), ∀ a, (k0_off234 v717) a + S1x128.size a ≤ S2048x128.size a := fun v717 k0_hw74 => k0_hw74.2

def k0_off235 (v721 : BitVec 32) : Fin 2 → Nat :=
  let v1823 : Index := Scalar.indexCast v721
  let c0_836 : Index := 0#32
  ![v1823.toNat, 0]

def k0_chk75 (v721 : BitVec 32) : Prop :=
  (∀ a, (k0_off155 v721) a + S1x64.size a ≤ S2048x128.size a) ∧
  (∀ a, (k0_off235 v721) a + S1x128.size a ≤ S2048x128.size a)
theorem k0_off155_inb : ∀ (v721 : BitVec 32) (k0_hw75 : k0_chk75 v721), ∀ a, (k0_off155 v721) a + S1x64.size a ≤ S2048x128.size a := fun v721 k0_hw75 => k0_hw75.1
theorem k0_off235_inb : ∀ (v721 : BitVec 32) (k0_hw75 : k0_chk75 v721), ∀ a, (k0_off235 v721) a + S1x128.size a ≤ S2048x128.size a := fun v721 k0_hw75 => k0_hw75.2

def k0_off236 (v725 : BitVec 32) : Fin 2 → Nat :=
  let v1831 : Index := Scalar.indexCast v725
  let c0_838 : Index := 0#32
  ![v1831.toNat, 0]

def k0_chk76 (v725 : BitVec 32) : Prop :=
  (∀ a, (k0_off156 v725) a + S1x64.size a ≤ S2048x128.size a) ∧
  (∀ a, (k0_off236 v725) a + S1x128.size a ≤ S2048x128.size a)
theorem k0_off156_inb : ∀ (v725 : BitVec 32) (k0_hw76 : k0_chk76 v725), ∀ a, (k0_off156 v725) a + S1x64.size a ≤ S2048x128.size a := fun v725 k0_hw76 => k0_hw76.1
theorem k0_off236_inb : ∀ (v725 : BitVec 32) (k0_hw76 : k0_chk76 v725), ∀ a, (k0_off236 v725) a + S1x128.size a ≤ S2048x128.size a := fun v725 k0_hw76 => k0_hw76.2

def k0_off237 (v729 : BitVec 32) : Fin 2 → Nat :=
  let v1839 : Index := Scalar.indexCast v729
  let c0_840 : Index := 0#32
  ![v1839.toNat, 0]

def k0_chk77 (v729 : BitVec 32) : Prop :=
  (∀ a, (k0_off157 v729) a + S1x64.size a ≤ S2048x128.size a) ∧
  (∀ a, (k0_off237 v729) a + S1x128.size a ≤ S2048x128.size a)
theorem k0_off157_inb : ∀ (v729 : BitVec 32) (k0_hw77 : k0_chk77 v729), ∀ a, (k0_off157 v729) a + S1x64.size a ≤ S2048x128.size a := fun v729 k0_hw77 => k0_hw77.1
theorem k0_off237_inb : ∀ (v729 : BitVec 32) (k0_hw77 : k0_chk77 v729), ∀ a, (k0_off237 v729) a + S1x128.size a ≤ S2048x128.size a := fun v729 k0_hw77 => k0_hw77.2

def k0_off238 (v733 : BitVec 32) : Fin 2 → Nat :=
  let v1847 : Index := Scalar.indexCast v733
  let c0_842 : Index := 0#32
  ![v1847.toNat, 0]

def k0_chk78 (v733 : BitVec 32) : Prop :=
  (∀ a, (k0_off158 v733) a + S1x64.size a ≤ S2048x128.size a) ∧
  (∀ a, (k0_off238 v733) a + S1x128.size a ≤ S2048x128.size a)
theorem k0_off158_inb : ∀ (v733 : BitVec 32) (k0_hw78 : k0_chk78 v733), ∀ a, (k0_off158 v733) a + S1x64.size a ≤ S2048x128.size a := fun v733 k0_hw78 => k0_hw78.1
theorem k0_off238_inb : ∀ (v733 : BitVec 32) (k0_hw78 : k0_chk78 v733), ∀ a, (k0_off238 v733) a + S1x128.size a ≤ S2048x128.size a := fun v733 k0_hw78 => k0_hw78.2

def k0_off239 (v737 : BitVec 32) : Fin 2 → Nat :=
  let v1855 : Index := Scalar.indexCast v737
  let c0_844 : Index := 0#32
  ![v1855.toNat, 0]

def k0_chk79 (v737 : BitVec 32) : Prop :=
  (∀ a, (k0_off159 v737) a + S1x64.size a ≤ S2048x128.size a) ∧
  (∀ a, (k0_off239 v737) a + S1x128.size a ≤ S2048x128.size a)
theorem k0_off159_inb : ∀ (v737 : BitVec 32) (k0_hw79 : k0_chk79 v737), ∀ a, (k0_off159 v737) a + S1x64.size a ≤ S2048x128.size a := fun v737 k0_hw79 => k0_hw79.1
theorem k0_off239_inb : ∀ (v737 : BitVec 32) (k0_hw79 : k0_chk79 v737), ∀ a, (k0_off239 v737) a + S1x128.size a ≤ S2048x128.size a := fun v737 k0_hw79 => k0_hw79.2

def k0_off240 (v741 : BitVec 32) : Fin 2 → Nat :=
  let v1863 : Index := Scalar.indexCast v741
  let c0_846 : Index := 0#32
  ![v1863.toNat, 0]

def k0_chk80 (v741 : BitVec 32) : Prop :=
  (∀ a, (k0_off160 v741) a + S1x64.size a ≤ S2048x128.size a) ∧
  (∀ a, (k0_off240 v741) a + S1x128.size a ≤ S2048x128.size a)
theorem k0_off160_inb : ∀ (v741 : BitVec 32) (k0_hw80 : k0_chk80 v741), ∀ a, (k0_off160 v741) a + S1x64.size a ≤ S2048x128.size a := fun v741 k0_hw80 => k0_hw80.1
theorem k0_off240_inb : ∀ (v741 : BitVec 32) (k0_hw80 : k0_chk80 v741), ∀ a, (k0_off240 v741) a + S1x128.size a ≤ S2048x128.size a := fun v741 k0_hw80 => k0_hw80.2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S16x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== AttendReferenceIdeal.lean ====
abbrev S16x128 : Shape := ⟨2, ![16, 128]⟩
abbrev S1x2048x16x64 : Shape := ⟨4, ![1, 2048, 16, 64]⟩
abbrev S1x16x2048x64 : Shape := ⟨4, ![1, 16, 2048, 64]⟩
abbrev S16x40 : Shape := ⟨2, ![16, 40]⟩
abbrev S1x16x40 : Shape := ⟨3, ![1, 16, 40]⟩
abbrev S1x16x40x1 : Shape := ⟨4, ![1, 16, 40, 1]⟩
abbrev S_ : Shape := ⟨0, ![]⟩
abbrev S16x40x1 : Shape := ⟨3, ![16, 40, 1]⟩
abbrev S1 : Shape := ⟨1, ![1]⟩
abbrev S1x1x1 : Shape := ⟨3, ![1, 1, 1]⟩
abbrev S1x16x40x64 : Shape := ⟨4, ![1, 16, 40, 64]⟩
abbrev S1x16x64x2048 : Shape := ⟨4, ![1, 16, 64, 2048]⟩
abbrev S16x40x64 : Shape := ⟨3, ![16, 40, 64]⟩
abbrev S16x64x2048 : Shape := ⟨3, ![16, 64, 2048]⟩
abbrev S16x40x2048 : Shape := ⟨3, ![16, 40, 2048]⟩
abbrev S1x16x40x2048 : Shape := ⟨4, ![1, 16, 40, 2048]⟩
abbrev S1x16x64 : Shape := ⟨3, ![1, 16, 64]⟩
abbrev S1x16x1x64 : Shape := ⟨4, ![1, 16, 1, 64]⟩
abbrev S16x2048x64 : Shape := ⟨3, ![16, 2048, 64]⟩
abbrev S16 : Shape := ⟨1, ![16]⟩
abbrev S1x16x1 : Shape := ⟨3, ![1, 16, 1]⟩
abbrev S1x16x40x3 : Shape := ⟨4, ![1, 16, 40, 3]⟩
abbrev S2048x1024 : Shape := ⟨2, ![2048, 1024]⟩

abbrev nBuf : Space → Nat
  | .hbm => 100
  | .vmem => 0
  | .smem => 0
  | _ => 0

abbrev bufTy : (tb : Table) → Fin (tcTables nBuf tb) → BufTy
  | .hbm, ⟨0, _⟩ => ⟨S16x128, .i32⟩
  | .hbm, ⟨1, _⟩ => ⟨S1x2048x16x64, .f32⟩
  | .hbm, ⟨2, _⟩ => ⟨S1x2048x16x64, .f32⟩
  | .hbm, ⟨3, _⟩ => ⟨S1x2048x16x64, .f32⟩
  | .hbm, ⟨4, _⟩ => ⟨S1x16x2048x64, .f32⟩
  | .hbm, ⟨5, _⟩ => ⟨S1x16x2048x64, .f32⟩
  | .hbm, ⟨6, _⟩ => ⟨S1x16x2048x64, .f32⟩
  | .hbm, ⟨7, _⟩ => ⟨S16x40, .i32⟩
  | .hbm, ⟨8, _⟩ => ⟨S1x16x40, .i32⟩
  | .hbm, ⟨9, _⟩ => ⟨S1x16x40x1, .i32⟩
  | .hbm, ⟨10, _⟩ => ⟨S_, .i32⟩
  | .hbm, ⟨11, _⟩ => ⟨S1x16x40x1, .i32⟩
  | .hbm, ⟨12, _⟩ => ⟨S1x16x40x1, .i1⟩
  | .hbm, ⟨13, _⟩ => ⟨S_, .i32⟩
  | .hbm, ⟨14, _⟩ => ⟨S1x16x40x1, .i32⟩
  | .hbm, ⟨15, _⟩ => ⟨S1x16x40x1, .i32⟩
  | .hbm, ⟨16, _⟩ => ⟨S1x16x40x1, .i32⟩
  | .hbm, ⟨17, _⟩ => ⟨S16x40x1, .i32⟩
  | .hbm, ⟨18, _⟩ => ⟨S1, .i32⟩
  | .hbm, ⟨19, _⟩ => ⟨S_, .i32⟩
  | .hbm, ⟨20, _⟩ => ⟨S16x40x1, .i32⟩
  | .hbm, ⟨21, _⟩ => ⟨S16x40x1, .i1⟩
  | .hbm, ⟨22, _⟩ => ⟨S1x1x1, .i32⟩
  | .hbm, ⟨23, _⟩ => ⟨S16x40x1, .i32⟩
  | .hbm, ⟨24, _⟩ => ⟨S16x40x1, .i1⟩
  | .hbm, ⟨25, _⟩ => ⟨S16x40x1, .i1⟩
  | .hbm, ⟨26, _⟩ => ⟨S_, .i1⟩
  | .hbm, ⟨27, _⟩ => ⟨S16x40, .i1⟩
  | .hbm, ⟨28, _⟩ => ⟨S1x16x40x64, .f32⟩
  | .hbm, ⟨29, _⟩ => ⟨S1x16x40x64, .i1⟩
  | .hbm, ⟨30, _⟩ => ⟨S_, .f32⟩
  | .hbm, ⟨31, _⟩ => ⟨S1x16x40x64, .f32⟩
  | .hbm, ⟨32, _⟩ => ⟨S1x16x40x64, .f32⟩
  | .hbm, ⟨33, _⟩ => ⟨S1x16x64x2048, .f32⟩
  | .hbm, ⟨34, _⟩ => ⟨S16x40x64, .f32⟩
  | .hbm, ⟨35, _⟩ => ⟨S16x64x2048, .f32⟩
  | .hbm, ⟨36, _⟩ => ⟨S16x40x2048, .f32⟩
  | .hbm, ⟨37, _⟩ => ⟨S1x16x40x2048, .f32⟩
  | .hbm, ⟨38, _⟩ => ⟨S_, .f32⟩
  | .hbm, ⟨39, _⟩ => ⟨S1x16x40x2048, .f32⟩
  | .hbm, ⟨40, _⟩ => ⟨S1x16x40x2048, .f32⟩
  | .hbm, ⟨41, _⟩ => ⟨S_, .f32⟩
  | .hbm, ⟨42, _⟩ => ⟨S1x16x64, .f32⟩
  | .hbm, ⟨43, _⟩ => ⟨S1x16x1x64, .f32⟩
  | .hbm, ⟨44, _⟩ => ⟨S_, .f32⟩
  | .hbm, ⟨45, _⟩ => ⟨S1x16x1x64, .f32⟩
  | .hbm, ⟨46, _⟩ => ⟨S1x16x1x64, .f32⟩
  | .hbm, ⟨47, _⟩ => ⟨S1x16x2048x64, .f32⟩
  | .hbm, ⟨48, _⟩ => ⟨S_, .f32⟩
  | .hbm, ⟨49, _⟩ => ⟨S1x16x40, .f32⟩
  | .hbm, ⟨50, _⟩ => ⟨S_, .f32⟩
  | .hbm, ⟨51, _⟩ => ⟨S1x16x40, .f32⟩
  | .hbm, ⟨52, _⟩ => ⟨S1x16x40, .f32⟩
  | .hbm, ⟨53, _⟩ => ⟨S1x16x40x1, .f32⟩
  | .hbm, ⟨54, _⟩ => ⟨S1x16x40x2048, .f32⟩
  | .hbm, ⟨55, _⟩ => ⟨S1x16x40x2048, .f32⟩
  | .hbm, ⟨56, _⟩ => ⟨S1x16x40x2048, .f32⟩
  | .hbm, ⟨57, _⟩ => ⟨S_, .f32⟩
  | .hbm, ⟨58, _⟩ => ⟨S1x16x40, .f32⟩
  | .hbm, ⟨59, _⟩ => ⟨S1x16x40x1, .f32⟩
  | .hbm, ⟨60, _⟩ => ⟨S1x16x40x2048, .f32⟩
  | .hbm, ⟨61, _⟩ => ⟨S1x16x40x2048, .f32⟩
  | .hbm, ⟨62, _⟩ => ⟨S16x40x2048, .f32⟩
  | .hbm, ⟨63, _⟩ => ⟨S16x2048x64, .f32⟩
  | .hbm, ⟨64, _⟩ => ⟨S16x40x64, .f32⟩
  | .hbm, ⟨65, _⟩ => ⟨S1x16x40x64, .f32⟩
  | .hbm, ⟨66, _⟩ => ⟨S1, .i32⟩
  | .hbm, ⟨67, _⟩ => ⟨S1x1x1, .i32⟩
  | .hbm, ⟨68, _⟩ => ⟨S16, .i32⟩
  | .hbm, ⟨69, _⟩ => ⟨S1x16x1, .i32⟩
  | .hbm, ⟨70, _⟩ => ⟨S_, .i32⟩
  | .hbm, ⟨71, _⟩ => ⟨S1x1x1, .i32⟩
  | .hbm, ⟨72, _⟩ => ⟨S1x1x1, .i1⟩
  | .hbm, ⟨73, _⟩ => ⟨S_, .i32⟩
  | .hbm, ⟨74, _⟩ => ⟨S1x1x1, .i32⟩
  | .hbm, ⟨75, _⟩ => ⟨S1x1x1, .i32⟩
  | .hbm, ⟨76, _⟩ => ⟨S1x1x1, .i32⟩
  | .hbm, ⟨77, _⟩ => ⟨S_, .i32⟩
  | .hbm, ⟨78, _⟩ => ⟨S1x16x1, .i32⟩
  | .hbm, ⟨79, _⟩ => ⟨S1x16x1, .i1⟩
  | .hbm, ⟨80, _⟩ => ⟨S_, .i32⟩
  | .hbm, ⟨81, _⟩ => ⟨S1x16x1, .i32⟩
  | .hbm, ⟨82, _⟩ => ⟨S1x16x1, .i32⟩
  | .hbm, ⟨83, _⟩ => ⟨S1x16x1, .i32⟩
  | .hbm, ⟨84, _⟩ => ⟨S_, .i32⟩
  | .hbm, ⟨85, _⟩ => ⟨S1x16x40, .i32⟩
  | .hbm, ⟨86, _⟩ => ⟨S1x16x40, .i1⟩
  | .hbm, ⟨87, _⟩ => ⟨S_, .i32⟩
  | .hbm, ⟨88, _⟩ => ⟨S1x16x40, .i32⟩
  | .hbm, ⟨89, _⟩ => ⟨S1x16x40, .i32⟩
  | .hbm, ⟨90, _⟩ => ⟨S1x16x40, .i32⟩
  | .hbm, ⟨91, _⟩ => ⟨S1x16x40, .i32⟩
  | .hbm, ⟨92, _⟩ => ⟨S1x16x40, .i32⟩
  | .hbm, ⟨93, _⟩ => ⟨S1x16x40x1, .i32⟩
  | .hbm, ⟨94, _⟩ => ⟨S1x16x40x1, .i32⟩
  | .hbm, ⟨95, _⟩ => ⟨S1x16x40x1, .i32⟩
  | .hbm, ⟨96, _⟩ => ⟨S1x16x40x3, .i32⟩
  | .hbm, ⟨97, _⟩ => ⟨S1x16x2048x64, .f32⟩
  | .hbm, ⟨98, _⟩ => ⟨S1x2048x16x64, .f32⟩
  | .hbm, ⟨99, _⟩ => ⟨S2048x1024, .f32⟩
  | _, _ => ⟨S16x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_cst : Ref sig .tc := ⟨.hbm, 38, rfl⟩
abbrev main_v12 : Ref sig .tc := ⟨.hbm, 39, rfl⟩
abbrev main_v13 : Ref sig .tc := ⟨.hbm, 40, rfl⟩
abbrev main_cst_0 : Ref sig .tc := ⟨.hbm, 41, rfl⟩
abbrev main_v14 : Ref sig .tc := ⟨.hbm, 42, rfl⟩
abbrev main_v15 : Ref sig .tc := ⟨.hbm, 43, rfl⟩
abbrev main_cst_1 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_cst_2 : Ref sig .tc := ⟨.hbm, 48, rfl⟩
abbrev main_v19 : Ref sig .tc := ⟨.hbm, 49, rfl⟩
abbrev main_cst_3 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_cst_4 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_c : Ref sig .tc := ⟨.hbm, 70, rfl⟩
abbrev main_v38 : Ref sig .tc := ⟨.hbm, 71, rfl⟩
abbrev main_v39 : Ref sig .tc := ⟨.hbm, 72, rfl⟩
abbrev main_c_5 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_c_6 : Ref sig .tc := ⟨.hbm, 77, rfl⟩
abbrev main_v43 : Ref sig .tc := ⟨.hbm, 78, rfl⟩
abbrev main_v44 : Ref sig .tc := ⟨.hbm, 79, rfl⟩
abbrev main_c_7 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_c_8 : Ref sig .tc := ⟨.hbm, 84, rfl⟩
abbrev main_v48 : Ref sig .tc := ⟨.hbm, 85, rfl⟩
abbrev main_v49 : Ref sig .tc := ⟨.hbm, 86, rfl⟩
abbrev main_c_9 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩

abbrev nD : Nat := 1
abbrev τ : Topo := Topo.v7x

variable {F : FTy → Type} [FloatOps F]
-- ==== ReferenceIdeal.lean ====
abbrev S1x2048x16x64 : Shape := ⟨4, ![1, 2048, 16, 64]⟩
abbrev S2048x40 : Shape := ⟨2, ![2048, 40]⟩
abbrev S1x16x2048x64 : Shape := ⟨4, ![1, 16, 2048, 64]⟩
abbrev S_ : Shape := ⟨0, ![]⟩
abbrev S2048x40x1 : Shape := ⟨3, ![2048, 40, 1]⟩
abbrev S1x16x2048x40x64 : Shape := ⟨5, ![1, 16, 2048, 40, 64]⟩
abbrev S1x16x2048x1x64 : Shape := ⟨5, ![1, 16, 2048, 1, 64]⟩
abbrev S1x16x2048x64x40 : Shape := ⟨5, ![1, 16, 2048, 64, 40]⟩
abbrev S16x2048x1x64 : Shape := ⟨4, ![16, 2048, 1, 64]⟩
abbrev S16x2048x64x40 : Shape := ⟨4, ![16, 2048, 64, 40]⟩
abbrev S16x2048x1x40 : Shape := ⟨4, ![16, 2048, 1, 40]⟩
abbrev S1x16x2048x1x40 : Shape := ⟨5, ![1, 16, 2048, 1, 40]⟩
abbrev S1x16x2048x40 : Shape := ⟨4, ![1, 16, 2048, 40]⟩
abbrev S1x16x2048 : Shape := ⟨3, ![1, 16, 2048]⟩
abbrev S1x16x40 : Shape := ⟨3, ![1, 16, 40]⟩
abbrev S1x16x40x1 : Shape := ⟨4, ![1, 16, 40, 1]⟩
abbrev S16x40x1 : Shape := ⟨3, ![16, 40, 1]⟩
abbrev S1 : Shape := ⟨1, ![1]⟩
abbrev S1x1x1 : Shape := ⟨3, ![1, 1, 1]⟩
abbrev S16x40 : Shape := ⟨2, ![16, 40]⟩
abbrev S1x16x40x64 : Shape := ⟨4, ![1, 16, 40, 64]⟩
abbrev S1x16x64x2048 : Shape := ⟨4, ![1, 16, 64, 2048]⟩
abbrev S16x40x64 : Shape := ⟨3, ![16, 40, 64]⟩
abbrev S16x64x2048 : Shape := ⟨3, ![16, 64, 2048]⟩
abbrev S16x40x2048 : Shape := ⟨3, ![16, 40, 2048]⟩
abbrev S1x16x40x2048 : Shape := ⟨4, ![1, 16, 40, 2048]⟩
abbrev S1x16x64 : Shape := ⟨3, ![1, 16, 64]⟩
abbrev S1x16x1x64 : Shape := ⟨4, ![1, 16, 1, 64]⟩
abbrev S16x2048x64 : Shape := ⟨3, ![16, 2048, 64]⟩
abbrev S16 : Shape := ⟨1, ![16]⟩
abbrev S1x16x1 : Shape := ⟨3, ![1, 16, 1]⟩
abbrev S1x16x40x3 : Shape := ⟨4, ![1, 16, 40, 3]⟩

abbrev nBuf : Space → Nat
  | .hbm => 123
  | .vmem => 0
  | .smem => 0
  | _ => 0

abbrev bufTy : (tb : Table) → Fin (tcTables nBuf tb) → BufTy
  | .hbm, ⟨0, _⟩ => ⟨S1x2048x16x64, .f32⟩
  | .hbm, ⟨1, _⟩ => ⟨S1x2048x16x64, .f32⟩
  | .hbm, ⟨2, _⟩ => ⟨S1x2048x16x64, .f32⟩
  | .hbm, ⟨3, _⟩ => ⟨S2048x40, .i32⟩
  | .hbm, ⟨4, _⟩ => ⟨S1x16x2048x64, .f32⟩
  | .hbm, ⟨5, _⟩ => ⟨S1x16x2048x64, .f32⟩
  | .hbm, ⟨6, _⟩ => ⟨S1x16x2048x64, .f32⟩
  | .hbm, ⟨7, _⟩ => ⟨S_, .i32⟩
  | .hbm, ⟨8, _⟩ => ⟨S2048x40, .i32⟩
  | .hbm, ⟨9, _⟩ => ⟨S2048x40, .i1⟩
  | .hbm, ⟨10, _⟩ => ⟨S_, .i32⟩
  | .hbm, ⟨11, _⟩ => ⟨S2048x40, .i32⟩
  | .hbm, ⟨12, _⟩ => ⟨S2048x40, .i32⟩
  | .hbm, ⟨13, _⟩ => ⟨S2048x40, .i32⟩
  | .hbm, ⟨14, _⟩ => ⟨S2048x40x1, .i32⟩
  | .hbm, ⟨15, _⟩ => ⟨S1x16x2048x40x64, .f32⟩
  | .hbm, ⟨16, _⟩ => ⟨S1x16x2048x1x64, .f32⟩
  | .hbm, ⟨17, _⟩ => ⟨S1x16x2048x64x40, .f32⟩
  | .hbm, ⟨18, _⟩ => ⟨S16x2048x1x64, .f32⟩
  | .hbm, ⟨19, _⟩ => ⟨S16x2048x64x40, .f32⟩
  | .hbm, ⟨20, _⟩ => ⟨S16x2048x1x40, .f32⟩
  | .hbm, ⟨21, _⟩ => ⟨S1x16x2048x1x40, .f32⟩
  | .hbm, ⟨22, _⟩ => ⟨S1x16x2048x40, .f32⟩
  | .hbm, ⟨23, _⟩ => ⟨S_, .f32⟩
  | .hbm, ⟨24, _⟩ => ⟨S1x16x2048, .f32⟩
  | .hbm, ⟨25, _⟩ => ⟨S_, .f32⟩
  | .hbm, ⟨26, _⟩ => ⟨S1x16x2048, .f32⟩
  | .hbm, ⟨27, _⟩ => ⟨S_, .f32⟩
  | .hbm, ⟨28, _⟩ => ⟨S1x16x2048, .f32⟩
  | .hbm, ⟨29, _⟩ => ⟨S1x16x2048, .f32⟩
  | .hbm, ⟨30, _⟩ => ⟨S1x16x2048, .f32⟩
  | .hbm, ⟨31, _⟩ => ⟨S1x16x40, .f32⟩
  | .hbm, ⟨32, _⟩ => ⟨S1x16x40, .i32⟩
  | .hbm, ⟨33, _⟩ => ⟨S1x16x40x1, .i32⟩
  | .hbm, ⟨34, _⟩ => ⟨S_, .i32⟩
  | .hbm, ⟨35, _⟩ => ⟨S1x16x40x1, .i32⟩
  | .hbm, ⟨36, _⟩ => ⟨S1x16x40x1, .i1⟩
  | .hbm, ⟨37, _⟩ => ⟨S_, .i32⟩
  | .hbm, ⟨38, _⟩ => ⟨S1x16x40x1, .i32⟩
  | .hbm, ⟨39, _⟩ => ⟨S1x16x40x1, .i32⟩
  | .hbm, ⟨40, _⟩ => ⟨S1x16x40x1, .i32⟩
  | .hbm, ⟨41, _⟩ => ⟨S16x40x1, .i32⟩
  | .hbm, ⟨42, _⟩ => ⟨S1, .i32⟩
  | .hbm, ⟨43, _⟩ => ⟨S_, .i32⟩
  | .hbm, ⟨44, _⟩ => ⟨S16x40x1, .i32⟩
  | .hbm, ⟨45, _⟩ => ⟨S16x40x1, .i1⟩
  | .hbm, ⟨46, _⟩ => ⟨S1x1x1, .i32⟩
  | .hbm, ⟨47, _⟩ => ⟨S16x40x1, .i32⟩
  | .hbm, ⟨48, _⟩ => ⟨S16x40x1, .i1⟩
  | .hbm, ⟨49, _⟩ => ⟨S16x40x1, .i1⟩
  | .hbm, ⟨50, _⟩ => ⟨S_, .i1⟩
  | .hbm, ⟨51, _⟩ => ⟨S16x40, .i1⟩
  | .hbm, ⟨52, _⟩ => ⟨S1x16x40x64, .f32⟩
  | .hbm, ⟨53, _⟩ => ⟨S1x16x40x64, .i1⟩
  | .hbm, ⟨54, _⟩ => ⟨S_, .f32⟩
  | .hbm, ⟨55, _⟩ => ⟨S1x16x40x64, .f32⟩
  | .hbm, ⟨56, _⟩ => ⟨S1x16x40x64, .f32⟩
  | .hbm, ⟨57, _⟩ => ⟨S1x16x64x2048, .f32⟩
  | .hbm, ⟨58, _⟩ => ⟨S16x40x64, .f32⟩
  | .hbm, ⟨59, _⟩ => ⟨S16x64x2048, .f32⟩
  | .hbm, ⟨60, _⟩ => ⟨S16x40x2048, .f32⟩
  | .hbm, ⟨61, _⟩ => ⟨S1x16x40x2048, .f32⟩
  | .hbm, ⟨62, _⟩ => ⟨S_, .f32⟩
  | .hbm, ⟨63, _⟩ => ⟨S1x16x40x2048, .f32⟩
  | .hbm, ⟨64, _⟩ => ⟨S1x16x40x2048, .f32⟩
  | .hbm, ⟨65, _⟩ => ⟨S_, .f32⟩
  | .hbm, ⟨66, _⟩ => ⟨S1x16x64, .f32⟩
  | .hbm, ⟨67, _⟩ => ⟨S1x16x1x64, .f32⟩
  | .hbm, ⟨68, _⟩ => ⟨S_, .f32⟩
  | .hbm, ⟨69, _⟩ => ⟨S1x16x1x64, .f32⟩
  | .hbm, ⟨70, _⟩ => ⟨S1x16x1x64, .f32⟩
  | .hbm, ⟨71, _⟩ => ⟨S1x16x2048x64, .f32⟩
  | .hbm, ⟨72, _⟩ => ⟨S_, .f32⟩
  | .hbm, ⟨73, _⟩ => ⟨S1x16x40, .f32⟩
  | .hbm, ⟨74, _⟩ => ⟨S_, .f32⟩
  | .hbm, ⟨75, _⟩ => ⟨S1x16x40, .f32⟩
  | .hbm, ⟨76, _⟩ => ⟨S1x16x40, .f32⟩
  | .hbm, ⟨77, _⟩ => ⟨S1x16x40x1, .f32⟩
  | .hbm, ⟨78, _⟩ => ⟨S1x16x40x2048, .f32⟩
  | .hbm, ⟨79, _⟩ => ⟨S1x16x40x2048, .f32⟩
  | .hbm, ⟨80, _⟩ => ⟨S1x16x40x2048, .f32⟩
  | .hbm, ⟨81, _⟩ => ⟨S_, .f32⟩
  | .hbm, ⟨82, _⟩ => ⟨S1x16x40, .f32⟩
  | .hbm, ⟨83, _⟩ => ⟨S1x16x40x1, .f32⟩
  | .hbm, ⟨84, _⟩ => ⟨S1x16x40x2048, .f32⟩
  | .hbm, ⟨85, _⟩ => ⟨S1x16x40x2048, .f32⟩
  | .hbm, ⟨86, _⟩ => ⟨S16x40x2048, .f32⟩
  | .hbm, ⟨87, _⟩ => ⟨S16x2048x64, .f32⟩
  | .hbm, ⟨88, _⟩ => ⟨S16x40x64, .f32⟩
  | .hbm, ⟨89, _⟩ => ⟨S1x16x40x64, .f32⟩
  | .hbm, ⟨90, _⟩ => ⟨S1, .i32⟩
  | .hbm, ⟨91, _⟩ => ⟨S1x1x1, .i32⟩
  | .hbm, ⟨92, _⟩ => ⟨S16, .i32⟩
  | .hbm, ⟨93, _⟩ => ⟨S1x16x1, .i32⟩
  | .hbm, ⟨94, _⟩ => ⟨S_, .i32⟩
  | .hbm, ⟨95, _⟩ => ⟨S1x1x1, .i32⟩
  | .hbm, ⟨96, _⟩ => ⟨S1x1x1, .i1⟩
  | .hbm, ⟨97, _⟩ => ⟨S_, .i32⟩
  | .hbm, ⟨98, _⟩ => ⟨S1x1x1, .i32⟩
  | .hbm, ⟨99, _⟩ => ⟨S1x1x1, .i32⟩
  | .hbm, ⟨100, _⟩ => ⟨S1x1x1, .i32⟩
  | .hbm, ⟨101, _⟩ => ⟨S_, .i32⟩
  | .hbm, ⟨102, _⟩ => ⟨S1x16x1, .i32⟩
  | .hbm, ⟨103, _⟩ => ⟨S1x16x1, .i1⟩
  | .hbm, ⟨104, _⟩ => ⟨S_, .i32⟩
  | .hbm, ⟨105, _⟩ => ⟨S1x16x1, .i32⟩
  | .hbm, ⟨106, _⟩ => ⟨S1x16x1, .i32⟩
  | .hbm, ⟨107, _⟩ => ⟨S1x16x1, .i32⟩
  | .hbm, ⟨108, _⟩ => ⟨S_, .i32⟩
  | .hbm, ⟨109, _⟩ => ⟨S1x16x40, .i32⟩
  | .hbm, ⟨110, _⟩ => ⟨S1x16x40, .i1⟩
  | .hbm, ⟨111, _⟩ => ⟨S_, .i32⟩
  | .hbm, ⟨112, _⟩ => ⟨S1x16x40, .i32⟩
  | .hbm, ⟨113, _⟩ => ⟨S1x16x40, .i32⟩
  | .hbm, ⟨114, _⟩ => ⟨S1x16x40, .i32⟩
  | .hbm, ⟨115, _⟩ => ⟨S1x16x40, .i32⟩
  | .hbm, ⟨116, _⟩ => ⟨S1x16x40, .i32⟩
  | .hbm, ⟨117, _⟩ => ⟨S1x16x40x1, .i32⟩
  | .hbm, ⟨118, _⟩ => ⟨S1x16x40x1, .i32⟩
  | .hbm, ⟨119, _⟩ => ⟨S1x16x40x1, .i32⟩
  | .hbm, ⟨120, _⟩ => ⟨S1x16x40x3, .i32⟩
  | .hbm, ⟨121, _⟩ => ⟨S1x16x2048x64, .f32⟩
  | .hbm, ⟨122, _⟩ => ⟨S1x2048x16x64, .f32⟩
  | _, _ => ⟨S1x2048x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_values : Ref sig .tc := ⟨.hbm, 31, rfl⟩
abbrev main_indices : Ref sig .tc := ⟨.hbm, 32, rfl⟩
abbrev main_v22 : Ref sig .tc := ⟨.hbm, 33, rfl⟩
abbrev main_call0_c : Ref sig .tc := ⟨.hbm, 34, rfl⟩
abbrev main_call0_v0 : Ref sig .tc := ⟨.hbm, 35, rfl⟩
abbrev main_call0_v1 : Ref sig .tc := ⟨.hbm, 36, rfl⟩
abbrev main_call0_c_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_c_1 : Ref sig .tc := ⟨.hbm, 42, rfl⟩
abbrev main_call0_c_2 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_c_3 : Ref sig .tc := ⟨.hbm, 50, rfl⟩
abbrev main_call0_v12 : Ref sig .tc := ⟨.hbm, 51, rfl⟩
abbrev main_call0_v13 : Ref sig .tc := ⟨.hbm, 52, rfl⟩
abbrev main_call0_v14 : Ref sig .tc := ⟨.hbm, 53, rfl⟩
abbrev main_call0_cst : Ref sig .tc := ⟨.hbm, 54, rfl⟩
abbrev main_call0_v15 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_cst_3 : Ref sig .tc := ⟨.hbm, 62, rfl⟩
abbrev main_v29 : Ref sig .tc := ⟨.hbm, 63, rfl⟩
abbrev main_v30 : Ref sig .tc := ⟨.hbm, 64, rfl⟩
abbrev main_cst_4 : Ref sig .tc := ⟨.hbm, 65, rfl⟩
abbrev main_v31 : Ref sig .tc := ⟨.hbm, 66, rfl⟩
abbrev main_v32 : Ref sig .tc := ⟨.hbm, 67, rfl⟩
abbrev main_cst_5 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_cst_6 : Ref sig .tc := ⟨.hbm, 72, rfl⟩
abbrev main_v36 : Ref sig .tc := ⟨.hbm, 73, rfl⟩
abbrev main_cst_7 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_cst_8 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_c_9 : Ref sig .tc := ⟨.hbm, 94, rfl⟩
abbrev main_v55 : Ref sig .tc := ⟨.hbm, 95, rfl⟩
abbrev main_v56 : Ref sig .tc := ⟨.hbm, 96, rfl⟩
abbrev main_c_10 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_c_11 : Ref sig .tc := ⟨.hbm, 101, rfl⟩
abbrev main_v60 : Ref sig .tc := ⟨.hbm, 102, rfl⟩
abbrev main_v61 : Ref sig .tc := ⟨.hbm, 103, rfl⟩
abbrev main_c_12 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_c_13 : Ref sig .tc := ⟨.hbm, 108, rfl⟩
abbrev main_v65 : Ref sig .tc := ⟨.hbm, 109, rfl⟩
abbrev main_v66 : Ref sig .tc := ⟨.hbm, 110, rfl⟩
abbrev main_c_14 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩

abbrev nD : Nat := 1
abbrev τ : Topo := Topo.v7x

variable {F : FTy → Type} [FloatOps F]
-- ==== Proof.SelectRun.lean ====
/- The selection call's body, at the extended reals: at every one of the eight grid points it runs to the end. -/
module

public import proofs.«01_k».proof.Proof.Gen.SelectIdeal.Skeleton
public import proofs.«01_k».proof.Proof.Gen.SelectIdeal.Frame

@[expose] public section

set_option maxRecDepth 16384

noncomputable section

namespace Cert.SelectIdeal.Hand

open Cert.SelectIdeal Cert.SelectIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the body works on at one grid point: the core, the point, the buffers, and the blocks of queries and keys and the
    two tables that the input buffers hold. -/
structure Env (F : FTy → Type) where
  c : Dev nD
  i : grid0.Coords
  arg1 : Memref sig .tc .vmem S2048x128 .f32
  arg2 : Memref sig .tc .vmem S2048x128 .f32
  arg3 : Memref sig .tc .vmem S2048x2048 .f32
  arg4 : Memref sig .tc .vmem S2048x2048 .f32
  arg5 : Memref sig .tc .vmem S16x128 .i32
  arg6 : Memref sig .tc .vmem S16x2048 .f32
  arg7 : Memref sig .tc .vmem S2x2048x64 .f32
  harg1 : arg1.IsWhole
  harg2 : arg2.IsWhole
  harg3 : arg3.IsWhole
  harg4 : arg4.IsWhole
  harg5 : arg5.IsWhole
  harg6 : arg6.IsWhole
  harg7 : arg7.IsWhole
  x0 : Vec F S2048x128 .f32
  x1 : Vec F S2048x128 .f32
  x2 : Vec F S2048x2048 .f32
  x3 : Vec F S2048x2048 .f32

/-- The body's test whether the grid point is `n`, as the body computes it. -/
abbrev holds (i : grid0.Coords) (n : BitVec 32) : Prop :=
  (Scalar.cmpi .ne (Scalar.extui (Scalar.cmpi .eq (BitVec.ofNat 32 (i 0).val) n)) 0#32) = 1#1

/-- At grid point `t` that test is `t = n`. -/
theorem holds_iff (t : Fin cfg0.N) (n : BitVec 32) (hn : n.toNat < 8) : holds (grid0.coords t) n ↔ t.val = n.toNat := by
  have ht : t.val < 8 := Nat.lt_of_lt_of_eq t.isLt N_0
  have e : (grid0.coords t 0).val = t.val / 1 % 8 := Pipeline.Grid.coords_val t 0 (by decide) rfl
  have e' : (grid0.coords t 0).val = t.val := by omega
  obtain ⟨q, hq⟩ : ∃ q, q = t.val := ⟨_, rfl⟩
  rw [holds, e', ← hq]
  rw [← hq] at ht
  have hx : n = BitVec.ofNat 32 n.toNat := by simp
  obtain ⟨r, hr⟩ : ∃ r, r = n.toNat := ⟨_, rfl⟩
  rw [hx, ← hr]
  rw [← hr] at hn
  have both : ∀ q < 8, ∀ r < 8, ((Scalar.cmpi .ne (Scalar.extui (Scalar.cmpi .eq (BitVec.ofNat 32 q) (BitVec.ofNat 32 r))) 0#32) = 1#1) ↔ q = (BitVec.ofNat 32 r).toNat := by
    decide
  exact both q ht r hn

set_option maxHeartbeats 0 in
/-- The body at one grid point `p`, whose tests `h0` to `h7` are those of the eight points: it hands the input buffers back with what
    they held, and leaves the output block and the two scratch buffers with some contents. The eight points differ only in the
    row of scores that is stored, and in the last one's selection; one run serves them all. -/
theorem kernelRun (e : Env F) (p : ℕ) (hp : p < 8)
    (h0 : holds e.i 0#32 ↔ p = 0)
    (h1 : holds e.i 1#32 ↔ p = 1)
    (h2 : holds e.i 2#32 ↔ p = 2)
    (h3 : holds e.i 3#32 ↔ p = 3)
    (h4 : holds e.i 4#32 ↔ p = 4)
    (h5 : holds e.i 5#32 ↔ p = 5)
    (h6 : holds e.i 6#32 ↔ p = 6)
    (h7 : holds e.i 7#32 ↔ p = 7) (E : Set ℕ) (K : PUnit → sProp 𝕄) :
    iprop(owns (e.c : Thread nD τ) e.arg1 fullShare e.x0 ∗ owns (e.c : Thread nD τ) e.arg2 fullShare e.x1 ∗ owns (e.c : Thread nD τ) e.arg3 fullShare e.x2 ∗ owns (e.c : Thread nD τ) e.arg4 fullShare e.x3
        ∗ (∃ d, owns (e.c : Thread nD τ) e.arg5 fullShare d) ∗ (∃ d, owns (e.c : Thread nD τ) e.arg6 fullShare d) ∗ (∃ d, owns (e.c : Thread nD τ) e.arg7 fullShare d)
        ∗ (iprop(owns (e.c : Thread nD τ) e.arg1 fullShare e.x0 ∗ owns (e.c : Thread nD τ) e.arg2 fullShare e.x1 ∗ owns (e.c : Thread nD τ) e.arg3 fullShare e.x2 ∗ owns (e.c : Thread nD τ) e.arg4 fullShare e.x3
            ∗ (∃ d, owns (e.c : Thread nD τ) e.arg5 fullShare d) ∗ (∃ d, owns (e.c : Thread nD τ) e.arg6 fullShare d) ∗ (∃ d, owns (e.c : Thread nD τ) e.arg7 fullShare d)) -∗ K ⟨⟩))
      ⊢ wp frame (wpE (defs₀ (F := F)) Variants.none e.c none) E
          (cc0__m_kernel e.i e.arg1 e.harg1 e.arg2 e.harg2 e.arg3 e.harg3 e.arg4 e.harg4 e.arg5 e.harg5 e.arg6 e.harg6 e.arg7 e.harg7) K := by
    have h17 : k0_cond17 e.i = 1#1 ↔ p = 7 := h7
    simp only [cc0__m_kernel_eq_skeleton]; unfold cc0__m_kernel_skel
    simp only [k0_part133_eq_skeleton, k0_part16_eq_skeleton, k0_part17_eq_skeleton, k0_part18_eq_skeleton, k0_part19_eq_skeleton,
      k0_part20_eq_skeleton, k0_part21_eq_skeleton, k0_part22_eq_skeleton, k0_part23_eq_skeleton, k0_part24_eq_skeleton, k0_part25_eq_skeleton,
      k0_part26_eq_skeleton, k0_part27_eq_skeleton, k0_part28_eq_skeleton, k0_part29_eq_skeleton, k0_part30_eq_skeleton, k0_part31_eq_skeleton,
      k0_part32_eq_skeleton, k0_part33_eq_skeleton, k0_part34_eq_skeleton, k0_part35_eq_skeleton, k0_part36_eq_skeleton, k0_part37_eq_skeleton,
      k0_part38_eq_skeleton, k0_part39_eq_skeleton, k0_part40_eq_skeleton, k0_part41_eq_skeleton, k0_part42_eq_skeleton, k0_part43_eq_skeleton,
      k0_part44_eq_skeleton, k0_part45_eq_skeleton, k0_part46_eq_skeleton, k0_part47_eq_skeleton, k0_part48_eq_skeleton, k0_part49_eq_skeleton,
      k0_part50_eq_skeleton, k0_part51_eq_skeleton, k0_part52_eq_skeleton, k0_part53_eq_skeleton, k0_part54_eq_skeleton, k0_part55_eq_skeleton,
      k0_part56_eq_skeleton, k0_part57_eq_skeleton, k0_part58_eq_skeleton, k0_part59_eq_skeleton, k0_part60_eq_skeleton, k0_part61_eq_skeleton,
      k0_part62_eq_skeleton, k0_part63_eq_skeleton, k0_part64_eq_skeleton, k0_part65_eq_skeleton, k0_part66_eq_skeleton, k0_part67_eq_skeleton,
      k0_part68_eq_skeleton, k0_part69_eq_skeleton, k0_part70_eq_skeleton, k0_part71_eq_skeleton, k0_part72_eq_skeleton, k0_part73_eq_skeleton,
      k0_part74_eq_skeleton, k0_part75_eq_skeleton, k0_part134_eq_skeleton, k0_part76_eq_skeleton, k0_part77_eq_skeleton, k0_part78_eq_skeleton,
      k0_part79_eq_skeleton, k0_part80_eq_skeleton, k0_part81_eq_skeleton, k0_part82_eq_skeleton, k0_part83_eq_skeleton, k0_part84_eq_skeleton,
      k0_part85_eq_skeleton, k0_part86_eq_skeleton, k0_part87_eq_skeleton, k0_part88_eq_skeleton, k0_part89_eq_skeleton, k0_part90_eq_skeleton,
      k0_part91_eq_skeleton, k0_part92_eq_skeleton, k0_part93_eq_skeleton, k0_part94_eq_skeleton, k0_part95_eq_skeleton, k0_part96_eq_skeleton,
      k0_part97_eq_skeleton, k0_part98_eq_skeleton, k0_part99_eq_skeleton, k0_part100_eq_skeleton, k0_part101_eq_skeleton, k0_part102_eq_skeleton,
      k0_part103_eq_skeleton, k0_part104_eq_skeleton, k0_part105_eq_skeleton, k0_part106_eq_skeleton, k0_part107_eq_skeleton, k0_part108_eq_skeleton,
      k0_part109_eq_skeleton, k0_part110_eq_skeleton, k0_part111_eq_skeleton, k0_part112_eq_skeleton, k0_part113_eq_skeleton, k0_part114_eq_skeleton,
      k0_part115_eq_skeleton, k0_part116_eq_skeleton, k0_part117_eq_skeleton, k0_part118_eq_skeleton, k0_part119_eq_skeleton, k0_part120_eq_skeleton,
      k0_part121_eq_skeleton, k0_part122_eq_skeleton, k0_part123_eq_skeleton, k0_part124_eq_skeleton, k0_part125_eq_skeleton, k0_part126_eq_skeleton,
      k0_part127_eq_skeleton, k0_part128_eq_skeleton, k0_part129_eq_skeleton, k0_part130_eq_skeleton, k0_part131_eq_skeleton, k0_part132_eq_skeleton,
      k0_part15_eq_skeleton, k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton, k0_part11_eq_skeleton,
      k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, Hk⟩
    obtain rfl := e.harg1.eq_unread hf0; obtain rfl := e.harg2.eq_unread hf1; obtain rfl := e.harg3.eq_unread hf2; obtain rfl := e.harg4.eq_unread hf3
    rcases (by omega : p = 0 ∨ p = 1 ∨ p = 2 ∨ p = 3 ∨ p = 4 ∨ p = 5 ∨ p = 6 ∨ p = 7) with rfl | rfl | rfl | rfl | rfl | rfl | rfl | rfl
    all_goals
      simp only [Nat.reduceEqDiff, OfNat.ofNat_ne_zero, zero_ne_one, one_ne_zero, OfNat.zero_ne_ofNat, OfNat.one_ne_ofNat, OfNat.ofNat_ne_one, iff_true, iff_false] at h0 h1 h2 h3 h4 h5 h6 h7 h17
      sl_exec (disch := first | sl_exact h0 | sl_exact h1 | sl_exact h2 | sl_exact h3 | sl_exact h4 | sl_exact h5 | sl_exact h6 | sl_exact h7 | sl_exact h17)
      sl_step
      iapply Hk
      isplitl [H0]
      · iexists _; isplitr; · ipureintro; exact e.harg1.read_unread _
        iexact H0
      isplitl [H1]
      · iexists _; isplitr; · ipureintro; exact e.harg2.read_unread _
        iexact H1
      isplitl [H2]
      · iexists _; isplitr; · ipureintro; exact e.harg3.read_unread _
        iexact H2
      isplitl [H3]
      · iexists _; isplitr; · ipureintro; exact e.harg4.read_unread _
        iexact H3
      isplitl [H4]
      · iexists _, _; isplitr; swap; · iexact H4
        ipureintro; rfl
      isplitl [HS0]
      · iexists _, _; isplitr; swap; · iexact HS0
        ipureintro; rfl
      iexists _, _; isplitr; swap; · iexact HS1
      ipureintro; rfl

end Cert.SelectIdeal.Hand

end
-- ==== Proof.SelectFrame.lean ====
/- The selection call, at the extended reals: it runs to the end and leaves its arguments unchanged. -/
module

public import proofs.«01_k».proof.Proof.SelectRun
public import Idealize.ShloMosaic.Lib.Claim

@[expose] public section

set_option maxRecDepth 16384

noncomputable section

namespace Cert.SelectIdeal.Hand

open Cert.SelectIdeal Cert.SelectIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The selected rows are written at the last point only; what the output buffer holds after a point is not named. -/
def unnamed0 : Fin 5 → Bool := fun w => w.val == 4

/-- What grid point `t` works on. -/
def envAt (c : Dev nD) (t : Fin cfg0.N) : Env F where
  c := c
  i := grid0.coords t
  arg1 := win0_0.stage (cfg0.slots t 0)
  harg1 := hstage0_0 ((cfg0.slots t 0).cast nbuf0_0)
  arg2 := win0_1.stage (cfg0.slots t 1)
  harg2 := hstage0_1 ((cfg0.slots t 1).cast nbuf0_1)
  arg3 := win0_2.stage (cfg0.slots t 2)
  harg3 := hstage0_2 ((cfg0.slots t 2).cast nbuf0_2)
  arg4 := win0_3.stage (cfg0.slots t 3)
  harg4 := hstage0_3 ((cfg0.slots t 3).cast nbuf0_3)
  arg5 := win0_4.stage (cfg0.slots t 4)
  harg5 := hstage0_4 ((cfg0.slots t 4).cast nbuf0_4)
  arg6 := Memref.whole cc0_scratch0
  harg6 := Memref.isWhole_whole _
  arg7 := Memref.whole cc0_scratch1
  harg7 := Memref.isWhole_whole _
  x0 := iblk m c 0 t
  x1 := iblk m c 1 t
  x2 := iblk m c 2 t
  x3 := iblk m c 3 t

/-- The pipeline's proof data on core `c`: the inputs' buffers keep their blocks, the output's holds anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ _ := Pipeline.ΦA spec0 c
  q _ := fullShare
  owed _ := 0

/-- The proof data's arrays are those the region is entered with. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The pipeline's invariant is the ownership of the two scratch buffers and of the generator register. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare d))

/-- What the body leaves at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (∃ d, owns (c : Thread nD τ) (st0_4 t) fullShare d))

/-- The body at any point runs from the blocks as fetched, and leaves them so. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, H4⟩
  iapply (kernelRun (envAt m c t) t.val (Nat.lt_of_lt_of_eq t.isLt N_0) (holds_iff t _ (by decide)) (holds_iff t _ (by decide)) (holds_iff t _ (by decide)) (holds_iff t _ (by decide))
    (holds_iff t _ (by decide)) (holds_iff t _ (by decide)) (holds_iff t _ (by decide)) (holds_iff t _ (by decide)) Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  iintro ⟨H0, H1, H2, H3, H4, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  iexact H4

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The library's obligation for the body, at every point. -/
theorem body_obligation (c : Dev nD) : BodyObligation (dats (F := F) m 0 c) (defs₀ (F := F)) Variants.none () Set.univ unnamed0 := fun t => by
  rw [bigSep_W0, bigSep_W0, defs₀_row]
  exact triple_restated (sound_body m c t) rfl .rfl fun _ => .rfl

set_option backward.isDefEq.respectTransparency.types false in
/-- The launch runs to the end, with the input arrays unchanged and every semaphore counter at zero. -/
theorem run_main : θ_run defs (onTc (τ := τ) (main (F := F))) (s₀ m ρ)
    (fun r => Pipeline.RDat.FramePost (cfgs 0) (fun c => (dats m 0 c).toRForget unnamed0) (V m) r ∧ r.2.sem = fun _ => 0) :=
  Pipeline.θ_run_frame_forget (Q' := _) cfgs (dats m) (0 : Fin 1) launch0 defs₀ Variants.none unnamed0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch ends with the argument arrays unchanged and every semaphore counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h' => ⟨fun c => by
    have h := h'.1
    exact ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩, h'.2⟩) (run_main m ρ)

end Cert.SelectIdeal.Hand

end
-- ==== Proof.AttendTerm.lean ====
module

public import proofs.«01_k».proof.Proof.Gen.AttendIdeal.Frame

@[expose] public section

set_option maxRecDepth 16384

noncomputable section

namespace Cert.AttendIdeal.Hand

open Cert.AttendIdeal Cert.AttendIdeal.Gen
open Idealize.ShloMosaic Idealize.ShloMosaic.TcCoe

variable {F : FTy → Type} [FloatOps F]

/-- What one grid point works on: the staging blocks of the row numbers, queries, keys and values with their contents, and the two
    scratch buffers; every row number lies below 2048. -/
structure Env (F : FTy → Type) [FloatOps F] where
  c : Dev nD
  i : grid0.Coords
  arg1 : Memref sig .tc .smem S16x128 .i32
  harg1 : arg1.IsWhole
  arg2 : Memref sig .tc .vmem S2048x128 .f32
  harg2 : arg2.IsWhole
  arg3 : Memref sig .tc .vmem S2048x128 .f32
  harg3 : arg3.IsWhole
  arg4 : Memref sig .tc .vmem S2048x128 .f32
  harg4 : arg4.IsWhole
  arg5 : Memref sig .tc .vmem S2048x128 .f32
  arg6 : Memref sig .tc .vmem S40x64 .f32
  arg7 : Memref sig .tc .vmem S40x2048 .f32
  x0 : Vec F S16x128 .i32
  x1 : Vec F S2048x128 .f32
  x2 : Vec F S2048x128 .f32
  x3 : Vec F S2048x128 .f32
  hw : ∀ (r : Rect S16x128) (y), (arg1.view.readAt (Elt F) r.toLoadRect (harg1.unread x0) y : BitVec 32).toNat < 2048

variable (e : Env F)

/-- The row of the word table that head `h` of the pair reads. -/
def headRow (h : Fin 2) : ℕ := (Scalar.addi (Scalar.muli 2#32 (BitVec.ofNat 32 (e.i 0).val)) (BitVec.ofNat 32 h.val)).toNat

/-- Head `h` of pair `p` reads row `2 p + h` of the word table. -/
theorem headRow_eq (h : Fin 2) : headRow e h = 2 * (e.i 0).val + h.val := by
  have h0 : (e.i 0).val < 8 := (e.i 0).isLt
  have h1 := h.isLt
  simp only [headRow, Scalar.addi, Scalar.muli, IntOp.addi, IntOp.muli, BitVec.toNat_add, BitVec.toNat_mul, BitVec.toNat_ofNat]
  omega

theorem word_inb (h : Fin 2) (n : Fin 40) : ∀ a, (![headRow e h, n.val] : Fin 2 → ℕ) a + S1x1.size a ≤ S16x128.size a := by
  have h0 : (e.i 0).val < 8 := (e.i 0).isLt
  have h1 := h.isLt; have h2 := n.isLt; have := headRow_eq e h
  intro a; fin_cases a <;> simp [S1x1, S16x128] <;> omega

/-- The `n`-th selected row number of head `h` of the pair: a word of the table. -/
def word (h : Fin 2) (n : Fin 40) : BitVec 32 :=
  View.readAt (Elt F) e.arg1.view (Rect.unit (s := S16x128) ![headRow e h, n.val] S1x1.size (word_inb e h n)).toLoadRect
    (e.harg1.unread e.x0) (Shape.Idx.first numel1_S1x1.symm.le)

theorem word_lt (h : Fin 2) (n : Fin 40) : (word e h n).toNat < 2048 := e.hw _ _

theorem qrow_inb (w : BitVec 32) (hw : w.toNat < 2048) (h : Fin 2) :
    ∀ a, (![w.toNat, 64 * h.val] : Fin 2 → ℕ) a + S1x64.size a ≤ S2048x128.size a := by
  have h1 := h.isLt
  intro a; fin_cases a <;> simp [S1x64, S2048x128] <;> omega

/-- The query row that the `n`-th word of head `h` names. -/
def qrow (h : Fin 2) (n : Fin 40) : Vec F S1x64 .f32 :=
  shapeCast S1x64 (shapeCast S1x64 (View.readAt (Elt F) e.arg2.view (Rect.unit (s := S2048x128) ![(word e h n).toNat, 64 * h.val] S1x64.size
    (qrow_inb _ (word_lt e h n) h)).toLoadRect (e.harg2.unread e.x1)) shapeCasts_S1x64_S1x64) shapeCasts_S1x64_S1x64

theorem chunk_inb (h : Fin 2) (k : Fin 8) : ∀ a, (![256 * k.val, 64 * h.val] : Fin 2 → ℕ) a + S256x64.size a ≤ S2048x128.size a := by
  have h1 := h.isLt; have h2 := k.isLt
  intro a; fin_cases a <;> simp [S256x64, S2048x128] <;> omega

/-- The scores of head `h`'s gathered queries against chunk `k` of the keys. -/
def scOf (h : Fin 2) (Q : Vec F S40x64 .f32) (k : Fin 8) : Vec F S40x256 .f32 :=
  mulf (matmul dot_S40x64_S256x64_S40x256_1_1_0_0_n_n none Q
    (shapeCast S256x64 (View.readAt (Elt F) e.arg3.view (Rect.unit (s := S2048x128) ![256 * k.val, 64 * h.val] S256x64.size (chunk_inb h k)).toLoadRect (e.harg3.unread e.x2)) shapeCasts_S256x64_S256x64)
    (constant S40x256 .f32 0x00000000#32)) (broadcast S40x256 (FloatOps.ofBits .f32 0x3E000000#32))

/-- The chunks of a block of 2048, in order. -/
def chunks : List (Fin 8) := [0, 1, 2, 3, 4, 5, 6, 7]

/-- The running maximum of the scores `s`. -/
def rmaxOf (s : Fin 8 → Vec F S40x256 .f32) : Vec F S40x1 .f32 :=
  chunks.foldl (fun acc k => maximumf acc (shapeCast S40x1 (multiReduction .maximumf [1] S40 (s k) 0xFF800000#32 reduces_S40x256_S40 (.inl rfl) rfl) shapeCasts_S40_S40x1))
    (broadcast S40x1 (FloatOps.ofBits .f32 0xFF61B1E6#32))

theorem schunk_inb (k : Fin 8) : ∀ a, (![0, 256 * k.val] : Fin 2 → ℕ) a + S40x256.size a ≤ S40x2048.size a := by
  have h2 := k.isLt
  intro a; fin_cases a <;> simp [S40x256, S40x2048] <;> omega

/-- Chunk `k` of the scores as loaded back over the stores `L`. -/
def scBack (L : List (View.Piece (Elt F) S40x2048 .f32)) (k : Fin 8) : Vec F S40x256 .f32 :=
  e.arg7.view.readCov L (Rect.unit (s := S40x2048) ![0, 256 * k.val] S40x256.size (schunk_inb k)).toLoadRect

/-- The exponentials of a chunk of scores below their maximum. -/
def prOf (s : Fin 8 → Vec F S40x256 .f32) (m : Vec F S40x1 .f32) (k : Fin 8) : Vec F S40x256 .f32 :=
  exp (subf (s k) (broadcastTo S40x256 m broadcasts_S40x1_S40x256))

/-- The sum of the exponentials. -/
def rsumOf (p : Fin 8 → Vec F S40x256 .f32) : Vec F S40x1 .f32 :=
  chunks.foldl (fun acc k => addf acc (shapeCast S40x1 (multiReduction .add [1] S40 (p k) 0x00000000#32 reduces_S40x256_S40 (.inl rfl) rfl) shapeCasts_S40_S40x1))
    (broadcast S40x1 (FloatOps.ofBits .f32 0x00000000#32))

/-- The values weighted by the exponentials, summed. -/
def wsumOf (h : Fin 2) (p : Fin 8 → Vec F S40x256 .f32) : Vec F S40x64 .f32 :=
  chunks.foldl (fun acc k => addf acc (matmul dot_S40x256_S256x64_S40x64_1_0_0_1_n_n none (p k)
      (shapeCast S256x64 (View.readAt (Elt F) e.arg4.view (Rect.unit (s := S2048x128) ![256 * k.val, 64 * h.val] S256x64.size (chunk_inb h k)).toLoadRect (e.harg4.unread e.x3)) shapeCasts_S256x64_S256x64)
      (constant S40x64 .f32 0x00000000#32)))
    (broadcast S40x64 (FloatOps.ofBits .f32 0x00000000#32))

/-- The attention rows of head `h`. -/
def updOf (h : Fin 2) (p : Fin 8 → Vec F S40x256 .f32) : Vec F S40x64 .f32 :=
  divf (wsumOf e h p) (broadcastTo S40x64 (rsumOf p) broadcasts_S40x1_S40x64)

theorem vchunk_inb (k : Fin 8) : ∀ a, (![256 * k.val, 0] : Fin 2 → ℕ) a + S256x128.size a ≤ S2048x128.size a := by
  have h2 := k.isLt
  intro a; fin_cases a <;> simp [S256x128, S2048x128] <;> omega

/-- The sum of the rows of the values. -/
def vsum : Vec F S1x128 .f32 :=
  chunks.foldl (fun acc k => addf acc (shapeCast S1x128 (multiReduction .add [0] S128
      (shapeCast S256x128 (View.readAt (Elt F) e.arg4.view (Rect.unit (s := S2048x128) ![256 * k.val, 0] S256x128.size (vchunk_inb k)).toLoadRect (e.harg4.unread e.x3)) shapeCasts_S256x128_S256x128)
      0x00000000#32 reduces_S256x128_S128 (.inl rfl) rfl) shapeCasts_S128_S1x128))
    (broadcast S1x128 (FloatOps.ofBits .f32 0x00000000#32))

/-- The mean row, repeated over a chunk. -/
def meanv : Vec F S256x128 .f32 :=
  broadcastTo S256x128 (shapeCast S1x128 (mulf (vsum e) (broadcast S1x128 (FloatOps.ofBits .f32 0x3A000000#32))) shapeCasts_S1x128_S1x128) broadcasts_S1x128_S256x128

theorem orow_inb (w : BitVec 32) (hw : w.toNat < 2048) : ∀ a, (![w.toNat, 0] : Fin 2 → ℕ) a + S1x128.size a ≤ S2048x128.size a := by
  intro a; fin_cases a <;> simp [S1x128, S2048x128] <;> omega

theorem upd_slices (n : Fin 40) : S40x64.Slices ![n.val, 0] S1x64 := by
  have h1 := n.isLt
  exact ⟨rfl, fun a => by fin_cases a <;> simp [S40x64, S1x64] <;> omega⟩

/-- A row of the output as loaded back over the stores `L`. -/
def rowBack (L : List (View.Piece (Elt F) S2048x128 .f32)) (w : BitVec 32) (hw : w.toNat < 2048) : Vec F S1x128 .f32 :=
  shapeCast S1x128 (View.readAt (Elt F) e.arg5.view (Rect.unit (s := S2048x128) ![w.toNat, 0] S1x128.size (orow_inb w hw)).toLoadRect
    (e.arg5.view.writes (Elt F) e.arg5.view.junk L)) shapeCasts_S1x128_S1x128

/-- The row that the first head stores for its `n`-th word: its own half new, the other half as it was. -/
def newRow0 (U : Vec F S40x64 .f32) (L : List (View.Piece (Elt F) S2048x128 .f32)) (n : Fin 40) : Vec F S1x128 .f32 :=
  concatenate S1x128 1 [⟨S1x64, extractStridedSlice S1x64 ![n.val, 0] U (upd_slices n)⟩,
      ⟨S1x64, extractStridedSlice S1x64 ![0, 64] (rowBack e L (word e 0 n) (word_lt e 0 n)) slices_S1x128_o0_64_S1x64⟩] concatenates_S1x64_S1x64_S1x128_d1

/-- The row that the second head stores for its `n`-th word. -/
def newRow1 (U : Vec F S40x64 .f32) (L : List (View.Piece (Elt F) S2048x128 .f32)) (n : Fin 40) : Vec F S1x128 .f32 :=
  concatenate S1x128 1 [⟨S1x64, extractStridedSlice S1x64 ![0, 0] (rowBack e L (word e 1 n) (word_lt e 1 n)) slices_S1x128_o0_0_S1x64⟩,
      ⟨S1x64, extractStridedSlice S1x64 ![n.val, 0] U (upd_slices n)⟩] concatenates_S1x64_S1x64_S1x128_d1

theorem row_inb (n : Fin 40) : ∀ a, (![n.val, 0] : Fin 2 → ℕ) a + S1x64.size a ≤ S40x64.size a := by
  have h1 := n.isLt
  intro a; fin_cases a <;> simp [S1x64, S40x64] <;> omega

end Cert.AttendIdeal.Hand

end
-- ==== Proof.AttendRun.lean ====
module

public import proofs.«01_k».proof.Proof.AttendTerm

@[expose] public section

set_option maxRecDepth 16384

noncomputable section

namespace Cert.AttendIdeal.Hand

open Cert.AttendIdeal Cert.AttendIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A word below 2048 names a row of the 2048-row block, for the first head of the pair. -/
theorem rowOK_lo (v : BitVec 32) (h : v.toNat < 2048) : k0_chk1 v := by
  constructor <;> intro a <;> fin_cases a <;>
    simp [k0_off41, k0_off161, Scalar.indexCast, S1x64, S1x128, S2048x128] <;> omega

/-- A word below 2048 names a row of the 2048-row block, for the second head of the pair. -/
theorem rowOK_hi (v : BitVec 32) (h : v.toNat < 2048) : k0_chk41 v := by
  constructor <;> intro a <;> fin_cases a <;>
    simp [k0_off121, k0_off201, Scalar.indexCast, S1x64, S1x128, S2048x128] <;> omega

set_option maxHeartbeats 0 in
/-- The body at one grid point: on blocks holding the row numbers (all below 2048), the queries, the keys and the values, it hands those back
    unchanged and leaves in the output block what the listed stores leave there; the list is the definition's first part. -/
def kernelRun (e : Env F) (harg5 : e.arg5.IsWhole) (harg6 : e.arg6.IsWhole) (harg7 : e.arg7.IsWhole) :
      { L : List (View.Piece (Elt F) S2048x128 .f32) // ∀ (E : Set ℕ) (K : PUnit → sProp 𝕄),
        iprop(owns (e.c : Thread nD τ) e.arg1 fullShare e.x0 ∗ owns (e.c : Thread nD τ) e.arg2 fullShare e.x1 ∗ owns (e.c : Thread nD τ) e.arg3 fullShare e.x2 ∗ owns (e.c : Thread nD τ) e.arg4 fullShare e.x3 ∗ (∃ d, owns (e.c : Thread nD τ) e.arg5 fullShare d) ∗ (∃ d, owns (e.c : Thread nD τ) e.arg6 fullShare d) ∗ (∃ d, owns (e.c : Thread nD τ) e.arg7 fullShare d)
            ∗ (iprop(owns (e.c : Thread nD τ) e.arg1 fullShare e.x0 ∗ owns (e.c : Thread nD τ) e.arg2 fullShare e.x1 ∗ owns (e.c : Thread nD τ) e.arg3 fullShare e.x2 ∗ owns (e.c : Thread nD τ) e.arg4 fullShare e.x3 ∗ owns (e.c : Thread nD τ) e.arg5 fullShare (e.arg5.view.read (Elt F) (e.arg5.view.writes (Elt F) e.arg5.view.junk L)) ∗ (∃ d, owns (e.c : Thread nD τ) e.arg6 fullShare d) ∗ (∃ d, owns (e.c : Thread nD τ) e.arg7 fullShare d)) -∗ K ⟨⟩))
          ⊢ wp frame (wpE (defs₀ (F := F)) Variants.none e.c none) E (cc0__attn_kernel e.i e.arg1 e.harg1 e.arg2 e.harg2 e.arg3 e.harg3 e.arg4 e.harg4 e.arg5 harg5 e.arg6 harg6 e.arg7 harg7) K } := by
    apply Subtype.mk
    intro E K
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, Hk⟩
    obtain rfl := e.harg1.eq_unread hf0; obtain rfl := e.harg2.eq_unread hf1; obtain rfl := e.harg3.eq_unread hf2; obtain rfl := e.harg4.eq_unread hf3
    sl_exec (disch := first | exact rowOK_lo _ (e.hw _ _) | exact rowOK_hi _ (e.hw _ _))
    sl_step
    iapply Hk
    isplitl [H0]
    · iexists _; isplitr; · ipureintro; exact e.harg1.read_unread _
      iexact H0
    isplitl [H1]
    · iexists _; isplitr; · ipureintro; exact e.harg2.read_unread _
      iexact H1
    isplitl [H2]
    · iexists _; isplitr; · ipureintro; exact e.harg3.read_unread _
      iexact H2
    isplitl [H3]
    · iexists _; isplitr; · ipureintro; exact e.harg4.read_unread _
      iexact H3
    isplitl [H4]
    · iexists _; isplitr; swap; · iexact H4
      ipureintro; rfl
    isplitl [HS0]
    · iexists _, _; isplitr; swap; · iexact HS0
      ipureintro; rfl
    iexists _, _; isplitr; swap; · iexact HS1
    ipureintro; rfl

end Cert.AttendIdeal.Hand

end
-- ==== Proof.AttendFrame.lean ====
module

public import proofs.«01_k».proof.Proof.AttendRun
public import Idealize.ShloMosaic.Lib.Claim

@[expose] public section

set_option maxRecDepth 16384

noncomputable section

namespace Cert.AttendIdeal.Hand

open Cert.AttendIdeal Cert.AttendIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every row number of the argument table lies below 2048. -/
def InRange : Prop := ∀ (c : Dev nD) (y : S16x128.Idx), (m ((c : Thread nD τ).loc main_arg0) y : BitVec 32).toNat < 2048

/-- The block of row numbers at any point holds row numbers below 2048. -/
theorem words_lt (hr : InRange m) (c : Dev nD) (t : Fin cfg0.N) (y : S16x128.Idx) : (iblk m c 0 t y : BitVec 32).toNat < 2048 := by
  unfold iblk
  rw [View.read_apply]
  show ((cast _ (V m c main_arg0 _) : BitVec 32)).toNat < 2048
  rw [V_main_arg0]
  exact hr c _

/-- What grid point `t` works on. -/
def envAt (hr : InRange m) (c : Dev nD) (t : Fin cfg0.N) : Env F where
  c := c
  i := grid0.coords t
  arg1 := win0_0.stage (cfg0.slots t 0)
  harg1 := hstage0_0 ((cfg0.slots t 0).cast nbuf0_0)
  arg2 := win0_1.stage (cfg0.slots t 1)
  harg2 := hstage0_1 ((cfg0.slots t 1).cast nbuf0_1)
  arg3 := win0_2.stage (cfg0.slots t 2)
  harg3 := hstage0_2 ((cfg0.slots t 2).cast nbuf0_2)
  arg4 := win0_3.stage (cfg0.slots t 3)
  harg4 := hstage0_3 ((cfg0.slots t 3).cast nbuf0_3)
  arg5 := win0_4.stage (cfg0.slots t 4)
  arg6 := Memref.whole cc0_scratch0
  arg7 := Memref.whole cc0_scratch1
  x0 := iblk m c 0 t
  x1 := iblk m c 1 t
  x2 := iblk m c 2 t
  x3 := iblk m c 3 t
  hw := fun r y => by
    rw [View.readAt_apply, Memref.IsWhole.read_unread]
    exact words_lt m hr c t _

/-- The run of the body at grid point `t`. -/
abbrev runAt (hr : InRange m) (c : Dev nD) (t : Fin cfg0.N) :=
  kernelRun (envAt m hr c t) (hstage0_4 ((cfg0.slots t 4).cast nbuf0_4)) (Memref.isWhole_whole _) (Memref.isWhole_whole _)

/-- The output block that the body leaves at grid point `t`. -/
def outAt (hr : InRange m) (c : Dev nD) (t : Fin cfg0.N) : Vec F S2048x128 .f32 :=
  (envAt m hr c t).arg5.view.read (Elt F) ((envAt m hr c t).arg5.view.writes (Elt F) (envAt m hr c t).arg5.view.junk (runAt m hr c t).1)

/-- The pipeline's proof data on core `c`: the inputs' buffers keep their blocks, the output's holds what the body leaves. -/
def dats (hr : InRange m) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m hr c t
  Φ _ := Pipeline.ΦA spec0 c
  q _ := fullShare
  owed _ := 0

/-- The proof data's arrays are those the region is entered with. -/
theorem A_eq (hr : InRange m) (c : Dev nD) (w : Fin cfg0.W) : (dats m hr 0 c).A w = V m c (Pipeline.arrRef spec0 w) := by
  dsimp only [dats]

theorem after0_0 (hr : InRange m) (c : Dev nD) (t : Fin cfg0.N) : (dats m hr 0 c).after 0 t = iblk m c 0 t := by dsimp only [dats]
theorem after0_1 (hr : InRange m) (c : Dev nD) (t : Fin cfg0.N) : (dats m hr 0 c).after 1 t = iblk m c 1 t := by dsimp only [dats]
theorem after0_2 (hr : InRange m) (c : Dev nD) (t : Fin cfg0.N) : (dats m hr 0 c).after 2 t = iblk m c 2 t := by dsimp only [dats]
theorem after0_3 (hr : InRange m) (c : Dev nD) (t : Fin cfg0.N) : (dats m hr 0 c).after 3 t = iblk m c 3 t := by dsimp only [dats]
theorem after0_4 (hr : InRange m) (c : Dev nD) (t : Fin cfg0.N) : (dats m hr 0 c).after 4 t = outAt m hr c t := by dsimp only [dats]

theorem before0_0 (hr : InRange m) (c : Dev nD) (t : Fin cfg0.N) (d) : (dats m hr 0 c).before 0 t d = iblk m c 0 t :=
  before0_0_of m (dats m hr 0 c) (A_eq m hr c 0) (after0_0 m hr c) t d
theorem before0_1 (hr : InRange m) (c : Dev nD) (t : Fin cfg0.N) (d) : (dats m hr 0 c).before 1 t d = iblk m c 1 t :=
  before0_1_of m (dats m hr 0 c) (A_eq m hr c 1) (after0_1 m hr c) t d
theorem before0_2 (hr : InRange m) (c : Dev nD) (t : Fin cfg0.N) (d) : (dats m hr 0 c).before 2 t d = iblk m c 2 t :=
  before0_2_of m (dats m hr 0 c) (A_eq m hr c 2) (after0_2 m hr c) t d
theorem before0_3 (hr : InRange m) (c : Dev nD) (t : Fin cfg0.N) (d) : (dats m hr 0 c).before 3 t d = iblk m c 3 t :=
  before0_3_of m (dats m hr 0 c) (A_eq m hr c 3) (after0_3 m hr c) t d

/-- The pipeline's invariant is the ownership of the two scratch buffers and of the generator register. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

/-- What the body is called with at point `t`. -/
def bodyPre (hr : InRange m) (c : Dev nD) (t : Fin cfg0.N) : sProp 𝕄 :=
  iprop((dats m hr 0 c).Φ t.castSucc ∗ (dats m hr 0 c).owesAt () t.castSucc
    ∗ (∃ d, owns (c : Thread nD τ) (st0_0 t) fullShare ((dats m hr 0 c).before 0 t d))
    ∗ (∃ d, owns (c : Thread nD τ) (st0_1 t) fullShare ((dats m hr 0 c).before 1 t d))
    ∗ (∃ d, owns (c : Thread nD τ) (st0_2 t) fullShare ((dats m hr 0 c).before 2 t d))
    ∗ (∃ d, owns (c : Thread nD τ) (st0_3 t) fullShare ((dats m hr 0 c).before 3 t d))
    ∗ (∃ d, owns (c : Thread nD τ) (st0_4 t) fullShare ((dats m hr 0 c).before 4 t d)))

/-- What the body leaves at point `t`. -/
def bodyPost (hr : InRange m) (c : Dev nD) (t : Fin cfg0.N) : sProp 𝕄 :=
  iprop((dats m hr 0 c).Φ t.succ ∗ (dats m hr 0 c).owesAt () t.succ
    ∗ (owns (c : Thread nD τ) (st0_0 t) fullShare ((dats m hr 0 c).after 0 t))
    ∗ (owns (c : Thread nD τ) (st0_1 t) fullShare ((dats m hr 0 c).after 1 t))
    ∗ (owns (c : Thread nD τ) (st0_2 t) fullShare ((dats m hr 0 c).after 2 t))
    ∗ (owns (c : Thread nD τ) (st0_3 t) fullShare ((dats m hr 0 c).after 3 t))
    ∗ (owns (c : Thread nD τ) (st0_4 t) fullShare ((dats m hr 0 c).after 4 t)))

/-- The body at any point runs, from the blocks as fetched to the output block `outAt`. -/
theorem sound_body (hr : InRange m) (c : Dev nD) (t : Fin cfg0.N) :
    bodyPre m hr c t ⊢ wp frame (wpE (defs₀ (F := F)) Variants.none c none) Set.univ (bodyAt0 t) (fun _ => bodyPost m hr c t) := by
  unfold bodyPre bodyPost bodyAt0
  simp only [before0_0, before0_1, before0_2, before0_3, after0_0, after0_1, after0_2, after0_3, after0_4]
  rw [show (dats m hr 0 c).Φ t.succ = (dats m hr 0 c).Φ t.castSucc from rfl,
    show (dats m hr 0 c).owesAt () t.succ = (dats m hr 0 c).owesAt () t.castSucc from rfl]
  rw [show (dats m hr 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩⟩
  iapply ((runAt m hr c t).2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  iintro ⟨H0, H1, H2, H3, H4, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  iexact H4

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The library's obligation for the body, at every point. -/
theorem body_obligation (hr : InRange m) (c : Dev nD) : BodyObligation (dats (F := F) m hr 0 c) (defs₀ (F := F)) Variants.none () Set.univ := fun t => by
  rw [bigSep_W0, bigSep_W0, defs₀_row]
  exact triple_restated (sound_body m hr c t) rfl .rfl fun _ => .rfl

set_option backward.isDefEq.respectTransparency.types false in
/-- The launch runs to the end, with every array as the proof data says and every semaphore counter at zero. -/
theorem run_main (hr : InRange m) : θ_run defs (onTc (τ := τ) (main (F := F))) (s₀ m ρ)
    (fun r => Pipeline.FramePost cfgs (dats m hr) 0 (V m) r ∧ r.2.sem = fun _ => 0) :=
  Pipeline.θ_run_frame (Q' := _) cfgs (dats m hr) (0 : Fin 1) launch0 defs₀ Variants.none m ρ main
    (hbody := fun c => (body_obligation m hr c).loose) (hshare := fun c => (dats m hr 0 c).share_full fun _ => rfl)
    (howed := fun _ _ => rfl) (V := V m) (hmain := hmain m Variants.none) (hA := A_eq m hr) (hΦ := fun _ _ => rfl)

/-- The launch ends with the argument arrays unchanged and every semaphore counter at zero. -/
theorem frame_all (hr : InRange m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m hr) (A_eq m hr) ((θ_run defs _ _).mono (fun _ h => h.1) (run_main m ρ hr)))
    ((θ_run defs _ _).mono (fun _ h => h.2) (run_main m ρ hr))

end Cert.AttendIdeal.Hand

end
-- ==== Proof.AttendWordsRun.lean ====
module

public import proofs.«01_k».proof.Proof.Gen.Attend.Frame

@[expose] public section

set_option maxRecDepth 16384

noncomputable section

namespace Cert.Attend.Hand

open Cert.Attend Cert.Attend.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What one grid point works on: the staging blocks of the row numbers, queries, keys and values with their contents, and the two
    scratch buffers; every row number lies below 2048. -/
structure Env (F : FTy → Type) [FloatOps F] where
  c : Dev nD
  i : grid0.Coords
  arg1 : Memref sig .tc .smem S16x128 .i32
  harg1 : arg1.IsWhole
  arg2 : Memref sig .tc .vmem S2048x128 .f32
  harg2 : arg2.IsWhole
  arg3 : Memref sig .tc .vmem S2048x128 .f32
  harg3 : arg3.IsWhole
  arg4 : Memref sig .tc .vmem S2048x128 .f32
  harg4 : arg4.IsWhole
  arg5 : Memref sig .tc .vmem S2048x128 .f32
  arg6 : Memref sig .tc .vmem S40x64 .f32
  arg7 : Memref sig .tc .vmem S40x2048 .f32
  x0 : Vec F S16x128 .i32
  x1 : Vec F S2048x128 .f32
  x2 : Vec F S2048x128 .f32
  x3 : Vec F S2048x128 .f32
  hw : ∀ (r : Rect S16x128) (y), (arg1.view.readAt (Elt F) r.toLoadRect (harg1.unread x0) y : BitVec 32).toNat < 2048

/-- A word below 2048 names a row of the 2048-row block, for the first head of the pair. -/
theorem rowOK_lo (v : BitVec 32) (h : v.toNat < 2048) : k0_chk1 v := by
  constructor <;> intro a <;> fin_cases a <;>
    simp [k0_off41, k0_off161, Scalar.indexCast, S1x64, S1x128, S2048x128] <;> omega

/-- A word below 2048 names a row of the 2048-row block, for the second head of the pair. -/
theorem rowOK_hi (v : BitVec 32) (h : v.toNat < 2048) : k0_chk41 v := by
  constructor <;> intro a <;> fin_cases a <;>
    simp [k0_off121, k0_off201, Scalar.indexCast, S1x64, S1x128, S2048x128] <;> omega

set_option maxHeartbeats 0 in
/-- The body at one grid point: on blocks holding the row numbers (all below 2048), the queries, the keys and the values, it hands those back
    unchanged and leaves in the output block what the listed stores leave there; the list is the definition's first part. -/
def kernelRun (e : Env F) (harg5 : e.arg5.IsWhole) (harg6 : e.arg6.IsWhole) (harg7 : e.arg7.IsWhole) :
      { L : List (View.Piece (Elt F) S2048x128 .f32) // ∀ (E : Set ℕ) (K : PUnit → sProp 𝕄),
        iprop(owns (e.c : Thread nD τ) e.arg1 fullShare e.x0 ∗ owns (e.c : Thread nD τ) e.arg2 fullShare e.x1 ∗ owns (e.c : Thread nD τ) e.arg3 fullShare e.x2 ∗ owns (e.c : Thread nD τ) e.arg4 fullShare e.x3 ∗ (∃ d, owns (e.c : Thread nD τ) e.arg5 fullShare d) ∗ (∃ d, owns (e.c : Thread nD τ) e.arg6 fullShare d) ∗ (∃ d, owns (e.c : Thread nD τ) e.arg7 fullShare d)
            ∗ (iprop(owns (e.c : Thread nD τ) e.arg1 fullShare e.x0 ∗ owns (e.c : Thread nD τ) e.arg2 fullShare e.x1 ∗ owns (e.c : Thread nD τ) e.arg3 fullShare e.x2 ∗ owns (e.c : Thread nD τ) e.arg4 fullShare e.x3 ∗ owns (e.c : Thread nD τ) e.arg5 fullShare (e.arg5.view.read (Elt F) (e.arg5.view.writes (Elt F) e.arg5.view.junk L)) ∗ (∃ d, owns (e.c : Thread nD τ) e.arg6 fullShare d) ∗ (∃ d, owns (e.c : Thread nD τ) e.arg7 fullShare d)) -∗ K ⟨⟩))
          ⊢ wp frame (wpE (defs₀ (F := F)) Variants.none e.c none) E (cc0__attn_kernel e.i e.arg1 e.harg1 e.arg2 e.harg2 e.arg3 e.harg3 e.arg4 e.harg4 e.arg5 harg5 e.arg6 harg6 e.arg7 harg7) K } := by
    apply Subtype.mk
    intro E K
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, Hk⟩
    obtain rfl := e.harg1.eq_unread hf0; obtain rfl := e.harg2.eq_unread hf1; obtain rfl := e.harg3.eq_unread hf2; obtain rfl := e.harg4.eq_unread hf3
    sl_exec (disch := first | exact rowOK_lo _ (e.hw _ _) | exact rowOK_hi _ (e.hw _ _))
    sl_step
    iapply Hk
    isplitl [H0]
    · iexists _; isplitr; · ipureintro; exact e.harg1.read_unread _
      iexact H0
    isplitl [H1]
    · iexists _; isplitr; · ipureintro; exact e.harg2.read_unread _
      iexact H1
    isplitl [H2]
    · iexists _; isplitr; · ipureintro; exact e.harg3.read_unread _
      iexact H2
    isplitl [H3]
    · iexists _; isplitr; · ipureintro; exact e.harg4.read_unread _
      iexact H3
    isplitl [H4]
    · iexists _; isplitr; swap; · iexact H4
      ipureintro; rfl
    isplitl [HS0]
    · iexists _, _; isplitr; swap; · iexact HS0
      ipureintro; rfl
    iexists _, _; isplitr; swap; · iexact HS1
    ipureintro; rfl

end Cert.Attend.Hand

end
-- ==== Proof.Stores.lean ====
module

public import Idealize.ShloMosaic.Lib.Updates.Memory
public import Idealize.ShloMosaic.Lib.ValueIdxCore

@[expose] public section

noncomputable section

namespace Cert.Stores

open Idealize.ShloMosaic
open Idealize.ShloMosaic.LaneScatter (Blk)

variable {sig : RefSig} {κ : Kind} {sp : Space} {el : EltTy} {Val : EltTy → Type} {R C h w : ℕ}

/-- A load through a rectangle at row `r`, column `c` reads at place `x` the buffer's place that lies `x` further. -/
theorem load_apply (v : View sig κ sp (Blk R C) el) (f : v.ty.Contents Val) {off : Fin 2 → ℕ} {r c : ℕ} (ho : off = ![r, c])
    (inb : ∀ a, off a + (Blk h w).size a ≤ (Blk R C).size a) (x : (Blk h w).Idx) (y : (Blk R C).Idx)
    (h0 : (y 0).val = r + (x 0).val) (h1 : (y 1).val = c + (x 1).val) :
    View.readAt Val v (Rect.unit (s := Blk R C) off (Blk h w).size inb).toLoadRect f x = v.read Val f y := by
  rw [View.readAt_apply]
  congr 1
  funext a; refine Fin.ext ?_
  match a with
  | ⟨0, _⟩ => exact ((Updates.emb_val (o := (r, c)) ho inb x).1.trans h0.symm)
  | ⟨1, _⟩ => exact ((Updates.emb_val (o := (r, c)) ho inb x).2.trans h1.symm)

/-- After a store at row `r`, column `c`, a place inside the stored rectangle holds the payload. -/
theorem read_cons_hit (v : View sig κ sp (Blk R C) el) (f : v.ty.Contents Val) (L : List (View.Piece Val (Blk R C) el)) {off : Fin 2 → ℕ} {r c : ℕ} (ho : off = ![r, c])
    (inb : ∀ a, off a + (Blk h w).size a ≤ (Blk R C).size a) (pay : (Blk h w).Idx → Val el) (y : (Blk R C).Idx) (x : (Blk h w).Idx)
    (h0 : (y 0).val = r + (x 0).val) (h1 : (y 1).val = c + (x 1).val) :
    v.read Val (v.writes Val f (⟨Rect.unit (s := Blk R C) off (Blk h w).size inb, pay⟩ :: L)) y = pay x := by
  have hx : (Rect.unit (s := Blk R C) off (Blk h w).size inb).emb x = y := by
    funext a; refine Fin.ext ?_
    match a with
    | ⟨0, _⟩ => exact ((Updates.emb_val (o := (r, c)) ho inb x).1.trans h0.symm)
    | ⟨1, _⟩ => exact ((Updates.emb_val (o := (r, c)) ho inb x).2.trans h1.symm)
  rw [← hx]
  exact View.read_slice_write_emb _ _ _ (Finset.mem_univ x)

/-- After a store at row `r`, column `c`, a place outside the stored rectangle holds what it held. -/
theorem read_cons_miss (v : View sig κ sp (Blk R C) el) (f : v.ty.Contents Val) (L : List (View.Piece Val (Blk R C) el)) {off : Fin 2 → ℕ} {r c : ℕ} (ho : off = ![r, c])
    (inb : ∀ a, off a + (Blk h w).size a ≤ (Blk R C).size a) (pay : (Blk h w).Idx → Val el) (y : (Blk R C).Idx)
    (hm : ¬ ((r ≤ (y 0).val ∧ (y 0).val < r + h) ∧ (c ≤ (y 1).val ∧ (y 1).val < c + w))) :
    v.read Val (v.writes Val f (⟨Rect.unit (s := Blk R C) off (Blk h w).size inb, pay⟩ :: L)) y = v.read Val (v.writes Val f L) y := by
  refine View.read_slice_write_of_not_mem _ _ _ _ ?_
  intro hmem
  obtain ⟨x, hxM, hx⟩ := Finset.mem_map.mp hmem
  have e0 : ((Rect.unit (s := Blk R C) off (Blk h w).size inb).emb x 0).val = r + (x 0).val := (Updates.emb_val (o := (r, c)) ho inb x).1
  have e1 : ((Rect.unit (s := Blk R C) off (Blk h w).size inb).emb x 1).val = c + (x 1).val := (Updates.emb_val (o := (r, c)) ho inb x).2
  have h0 : (x 0).val < h := (x 0).isLt
  have h1 : (x 1).val < w := (x 1).isLt
  have c0 : ((Rect.unit (s := Blk R C) off (Blk h w).size inb).emb x 0).val = (y 0).val := congrArg Fin.val (congrFun hx 0)
  have c1 : ((Rect.unit (s := Blk R C) off (Blk h w).size inb).emb x 1).val = (y 1).val := congrArg Fin.val (congrFun hx 1)
  exact hm ⟨⟨by omega, by omega⟩, by omega, by omega⟩

end Cert.Stores

end
-- ==== Proof.AttendState.lean ====
module

public import proofs.«01_k».proof.Proof.AttendRun
public import proofs.«01_k».proof.Proof.Stores

@[expose] public section

set_option maxRecDepth 16384

noncomputable section

namespace Cert.AttendIdeal.Hand

open Cert.AttendIdeal Cert.AttendIdeal.Gen Cert.Stores
open Idealize.ShloMosaic Idealize.ShloMosaic.TcCoe
open Idealize.ShloMosaic.ValueIdx (ix2)

variable {F : FTy → Type} [FloatOps F] (e : Env F)

/-- The row number that the `n`-th word of head `h` names. -/
def sel (h : Fin 2) (n : Fin 40) : Fin 2048 := ⟨(word e h n).toNat, word_lt e h n⟩

/-- The place of lane `d` of head `h` in a row of 128 lanes. -/
def lane (h : Fin 2) (d : Fin 64) : Fin 128 := ⟨64 * h.val + d.val, by have := h.isLt; have := d.isLt; omega⟩

/-- Lane `d` of the gathered query row is lane `d` of the row of the queries that the word names. -/
theorem qrow_apply (h : Fin 2) (n : Fin 40) (a : Fin 1) (d : Fin 64) : qrow e h n (ix2 a d) = e.x1 (ix2 (sel e h n) (lane h d)) := by
  unfold qrow
  refine (congrFun ((shapeCast_self (s := S1x64) _ _).trans (shapeCast_self (s := S1x64) _ _)) _).trans ?_
  rw [load_apply _ _ rfl _ _ (ix2 (sel e h n) (lane h d)) (by simp [sel, Fin.fin_one_eq_zero a]) (by simp [lane])]
  rw [Memref.IsWhole.read_unread]

/-- The scratch's rows below `n` are the gathered query rows of head `h`. -/
def QState (h : Fin 2) (n : ℕ) (L : List (View.Piece (Elt F) S40x64 .f32)) : Prop :=
  ∀ (u : Fin 40) (d : Fin 64), u.val < n → e.arg6.view.read (Elt F) (e.arg6.view.writes (Elt F) e.arg6.view.junk L) (ix2 u d) = e.x1 (ix2 (sel e h u) (lane h d))

theorem QState.zero (h : Fin 2) (L : List (View.Piece (Elt F) S40x64 .f32)) : QState e h 0 L := fun _ _ hu => absurd hu (Nat.not_lt_zero _)

theorem QState.step {h : Fin 2} {n : ℕ} {L : List (View.Piece (Elt F) S40x64 .f32)} (hn : n < 40) (hL : QState e h n L) :
    QState e h (n + 1) (⟨Rect.unit (s := S40x64) ![(⟨n, hn⟩ : Fin 40).val, 0] S1x64.size (row_inb ⟨n, hn⟩), qrow e h ⟨n, hn⟩⟩ :: L) := by
  intro u d hu
  by_cases hun : u.val = n
  · have : u = ⟨n, hn⟩ := Fin.ext hun
    subst this
    rw [read_cons_hit _ _ _ rfl _ _ _ (ix2 (0 : Fin 1) d) (by simp) (by simp)]
    exact qrow_apply e h _ _ _
  · rw [read_cons_miss _ _ _ rfl _ _ _ (by rintro ⟨⟨h0, h1⟩, -⟩; exact hun (by change n ≤ u.val at h0; change u.val < n + 1 at h1; omega))]
    exact hL u d (by omega)

theorem QState.load {h : Fin 2} {L : List (View.Piece (Elt F) S40x64 .f32)} (hL : QState e h 40 L) (u : Fin 40) (d : Fin 64) :
    e.arg6.view.readCov L (Rect.unit (s := S40x64) ![0, 0] S40x64.size inb_S40x64_S40x64_0_0).toLoadRect (ix2 u d) = e.x1 (ix2 (sel e h u) (lane h d)) := by
  unfold View.readCov
  rw [load_apply _ _ rfl _ _ (ix2 u d) (by simp) (by simp)]
  exact hL u d u.isLt

/-- The gathered queries of the first head, as loaded back. -/
theorem q0_apply (u : Fin 40) (d : Fin 64) : kernelRun.sl.v400 e (ix2 u d) = e.x1 (ix2 (sel e 0 u) (lane 0 d)) := by
  refine QState.load e ?_ u d
  unfold kernelRun.sl.HS0_40
  iterate 40 refine QState.step e (by decide) ?_
  exact QState.zero e 0 []

/-- The gathered queries of the second head, as loaded back. -/
theorem q1_apply (u : Fin 40) (d : Fin 64) : kernelRun.sl.v982 e (ix2 u d) = e.x1 (ix2 (sel e 1 u) (lane 1 d)) := by
  refine QState.load e ?_ u d
  iterate 40 refine QState.step e (by decide) ?_
  exact QState.zero e 1 _

/-- The scratch's chunks of scores below `k` are `s`. -/
def SState (s : Fin 8 → Vec F S40x256 .f32) (n : ℕ) (L : List (View.Piece (Elt F) S40x2048 .f32)) : Prop :=
  ∀ (k : Fin 8) (u : Fin 40) (l : Fin 256), k.val < n → e.arg7.view.read (Elt F) (e.arg7.view.writes (Elt F) e.arg7.view.junk L)
    (ix2 u (⟨256 * k.val + l.val, by have := k.isLt; have := l.isLt; omega⟩ : Fin 2048)) = s k (ix2 u l)

theorem SState.zero (s : Fin 8 → Vec F S40x256 .f32) (L : List (View.Piece (Elt F) S40x2048 .f32)) : SState e s 0 L := fun _ _ _ hu => absurd hu (Nat.not_lt_zero _)

theorem SState.step {s : Fin 8 → Vec F S40x256 .f32} {n : ℕ} {L : List (View.Piece (Elt F) S40x2048 .f32)} (hn : n < 8) (hL : SState e s n L) :
    SState e s (n + 1) (⟨Rect.unit (s := S40x2048) ![0, 256 * (⟨n, hn⟩ : Fin 8).val] S40x256.size (schunk_inb ⟨n, hn⟩), shapeCast S40x256 (s ⟨n, hn⟩) shapeCasts_S40x256_S40x256⟩ :: L) := by
  intro k u l hk
  by_cases hkn : k.val = n
  · have : k = ⟨n, hn⟩ := Fin.ext hkn
    subst this
    rw [read_cons_hit _ _ _ rfl _ _ _ (ix2 u l) (by simp) (by simp)]
    exact congrFun (shapeCast_self (s := S40x256) _ _) _
  · have hl := l.isLt
    rw [read_cons_miss _ _ _ rfl _ _ _ (by
      rintro ⟨-, h0, h1⟩
      change 256 * n ≤ 256 * k.val + l.val at h0; change 256 * k.val + l.val < 256 * n + 256 at h1; omega)]
    exact hL k u l (by omega)

theorem SState.load {s : Fin 8 → Vec F S40x256 .f32} {L : List (View.Piece (Elt F) S40x2048 .f32)} (hL : SState e s 8 L) (k : Fin 8) :
    scBack e L k = s k := by
  funext x
  obtain ⟨u, l, rfl⟩ : ∃ (u : Fin 40) (l : Fin 256), x = ix2 u l := ⟨x 0, x 1, by funext a; match a with | ⟨0, _⟩ => rfl | ⟨1, _⟩ => rfl⟩
  unfold scBack View.readCov
  rw [load_apply _ _ rfl _ _ (ix2 u (⟨256 * k.val + l.val, by have := k.isLt; have := l.isLt; omega⟩ : Fin 2048)) (by simp) (by simp)]
  exact hL k u l k.isLt

/-- The scores of the first head, as loaded back. -/
theorem s0_load (k : Fin 8) : scBack e (kernelRun.sl.HS1_8 e) k = scOf e 0 (kernelRun.sl.v400 e) k := by
  refine SState.load e ?_ k
  unfold kernelRun.sl.HS1_8
  iterate 8 refine SState.step e (by decide) ?_
  exact SState.zero e _ []

/-- The scores of the second head, as loaded back. -/
theorem s1_load (k : Fin 8) : scBack e (kernelRun.sl.HS1_16 e) k = scOf e 1 (kernelRun.sl.v982 e) k := by
  refine SState.load e ?_ k
  iterate 8 refine SState.step e (by decide) ?_
  exact SState.zero e _ _

/-- The running maximum of the first head's scores. -/
theorem m0_eq : kernelRun.sl.v489 e = rmaxOf (scOf e 0 (kernelRun.sl.v400 e)) := rfl

/-- The attention rows of the first head, from what was loaded back. -/
theorem u0_raw : kernelRun.sl.v581 e = updOf e 0 (prOf (scBack e (kernelRun.sl.HS1_8 e)) (kernelRun.sl.v489 e)) := rfl

/-- The attention rows of the second head, from what was loaded back. -/
theorem u1_raw : kernelRun.sl.v1163 e = updOf e 1 (prOf (scBack e (kernelRun.sl.HS1_16 e)) (kernelRun.sl.v1071 e)) := rfl

/-- The running maximum of the second head's scores. -/
theorem m1_eq : kernelRun.sl.v1071 e = rmaxOf (scOf e 1 (kernelRun.sl.v982 e)) := rfl

/-- The mean row, repeated over a chunk. -/
theorem mean_eq : kernelRun.sl.v1208 e = meanv e := rfl

end Cert.AttendIdeal.Hand

end
-- ==== Proof.AttendOut.lean ====
module

public import proofs.«01_k».proof.Proof.AttendState

@[expose] public section

set_option maxRecDepth 16384

noncomputable section

namespace Cert.AttendIdeal.Hand

open Cert.AttendIdeal Cert.AttendIdeal.Gen Cert.Stores
open Idealize.ShloMosaic Idealize.ShloMosaic.TcCoe
open Idealize.ShloMosaic.ValueIdx (ix2)

variable {F : FTy → Type} [FloatOps F] (e : Env F)

/-- What the output block reads after the stores `L`. -/
def outRead (L : List (View.Piece (Elt F) S2048x128 .f32)) : Vec F S2048x128 .f32 :=
  e.arg5.view.read (Elt F) (e.arg5.view.writes (Elt F) e.arg5.view.junk L)

/-- The chunks of the output block below `n` hold the mean row. -/
def MState (n : ℕ) (L : List (View.Piece (Elt F) S2048x128 .f32)) : Prop :=
  ∀ (k : Fin 8) (l : Fin 256) (c : Fin 128), k.val < n →
    outRead e L (ix2 (⟨256 * k.val + l.val, by have := k.isLt; have := l.isLt; omega⟩ : Fin 2048) c) = meanv e (ix2 l c)

theorem MState.zero (L : List (View.Piece (Elt F) S2048x128 .f32)) : MState e 0 L := fun _ _ _ hu => absurd hu (Nat.not_lt_zero _)

theorem MState.step {n : ℕ} {L : List (View.Piece (Elt F) S2048x128 .f32)} (hn : n < 8) (hL : MState e n L) :
    MState e (n + 1) (⟨Rect.unit (s := S2048x128) ![256 * (⟨n, hn⟩ : Fin 8).val, 0] S256x128.size (vchunk_inb ⟨n, hn⟩), meanv e⟩ :: L) := by
  intro k l c hk
  unfold outRead
  by_cases hkn : k.val = n
  · have : k = ⟨n, hn⟩ := Fin.ext hkn
    subst this
    exact read_cons_hit _ _ _ rfl _ _ _ (ix2 l c) rfl (by simp)
  · have hl := l.isLt
    rw [read_cons_miss _ _ _ rfl _ _ _ (by
      rintro ⟨⟨h0, h1⟩, -⟩
      change 256 * n ≤ 256 * k.val + l.val at h0; change 256 * k.val + l.val < 256 * n + 256 at h1; omega)]
    exact hL k l c (by omega)

/-- The mean row at lane `c`. -/
def meanRow (c : Fin 128) : F .f32 := FloatOps.mulf (vsum e (ix2 (0 : Fin 1) c)) (FloatOps.ofBits .f32 0x3A000000#32)

theorem meanv_apply (l : Fin 256) (c : Fin 128) : meanv e (ix2 l c) = meanRow e c := by
  unfold meanv
  rw [broadcastTo_apply _ _ _ (ix2 (0 : Fin 1) c) (by intro a; match a with | ⟨0, _⟩ => rfl | ⟨1, _⟩ => rfl), shapeCast_self]
  rfl

/-- At row `r`, lane `d` of head `h`: `x` is an attention row's value if one of the first `n` words names `r`, the mean if none does. -/
def Picked (h : Fin 2) (U : Vec F S40x64 .f32) (n : ℕ) (r : Fin 2048) (d : Fin 64) (x : F .f32) : Prop :=
  (∃ u : Fin 40, u.val < n ∧ sel e h u = r ∧ x = U (ix2 u d)) ∨ ((∀ u : Fin 40, u.val < n → sel e h u ≠ r) ∧ x = meanRow e (lane h d))

theorem Picked.miss {h : Fin 2} {U : Vec F S40x64 .f32} {n : ℕ} (hn : n < 40) {r : Fin 2048} {d : Fin 64} {x : F .f32}
    (hr : sel e h ⟨n, hn⟩ ≠ r) (hp : Picked e h U n r d x) : Picked e h U (n + 1) r d x := by
  rcases hp with ⟨u, hu, hs, hx⟩ | ⟨hs, hx⟩
  · exact .inl ⟨u, by omega, hs, hx⟩
  · refine .inr ⟨fun u hu => ?_, hx⟩
    by_cases hun : u.val = n
    · have : u = ⟨n, hn⟩ := Fin.ext hun
      subst this; exact hr
    · exact hs u (by omega)

/-- After `n0` rows of the first head and `n1` of the second, the output block holds the picked values. -/
def OState (U0 U1 : Vec F S40x64 .f32) (n0 n1 : ℕ) (L : List (View.Piece (Elt F) S2048x128 .f32)) : Prop :=
  ∀ (r : Fin 2048) (d : Fin 64), Picked e 0 U0 n0 r d (outRead e L (ix2 r (lane 0 d))) ∧ Picked e 1 U1 n1 r d (outRead e L (ix2 r (lane 1 d)))

theorem OState.zero {U0 U1 : Vec F S40x64 .f32} {L : List (View.Piece (Elt F) S2048x128 .f32)} (hL : MState e 8 L) : OState e U0 U1 0 0 L := by
  have key : ∀ (r : Fin 2048) (c : Fin 128), outRead e L (ix2 r c) = meanRow e c := by
    intro r c
    have hr := r.isLt
    have := hL ⟨r.val / 256, by omega⟩ ⟨r.val % 256, by omega⟩ c (by show r.val / 256 < 8; omega)
    rw [meanv_apply] at this
    rw [← this]; congr 2; exact Fin.ext (by show r.val = 256 * (r.val / 256) + r.val % 256; omega)
  exact fun r d => ⟨.inr ⟨fun _ h => absurd h (Nat.not_lt_zero _), key _ _⟩, .inr ⟨fun _ h => absurd h (Nat.not_lt_zero _), key _ _⟩⟩

/-- A row loaded back is the row of the output block. -/
theorem rowBack_apply (L : List (View.Piece (Elt F) S2048x128 .f32)) (h : Fin 2) (n : Fin 40) (c : Fin 128) :
    rowBack e L (word e h n) (word_lt e h n) (ix2 (0 : Fin 1) c) = outRead e L (ix2 (sel e h n) c) := by
  unfold rowBack
  refine (congrFun (shapeCast_self (s := S1x128) _ _) _).trans ?_
  exact load_apply _ _ rfl _ _ (ix2 (sel e h n) c) rfl (by simp)

theorem newRow0_lo (U : Vec F S40x64 .f32) (L : List (View.Piece (Elt F) S2048x128 .f32)) (n : Fin 40) (d : Fin 64) :
    newRow0 e U L n (ix2 (0 : Fin 1) (lane 0 d)) = U (ix2 n d) := by
  unfold newRow0
  refine (concatenate_pair_apply_left (t := S1x128) (s₁ := S1x64) (s₂ := S1x64) (1 : Fin 2) _ _ _ _ rfl (ix2 (0 : Fin 1) d) (by
    intro b; match b with | ⟨0, _⟩ => rfl | ⟨1, _⟩ => simp [lane])).trans ?_
  exact extractStridedSlice_apply _ _ _ _ (ix2 n d) (by intro b; match b with | ⟨0, _⟩ => rfl | ⟨1, _⟩ => simp)

theorem newRow0_hi (U : Vec F S40x64 .f32) (L : List (View.Piece (Elt F) S2048x128 .f32)) (n : Fin 40) (d : Fin 64) :
    newRow0 e U L n (ix2 (0 : Fin 1) (lane 1 d)) = outRead e L (ix2 (sel e 0 n) (lane 1 d)) := by
  unfold newRow0
  refine (concatenate_pair_apply_right (t := S1x128) (s₁ := S1x64) (s₂ := S1x64) (1 : Fin 2) _ _ _ _ rfl rfl (ix2 (0 : Fin 1) d) (by
    intro b; match b with | ⟨0, _⟩ => (intro _; rfl) | ⟨1, _⟩ => (intro h; exact absurd rfl h)) (by show d.val + 64 = 64 * 1 + d.val; omega)).trans ?_
  refine (extractStridedSlice_apply _ _ _ _ (ix2 (0 : Fin 1) (lane 1 d)) (by intro b; match b with | ⟨0, _⟩ => rfl | ⟨1, _⟩ => simp [lane])).trans ?_
  exact rowBack_apply e L 0 n _

theorem newRow1_lo (U : Vec F S40x64 .f32) (L : List (View.Piece (Elt F) S2048x128 .f32)) (n : Fin 40) (d : Fin 64) :
    newRow1 e U L n (ix2 (0 : Fin 1) (lane 0 d)) = outRead e L (ix2 (sel e 1 n) (lane 0 d)) := by
  unfold newRow1
  refine (concatenate_pair_apply_left (t := S1x128) (s₁ := S1x64) (s₂ := S1x64) (1 : Fin 2) _ _ _ _ rfl (ix2 (0 : Fin 1) d) (by
    intro b; match b with | ⟨0, _⟩ => rfl | ⟨1, _⟩ => simp [lane])).trans ?_
  refine (extractStridedSlice_apply _ _ _ _ (ix2 (0 : Fin 1) (lane 0 d)) (by intro b; match b with | ⟨0, _⟩ => rfl | ⟨1, _⟩ => simp [lane])).trans ?_
  exact rowBack_apply e L 1 n _

theorem newRow1_hi (U : Vec F S40x64 .f32) (L : List (View.Piece (Elt F) S2048x128 .f32)) (n : Fin 40) (d : Fin 64) :
    newRow1 e U L n (ix2 (0 : Fin 1) (lane 1 d)) = U (ix2 n d) := by
  unfold newRow1
  refine (concatenate_pair_apply_right (t := S1x128) (s₁ := S1x64) (s₂ := S1x64) (1 : Fin 2) _ _ _ _ rfl rfl (ix2 (0 : Fin 1) d) (by
    intro b; match b with | ⟨0, _⟩ => (intro _; rfl) | ⟨1, _⟩ => (intro h; exact absurd rfl h)) (by show d.val + 64 = 64 * 1 + d.val; omega)).trans ?_
  exact extractStridedSlice_apply _ _ _ _ (ix2 n d) (by intro b; match b with | ⟨0, _⟩ => rfl | ⟨1, _⟩ => simp)

/-- A stored row is read in its row and nowhere else. -/
theorem outRead_hit (L : List (View.Piece (Elt F) S2048x128 .f32)) (h : Fin 2) (n : Fin 40) (p : Vec F S1x128 .f32) (c : Fin 128) :
    outRead e (⟨Rect.unit (s := S2048x128) ![(word e h n).toNat, 0] S1x128.size (orow_inb _ (word_lt e h n)), p⟩ :: L) (ix2 (sel e h n) c) = p (ix2 (0 : Fin 1) c) :=
  read_cons_hit _ _ _ rfl _ _ _ (ix2 (0 : Fin 1) c) rfl (by simp)

theorem outRead_miss (L : List (View.Piece (Elt F) S2048x128 .f32)) (h : Fin 2) (n : Fin 40) (p : Vec F S1x128 .f32) (r : Fin 2048) (c : Fin 128) (hr : sel e h n ≠ r) :
    outRead e (⟨Rect.unit (s := S2048x128) ![(word e h n).toNat, 0] S1x128.size (orow_inb _ (word_lt e h n)), p⟩ :: L) (ix2 r c) = outRead e L (ix2 r c) :=
  read_cons_miss _ _ _ rfl _ _ _ (by
    rintro ⟨⟨h0, h1⟩, -⟩
    change (word e h n).toNat ≤ r.val at h0; change r.val < (word e h n).toNat + 1 at h1
    exact hr (Fin.ext (by show (word e h n).toNat = r.val; omega)))

theorem OState.step0 {U0 U1 : Vec F S40x64 .f32} {n : ℕ} {L : List (View.Piece (Elt F) S2048x128 .f32)} (hn : n < 40) (hL : OState e U0 U1 n 0 L) :
    OState e U0 U1 (n + 1) 0 (⟨Rect.unit (s := S2048x128) ![(word e 0 ⟨n, hn⟩).toNat, 0] S1x128.size (orow_inb _ (word_lt e 0 ⟨n, hn⟩)), newRow0 e U0 L ⟨n, hn⟩⟩ :: L) := by
  intro r d
  by_cases hr : sel e 0 ⟨n, hn⟩ = r
  · subst hr
    rw [outRead_hit, outRead_hit, newRow0_lo, newRow0_hi]
    exact ⟨.inl ⟨⟨n, hn⟩, Nat.lt_succ_self _, rfl, rfl⟩, (hL _ d).2⟩
  · rw [outRead_miss _ _ _ _ _ _ _ hr, outRead_miss _ _ _ _ _ _ _ hr]
    exact ⟨(hL r d).1.miss e hn hr, (hL r d).2⟩

theorem OState.step1 {U0 U1 : Vec F S40x64 .f32} {n : ℕ} {L : List (View.Piece (Elt F) S2048x128 .f32)} (hn : n < 40) (hL : OState e U0 U1 40 n L) :
    OState e U0 U1 40 (n + 1) (⟨Rect.unit (s := S2048x128) ![(word e 1 ⟨n, hn⟩).toNat, 0] S1x128.size (orow_inb _ (word_lt e 1 ⟨n, hn⟩)), newRow1 e U1 L ⟨n, hn⟩⟩ :: L) := by
  intro r d
  by_cases hr : sel e 1 ⟨n, hn⟩ = r
  · subst hr
    rw [outRead_hit, outRead_hit, newRow1_lo, newRow1_hi]
    exact ⟨(hL _ d).1, .inl ⟨⟨n, hn⟩, Nat.lt_succ_self _, rfl, rfl⟩⟩
  · rw [outRead_miss _ _ _ _ _ _ _ hr, outRead_miss _ _ _ _ _ _ _ hr]
    exact ⟨(hL r d).1, (hL r d).2.miss e hn hr⟩

/-- The output block the body leaves: in each head's lanes, the attention row where a word names the row, the mean elsewhere. -/
theorem out_state (harg5 : e.arg5.IsWhole) (harg6 : e.arg6.IsWhole) (harg7 : e.arg7.IsWhole) :
    OState e (kernelRun.sl.v581 e) (kernelRun.sl.v1163 e) 40 40 (kernelRun e harg5 harg6 harg7).1 := by
  unfold kernelRun
  iterate 40 refine OState.step1 e (by decide) ?_
  iterate 40 refine OState.step0 e (by decide) ?_
  refine OState.zero e ?_
  unfold kernelRun.sl.H4_8
  iterate 8 refine MState.step e (by decide) ?_
  exact MState.zero e []

end Cert.AttendIdeal.Hand

end
-- ==== Proof.Softmax.lean ====
module

public import Idealize.ShloMosaic.PureOps.Ideal.Laws

@[expose] public section

noncomputable section

namespace Cert.Softmax

open Idealize.ShloMosaic

variable {n : ℕ}

/-- The softmax weight of position `i` among the real scores `s`. -/
def weight (s : Fin n → ℝ) (i : Fin n) : ℝ := Real.exp (s i) / ∑ j, Real.exp (s j)

/-- The values `v` averaged with the softmax weights of the scores `s`. -/
def average (s : Fin n → ℝ) (v : Fin n → EReal) : EReal := ∑ i, (weight s i : EReal) * v i

/-- A sum of reals, read as extended reals, is the real sum. -/
theorem coe_sum (f : Fin n → ℝ) : ∑ i, (f i : EReal) = ((∑ i, f i : ℝ) : EReal) := by
  induction n with
  | zero => simp
  | succ n ih => rw [Fin.sum_univ_succ, Fin.sum_univ_succ, ih, EReal.coe_add]

/-- The exponential of a difference of reals is the real exponential. -/
theorem exp_sub (x a : ℝ) : Ideal.exp ((x : EReal) - (a : EReal)) = ((Real.exp (x - a) : ℝ) : EReal) := by
  rw [← EReal.coe_sub]; rfl

/-- Dividing by a positive real is multiplying by its inverse. -/
theorem div_pos {y : ℝ} (hy : 0 < y) (x : EReal) : Ideal.div x (y : EReal) = x * ((y⁻¹ : ℝ) : EReal) := by
  unfold Ideal.div
  rw [if_neg (by exact_mod_cast hy.ne'), ← EReal.coe_inv]

/-- A real factor at least zero distributes over a sum of extended reals. -/
theorem sum_mul_coe {c : ℝ} (hc : 0 ≤ c) (f : Fin n → EReal) : (∑ i, f i) * (c : EReal) = ∑ i, f i * (c : EReal) := by
  induction n with
  | zero => simp
  | succ n ih =>
    rw [Fin.sum_univ_succ, Fin.sum_univ_succ, ← ih,
      EReal.right_distrib_of_nonneg_of_ne_top (by exact_mod_cast hc) (EReal.coe_ne_top c)]

/-- The exponentials of the scores below any shift sum to a positive real. -/
theorem total_pos [NeZero n] (s : Fin n → ℝ) (a : ℝ) : 0 < ∑ j, Real.exp (s j - a) :=
  Finset.sum_pos (fun _ _ => Real.exp_pos _) ⟨0, Finset.mem_univ _⟩

/-- A shift of every score cancels in the weights. -/
theorem weight_shift [NeZero n] (s : Fin n → ℝ) (a : ℝ) (i : Fin n) :
    Real.exp (s i - a) * (∑ j, Real.exp (s j - a))⁻¹ = weight s i := by
  unfold weight
  have h : ∑ j, Real.exp (s j - a) = (∑ j, Real.exp (s j)) / Real.exp a := by
    rw [Finset.sum_div]; exact Finset.sum_congr rfl fun j _ => Real.exp_sub _ _
  have h0 : (∑ j, Real.exp (s j)) ≠ 0 := by
    have := total_pos s 0; simp only [sub_zero] at this; exact this.ne'
  rw [h, Real.exp_sub]
  have := Real.exp_ne_zero a
  field_simp

/-- Weighting the values by the exponentials and dividing the sum by the exponentials' total is the average. -/
theorem sum_then_div [NeZero n] (s : Fin n → ℝ) (a : ℝ) (v : Fin n → EReal) :
    Ideal.div (∑ i, Ideal.exp ((s i : EReal) - (a : EReal)) * v i) (∑ i, Ideal.exp ((s i : EReal) - (a : EReal))) = average s v := by
  simp only [exp_sub]
  rw [coe_sum, div_pos (total_pos s a), sum_mul_coe (inv_nonneg.2 (total_pos s a).le)]
  refine Finset.sum_congr rfl fun i _ => ?_
  rw [← weight_shift s a i, EReal.coe_mul, mul_right_comm]

/-- Dividing each exponential by the total and then weighting the values is the average. -/
theorem div_then_sum [NeZero n] (s : Fin n → ℝ) (a : ℝ) (v : Fin n → EReal) :
    ∑ i, Ideal.div (Ideal.exp ((s i : EReal) - (a : EReal))) (∑ i, Ideal.exp ((s i : EReal) - (a : EReal))) * v i = average s v := by
  simp only [exp_sub]
  rw [coe_sum]
  refine Finset.sum_congr rfl fun i _ => ?_
  rw [div_pos (total_pos s a), ← EReal.coe_mul, weight_shift]

/-- An extended real is finite when it is some real number. -/
def IsReal (x : EReal) : Prop := ∃ r : ℝ, x = (r : EReal)

theorem IsReal.coe (r : ℝ) : IsReal (r : EReal) := ⟨r, rfl⟩

theorem IsReal.max {x y : EReal} (hx : IsReal x) (hy : IsReal y) : IsReal (max x y) := by
  rcases max_choice x y with h | h <;> rw [h] <;> assumption

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {f : Fin n → EReal} (h : ∀ i, IsReal (f i)) : IsReal (∑ i, f i) := by
  choose g hg using h
  exact ⟨∑ i, g i, by rw [← coe_sum]; exact Finset.sum_congr rfl fun i _ => hg i⟩

theorem IsReal.toReal {x : EReal} (h : IsReal x) : ((x.toReal : ℝ) : EReal) = x := by
  obtain ⟨r, rfl⟩ := h; rfl

/-- The largest of finitely many reals, at least one, taken from minus infinity, is real. -/
theorem IsReal.fold_max {f : Fin n → EReal} (h : ∀ i, IsReal (f i)) (s : Finset (Fin n)) (b : EReal) (hb : b ≠ ⊤)
    (hs : s.Nonempty) : IsReal (s.fold Max.max b f) := by
  have h1 : s.fold Max.max b f ≠ ⊤ := by
    refine ne_of_lt (Finset.fold_max_lt _ |>.2 ⟨lt_top_iff_ne_top.2 hb, fun i _ => ?_⟩)
    obtain ⟨r, hr⟩ := h i; rw [hr]; exact EReal.coe_lt_top r
  have h2 : s.fold Max.max b f ≠ ⊥ := by
    obtain ⟨i, hi⟩ := hs
    refine ne_of_gt (Finset.lt_fold_max _ |>.2 (Or.inr ⟨i, hi, ?_⟩))
    obtain ⟨r, hr⟩ := h i; rw [hr]; exact EReal.bot_lt_coe r
  exact ⟨_, (EReal.coe_toReal h1 h2).symm⟩

/-- A magnitude below infinity is that of a real. -/
theorem IsReal.of_abs_lt {x : EReal} (h : Max.max x (-x) < ⊤) : IsReal x := by
  have h1 : x ≠ ⊤ := fun e => by subst e; simp at h
  have h2 : x ≠ ⊥ := fun e => by subst e; simp at h
  exact ⟨_, (EReal.coe_toReal h1 h2).symm⟩

end Cert.Softmax

end
-- ==== Proof.Literals.lean ====
module

public import proofs.«01_k».proof.Proof.Softmax
public import Idealize.ShloMosaic.Lib.IdealHost

@[expose] public section

noncomputable section

namespace Cert.Literals

open Idealize.ShloMosaic Cert.Softmax

/-- The pattern of the score scale is one eighth. -/
theorem scale : Ideal.ofBits .f32 0x3E000000#32 = (((1 : ℝ) / 8 : ℝ) : EReal) := by
  simp [Ideal.ofBits, Ideal.ieee, -EReal.coe_mul]; norm_num

/-- The pattern of the kernel's mean factor is 1/2048. -/
theorem inv_rows : Ideal.ofBits .f32 0x3A000000#32 = (((2048 : ℝ)⁻¹ : ℝ) : EReal) := by
  simp [Ideal.ofBits, Ideal.ieee, -EReal.coe_mul]; norm_num

/-- The pattern of the reference's mean divisor is 2048. -/
theorem rows : Ideal.ofBits .f32 0x45000000#32 = ((2048 : ℝ) : EReal) := by
  simp [Ideal.ofBits, Ideal.ieee, -EReal.coe_mul]; norm_num

/-- The pattern of the kernel's starting maximum is a real. -/
theorem low_isReal : IsReal (Ideal.ofBits .f32 0xFF61B1E6#32) := by
  simp only [Ideal.ofBits, Ideal.ieee]
  rw [if_neg (by decide), if_neg (by decide)]
  exact ⟨_, rfl⟩

/-- The pattern of minus infinity is the least extended real. -/
theorem minus_inf : Ideal.ofBits .f32 0xFF800000#32 = ⊥ := by
  simp [Ideal.ofBits, Ideal.ieee]

/-- The pattern of infinity is the greatest extended real. -/
theorem plus_inf : Ideal.ofBits .f32 0x7F800000#32 = ⊤ := by
  simp [Ideal.ofBits, Ideal.ieee]

/-- A sum over 2048 positions is the sum over 8 chunks of 256. -/
theorem sum_chunks (f : Fin 2048 → EReal) :
    ∑ i, f i = ∑ k : Fin 8, ∑ l : Fin 256, f ⟨256 * k.val + l.val, by have := k.isLt; have := l.isLt; omega⟩ := by
  rw [← Fintype.sum_prod_type', ← Equiv.sum_comp (finProdFinEquiv (m := 8) (n := 256))]
  refine Finset.sum_congr rfl fun x _ => congrArg f (Fin.ext ?_)
  simp [finProdFinEquiv, Nat.add_comm]

end Cert.Literals

end
-- ==== Proof.AttendValue.lean ====
module

public import proofs.«01_k».proof.Proof.AttendOut
public import proofs.«01_k».proof.Proof.Literals
public import Idealize.ShloMosaic.Lib.ValueIdx

@[expose] public section

set_option maxRecDepth 16384

noncomputable section

namespace Cert.AttendIdeal.Hand

open Cert.AttendIdeal Cert.AttendIdeal.Gen Cert.Stores Cert.Softmax Cert.Literals
open Idealize.ShloMosaic Idealize.ShloMosaic.TcCoe
open Idealize.ShloMosaic.ValueIdx (ix1 ix2 contrEquiv1 contrEquiv1_symm_val)

variable (e : Env Ideal)

/-- Position `l` of chunk `k` among the 2048 rows. -/
abbrev pos (k : Fin 8) (l : Fin 256) : Fin 2048 := ⟨256 * k.val + l.val, by have := k.isLt; have := l.isLt; omega⟩

/-- The score of query row `r` against key row `i` for head `h` of the pair. -/
def score (h : Fin 2) (r i : Fin 2048) : EReal :=
  (∑ c : Fin 64, e.x1 (ix2 r (lane h c)) * e.x2 (ix2 i (lane h c))) * Ideal.ofBits .f32 0x3E000000#32

/-- A chunk of a block, loaded, at a place. -/
theorem chunk_apply (M : Memref sig .tc .vmem S2048x128 .f32) (hM : M.IsWhole) (x : Vec Ideal S2048x128 .f32) (h : Fin 2) (k : Fin 8) (l : Fin 256) (d : Fin 64) :
    shapeCast S256x64 (View.readAt (Elt Ideal) M.view (Rect.unit (s := S2048x128) ![256 * k.val, 64 * h.val] S256x64.size (chunk_inb h k)).toLoadRect (hM.unread x)) shapeCasts_S256x64_S256x64 (ix2 l d)
      = x (ix2 (pos k l) (lane h d)) := by
  refine (congrFun (shapeCast_self (s := S256x64) _ _) _).trans ?_
  rw [load_apply _ _ rfl _ _ (ix2 (pos k l) (lane h d)) (by simp) (by simp [lane]), Memref.IsWhole.read_unread]

/-- A chunk of scores at a place: the score of the gathered row there. -/
theorem scOf_apply (h : Fin 2) (Q : Vec Ideal S40x64 .f32) (k : Fin 8) (u : Fin 40) (l : Fin 256) :
    scOf e h Q k (ix2 u l) = (∑ c : Fin 64, Q (ix2 u c) * e.x2 (ix2 (pos k l) (lane h c))) * Ideal.ofBits .f32 0x3E000000#32 := by
  unfold scOf
  simp only [matmul]
  refine congrArg (· * Ideal.ofBits .f32 0x3E000000#32) ?_
  refine (Ideal.matmul_constant_zero_apply _ _ _ _ _).trans ?_
  rw [← Equiv.sum_comp (contrEquiv1 dot_S40x64_S256x64_S40x256_1_1_0_0_n_n 64 rfl rfl).symm]
  refine Finset.sum_congr rfl fun c _ => ?_
  refine congrArg₂ (· * ·) (congrArg Q ?_) (Eq.trans (congrArg _ ?_) (chunk_apply _ e.harg3 e.x2 h k l c))
  · funext a; match a with | ⟨0, _⟩ => rfl | ⟨1, _⟩ => rfl
  · funext a; match a with | ⟨0, _⟩ => rfl | ⟨1, _⟩ => rfl

/-- Folding a sum over the chunks from zero is the sum over the chunks. -/
theorem foldl_chunks (g : Fin 8 → EReal) : chunks.foldl (fun a k => a + g k) 0 = ∑ k, g k := by
  simp [chunks, Fin.sum_univ_eight]

/-- A fold of an elementwise step, read at a place. -/
theorem foldl_apply {s : Shape} {α : Type} (G : Vec Ideal s .f32 → Fin 8 → Vec Ideal s .f32) (g : EReal → Fin 8 → EReal) (y : s.Idx)
    (hG : ∀ A k, G A k y = g (A y) k) (L : List (Fin 8)) (A : Vec Ideal s .f32) : L.foldl G A y = L.foldl g (A y) := by
  induction L generalizing A with
  | nil => rfl
  | cons k L ih => rw [List.foldl_cons, List.foldl_cons, ih, hG]

/-- A vector of 40 as a column. -/
theorem col_apply (x : Vec Ideal S40 .f32) (u : Fin 40) : shapeCast S40x1 x shapeCasts_S40_S40x1 (ix2 u (0 : Fin 1)) = x (ix1 u) :=
  shapeCast_apply _ _ _ (ix1 u) (by rw [Shape.rowMajor_val_one, Shape.rowMajor_val_two]; simp [ix1, ix2])

/-- The exponentials' total for a gathered row. -/
theorem rsumOf_apply (p : Fin 8 → Vec Ideal S40x256 .f32) (u : Fin 40) :
    rsumOf p (ix2 u (0 : Fin 1)) = ∑ k : Fin 8, ∑ l : Fin 256, p k (ix2 u l) := by
  rw [← foldl_chunks]
  unfold rsumOf
  refine (foldl_apply (α := Unit) _ (fun a k => a + ∑ l : Fin 256, p k (ix2 u l)) _ (fun A k => ?_) _ _).trans ?_
  · refine congrArg (A (ix2 u (0 : Fin 1)) + ·) ?_
    rw [col_apply]
    refine (Ideal.multiReduction_add_single _ _ _ _ _ _).trans ?_
    refine Finset.sum_congr rfl fun l _ => congrArg (p k) ?_
    funext a; match a with | ⟨0, _⟩ => rfl | ⟨1, _⟩ => rfl
  · refine congrArg (fun z => chunks.foldl _ z) ?_
    exact Ideal.ofBits_zero_f32

/-- The weighted sum of the values for a gathered row. -/
theorem wsumOf_apply (h : Fin 2) (p : Fin 8 → Vec Ideal S40x256 .f32) (u : Fin 40) (d : Fin 64) :
    wsumOf e h p (ix2 u d) = ∑ k : Fin 8, ∑ l : Fin 256, p k (ix2 u l) * e.x3 (ix2 (pos k l) (lane h d)) := by
  rw [← foldl_chunks]
  unfold wsumOf
  refine (foldl_apply (α := Unit) _ (fun a k => a + ∑ l : Fin 256, p k (ix2 u l) * e.x3 (ix2 (pos k l) (lane h d))) _ (fun A k => ?_) _ _).trans ?_
  · refine congrArg (A (ix2 u d) + ·) ?_
    simp only [matmul]
    refine (Ideal.matmul_constant_zero_apply _ _ _ _ _).trans ?_
    rw [← Equiv.sum_comp (contrEquiv1 dot_S40x256_S256x64_S40x64_1_0_0_1_n_n 256 rfl rfl).symm]
    refine Finset.sum_congr rfl fun l _ => ?_
    refine congrArg₂ (· * ·) (congrArg (p k) ?_) (Eq.trans (congrArg _ ?_) (chunk_apply _ e.harg4 e.x3 h k l d))
    · funext a; match a with | ⟨0, _⟩ => rfl | ⟨1, _⟩ => rfl
    · funext a; match a with | ⟨0, _⟩ => rfl | ⟨1, _⟩ => rfl
  · refine congrArg (fun z => chunks.foldl _ z) ?_
    exact Ideal.ofBits_zero_f32

/-- The running maximum of real scores is real. -/
theorem rmaxOf_isReal (s : Fin 8 → Vec Ideal S40x256 .f32) (u : Fin 40) (hs : ∀ k l, IsReal (s k (ix2 u l))) : IsReal (rmaxOf s (ix2 u (0 : Fin 1))) := by
  unfold rmaxOf
  have step : ∀ (L : List (Fin 8)) (A : Vec Ideal S40x1 .f32), IsReal (A (ix2 u (0 : Fin 1))) →
      IsReal (L.foldl (fun acc k => maximumf (F := Ideal) acc (shapeCast S40x1 (multiReduction (F := Ideal) .maximumf [1] S40 (s k) 0xFF800000#32 reduces_S40x256_S40 (.inl rfl) rfl) shapeCasts_S40_S40x1)) A (ix2 u (0 : Fin 1))) := by
    intro L
    induction L with
    | nil => exact fun A h => h
    | cons k L ih =>
      intro A hA
      refine ih _ (IsReal.max hA ?_)
      rw [col_apply]
      refine (congrArg IsReal (Ideal.multiReduction_maximumf_single _ _ _ _ _ _)).mpr ?_
      refine IsReal.fold_max (fun l => ?_) _ _ ?_ ⟨⟨0, by decide⟩, Finset.mem_univ _⟩
      · refine Eq.mp (congrArg (fun y => IsReal (s k y)) ?_) (hs k l)
        funext a; match a with | ⟨0, _⟩ => rfl | ⟨1, _⟩ => rfl
      · exact (congrArg (· ≠ (⊤ : EReal)) minus_inf).mpr bot_ne_top
  exact step _ _ low_isReal

/-- The exponential of a score below the maximum, at a place. -/
theorem prOf_apply (s : Fin 8 → Vec Ideal S40x256 .f32) (m : Vec Ideal S40x1 .f32) (k : Fin 8) (u : Fin 40) (l : Fin 256) :
    prOf s m k (ix2 u l) = Ideal.exp (s k (ix2 u l) - m (ix2 u (0 : Fin 1))) := by
  refine congrArg (fun z => Ideal.exp (s k (ix2 u l) - z)) ?_
  exact broadcastTo_apply _ _ _ (ix2 u (0 : Fin 1)) (by intro a; match a with | ⟨0, _⟩ => rfl | ⟨1, _⟩ => rfl)

/-- The attention row of the query row `r`: the values averaged with the softmax weights of the row's scores. -/
def attnRow (h : Fin 2) (r : Fin 2048) (d : Fin 64) : EReal :=
  average (fun i => (score e h r i).toReal) (fun i => e.x3 (ix2 i (lane h d)))

/-- Real queries and keys have real scores. -/
theorem score_isReal (h1 : ∀ y, IsReal (e.x1 y)) (h2 : ∀ y, IsReal (e.x2 y)) (h : Fin 2) (r i : Fin 2048) : IsReal (score e h r i) :=
  IsReal.mul (IsReal.sum fun c => IsReal.mul (h1 _) (h2 _)) (scale ▸ IsReal.coe _)

/-- What the body makes of a gathered row is the attention row of the query row that the word names. -/
theorem upd_apply (h1 : ∀ y, IsReal (e.x1 y)) (h2 : ∀ y, IsReal (e.x2 y)) (h : Fin 2) (Q : Vec Ideal S40x64 .f32)
    (hQ : ∀ u d, Q (ix2 u d) = e.x1 (ix2 (sel e h u) (lane h d))) (u : Fin 40) (d : Fin 64) :
    updOf e h (prOf (scOf e h Q) (rmaxOf (scOf e h Q))) (ix2 u d) = attnRow e h (sel e h u) d := by
  have hs : ∀ k l, scOf e h Q k (ix2 u l) = score e h (sel e h u) (pos k l) := fun k l => by
    rw [scOf_apply]; unfold score; simp only [hQ]
  obtain ⟨a, ha⟩ := rmaxOf_isReal (scOf e h Q) u fun k l => by rw [hs]; exact score_isReal e h1 h2 h _ _
  have hp : ∀ k l, prOf (scOf e h Q) (rmaxOf (scOf e h Q)) k (ix2 u l)
      = Ideal.exp ((((score e h (sel e h u) (pos k l)).toReal : ℝ) : EReal) - (a : EReal)) := fun k l => by
    rw [prOf_apply, hs, ha, (score_isReal e h1 h2 h _ _).toReal]
  unfold updOf attnRow
  refine Eq.trans ?_ (sum_then_div _ a _)
  rw [sum_chunks, sum_chunks]
  refine congrArg₂ Ideal.div ?_ ?_
  · rw [wsumOf_apply]
    exact Finset.sum_congr rfl fun k _ => Finset.sum_congr rfl fun l _ => by rw [hp]
  · refine (broadcastTo_apply _ _ _ (ix2 u (0 : Fin 1)) (by intro a; match a with | ⟨0, _⟩ => rfl | ⟨1, _⟩ => rfl)).trans ?_
    rw [rsumOf_apply]
    exact Finset.sum_congr rfl fun k _ => Finset.sum_congr rfl fun l _ => by rw [hp]

/-- The mean row: the values' sum times 1/2048. -/
theorem meanRow_apply (c : Fin 128) : meanRow e c = (∑ i : Fin 2048, e.x3 (ix2 i c)) * Ideal.ofBits .f32 0x3A000000#32 := by
  refine congrArg (· * Ideal.ofBits .f32 0x3A000000#32) ?_
  rw [sum_chunks, ← foldl_chunks]
  unfold vsum
  refine (foldl_apply (α := Unit) _ (fun a k => a + ∑ l : Fin 256, e.x3 (ix2 (pos k l) c)) _ (fun A k => ?_) _ _).trans ?_
  · refine congrArg (A (ix2 (0 : Fin 1) c) + ·) ?_
    refine (shapeCast_apply _ _ _ (ix1 c) (by rw [Shape.rowMajor_val_one, Shape.rowMajor_val_two]; simp [ix1, ix2])).trans ?_
    refine (Ideal.multiReduction_add_single _ _ _ _ _ _).trans ?_
    refine Finset.sum_congr rfl fun l _ => ?_
    refine (congrFun (shapeCast_self (s := S256x128) _ _) _).trans ?_
    rw [load_apply _ _ rfl _ _ (ix2 (pos k l) c) rfl (by simp; rfl), Memref.IsWhole.read_unread]
  · refine congrArg (fun z => chunks.foldl _ z) ?_
    exact Ideal.ofBits_zero_f32

/-- What the body leaves in row `r` of head `h`'s half: the attention row when some word names `r`, else the mean row. -/
def headOut (h : Fin 2) (r : Fin 2048) (d : Fin 64) : EReal :=
  open Classical in
  if ∃ u : Fin 40, sel e h u = r then attnRow e h r d else (∑ i : Fin 2048, e.x3 (ix2 i (lane h d))) * Ideal.ofBits .f32 0x3A000000#32

/-- A place written with the attention rows of a head holds what `headOut` says. -/
theorem Picked.eq {h : Fin 2} {U : Vec Ideal S40x64 .f32} (hU : ∀ u d, U (ix2 u d) = attnRow e h (sel e h u) d) {r : Fin 2048} {d : Fin 64} {x : EReal}
    (hp : Picked e h U 40 r d x) : x = headOut e h r d := by
  unfold headOut
  rcases hp with ⟨u, -, hs, hx⟩ | ⟨hs, hx⟩
  · rw [if_pos ⟨u, hs⟩, hx, hU, hs]
  · rw [if_neg (by rintro ⟨u, hu⟩; exact hs u u.isLt hu), hx, meanRow_apply]

/-- The output block after the body, at every place. -/
theorem out_apply (h1 : ∀ y, IsReal (e.x1 y)) (h2 : ∀ y, IsReal (e.x2 y)) (harg5 : e.arg5.IsWhole) (harg6 : e.arg6.IsWhole) (harg7 : e.arg7.IsWhole)
    (h : Fin 2) (r : Fin 2048) (d : Fin 64) : outRead e (kernelRun e harg5 harg6 harg7).1 (ix2 r (lane h d)) = headOut e h r d := by
  have H := out_state e harg5 harg6 harg7 r d
  have e0 : ∀ u d, kernelRun.sl.v581 e (ix2 u d) = attnRow e 0 (sel e 0 u) d := fun u d => by
    rw [u0_raw, funext (s0_load e), m0_eq]; exact upd_apply e h1 h2 0 _ (q0_apply e) u d
  have e1 : ∀ u d, kernelRun.sl.v1163 e (ix2 u d) = attnRow e 1 (sel e 1 u) d := fun u d => by
    rw [u1_raw, funext (s1_load e), m1_eq]; exact upd_apply e h1 h2 1 _ (q1_apply e) u d
  match h with
  | ⟨0, _⟩ => exact Picked.eq e e0 H.1
  | ⟨1, _⟩ => exact Picked.eq e e1 H.2

end Cert.AttendIdeal.Hand

end
-- ==== Proof.Spec.lean ====
module

public import proofs.«01_k».proof.Proof.Literals
public import Idealize.ShloMosaic.Lib.ValueIdx

@[expose] public section

noncomputable section

namespace Cert.Spec

open Idealize.ShloMosaic Cert.Softmax
open Idealize.ShloMosaic.ValueIdx (ix2 ix4)

/-- Queries, keys or values: batch, row, head, lane. -/
abbrev Arr : Type := (⟨4, ![1, 2048, 16, 64]⟩ : Shape).Idx → EReal

/-- The table of selected rows: 128 words per head, of which the first 40 are read. -/
abbrev Table : Type := (⟨2, ![16, 128]⟩ : Shape).Idx → BitVec 32

/-- The `n`-th word of head `h`. -/
abbrev pick (w : Table) (h : Fin 16) (n : Fin 40) : BitVec 32 := w (ix2 h (⟨n.val, by have := n.isLt; omega⟩ : Fin 128))

/-- The score of query row `r` against key row `i` in head `h`: their inner product times one eighth. -/
def score (q k : Arr) (r : Fin 2048) (h : Fin 16) (i : Fin 2048) : EReal :=
  (∑ c : Fin 64, q (ix4 0 r h c) * k (ix4 0 i h c)) * Ideal.ofBits .f32 0x3E000000#32

/-- The attention of query row `r` in head `h`: the values averaged with the softmax weights of the row's scores. -/
def attn (q k v : Arr) (r : Fin 2048) (h : Fin 16) (d : Fin 64) : EReal :=
  average (fun i => (score q k r h i).toReal) (fun i => v (ix4 0 i h d))

/-- The values of head `h` averaged over all rows. -/
def mean (v : Arr) (h : Fin 16) (d : Fin 64) : EReal := (∑ i : Fin 2048, v (ix4 0 i h d)) * (((2048 : ℝ)⁻¹ : ℝ) : EReal)

/-- The result: the attention of the rows that the table names, the mean in all others. -/
def out (w : Table) (q k v : Arr) (r : Fin 2048) (h : Fin 16) (d : Fin 64) : EReal :=
  open Classical in
  if ∃ n : Fin 40, (pick w h n).toNat = r.val then attn q k v r h d else mean v h d

/-- The result laid out flat: one row per query row, the heads' lanes side by side. -/
def flat (w : Table) (q k v : Arr) : (⟨2, ![2048, 1024]⟩ : Shape).Idx → EReal := fun i =>
  out w q k v (i 0) ⟨(i 1).val / 64, by have : (i 1).val < 1024 := (i 1).isLt; omega⟩ ⟨(i 1).val % 64, Nat.mod_lt _ (by decide)⟩

/-- The flat result at head `h`, lane `d`. -/
theorem flat_apply (w : Table) (q k v : Arr) (r : Fin 2048) (h : Fin 16) (d : Fin 64) (j : Fin 1024) (hj : j.val = 64 * h.val + d.val) :
    flat w q k v (ix2 r j) = out w q k v r h d := by
  have hd := d.isLt
  exact congrArg₂ (out w q k v r) (Fin.ext (by show j.val / 64 = h.val; omega)) (Fin.ext (by show j.val % 64 = d.val; omega))

/-- Real queries and keys have real scores. -/
theorem score_isReal {q k : Arr} (hq : ∀ y, IsReal (q y)) (hk : ∀ y, IsReal (k y)) (r : Fin 2048) (h : Fin 16) (i : Fin 2048) : IsReal (score q k r h i) :=
  IsReal.mul (IsReal.sum fun c => IsReal.mul (hq _) (hk _)) (Literals.scale ▸ IsReal.coe _)

end Cert.Spec

end
-- ==== Proof.AttendBlocks.lean ====
module

public import proofs.«01_k».proof.Proof.AttendValue
public import proofs.«01_k».proof.Proof.AttendFrame
public import proofs.«01_k».proof.Proof.Spec

@[expose] public section

set_option maxRecDepth 16384

noncomputable section

namespace Cert.AttendIdeal.Hand

open Cert.AttendIdeal Cert.AttendIdeal.Gen Cert.Stores Cert.Softmax Cert.Literals
open Idealize.ShloMosaic Idealize.ShloMosaic.TcCoe Idealize.SL.Sem
open Idealize.ShloMosaic.Pipeline (Dat)
open Idealize.ShloMosaic.ValueIdx (ix1 ix2 ix4)

variable (m : (ℓ : Loc nD τ sig) → Buf (Elt Ideal) ℓ) (ρ : Dev nD → PrngReg)

/-- Lane `l` of the point's 128 columns. -/
abbrev colOf (t : Fin cfg0.N) (l : Fin 128) : Fin 1024 := ⟨128 * t.val + l.val, by have := Nat.lt_of_lt_of_eq t.isLt N_0; have := l.isLt; omega⟩

/-- Head `h` of the point's pair. -/
abbrev headOf (t : Fin cfg0.N) (h : Fin 2) : Fin 16 := ⟨2 * t.val + h.val, by have := Nat.lt_of_lt_of_eq t.isLt N_0; have := h.isLt; omega⟩

theorem V_main_v0 (c : Dev nD) : V m c main_v0 = shapeCast S2048x1024 (m ((c : Thread nD τ).loc main_arg1)) shapeCasts_S1x2048x16x64_S2048x1024 := by
  simp only [V, hostOps0]; after_results_simp; rfl
theorem V_main_v1 (c : Dev nD) : V m c main_v1 = shapeCast S2048x1024 (m ((c : Thread nD τ).loc main_arg2)) shapeCasts_S1x2048x16x64_S2048x1024 := by
  simp only [V, hostOps0]; after_results_simp; rfl
theorem V_main_v2 (c : Dev nD) : V m c main_v2 = shapeCast S2048x1024 (m ((c : Thread nD τ).loc main_arg3)) shapeCasts_S1x2048x16x64_S2048x1024 := by
  simp only [V, hostOps0]; after_results_simp; rfl

/-- Heads and lanes side by side, at a place. -/
theorem flat_apply (x : Vec Ideal S1x2048x16x64 .f32) (t : Fin cfg0.N) (r : Fin 2048) (h : Fin 2) (d : Fin 64) :
    shapeCast S2048x1024 x shapeCasts_S1x2048x16x64_S2048x1024 (ix2 r (colOf t (lane h d))) = x (ix4 (0 : Fin 1) r (headOf t h) d) := by
  refine shapeCast_apply _ _ _ _ ?_
  rw [Shape.rowMajor_val_two, Shape.rowMajor_val_four]
  simp [ix2, ix4, lane]
  omega

theorem index1 : ∀ t : Fin cfg0.N, win0_1.index t = ![0, t.val] := (by decide : ∀ t : Fin grid0.N, win0_1.index t = ![0, t.val])
theorem index2 : ∀ t : Fin cfg0.N, win0_2.index t = ![0, t.val] := (by decide : ∀ t : Fin grid0.N, win0_2.index t = ![0, t.val])
theorem index3 : ∀ t : Fin cfg0.N, win0_3.index t = ![0, t.val] := (by decide : ∀ t : Fin grid0.N, win0_3.index t = ![0, t.val])
theorem index4 : ∀ t : Fin cfg0.N, win0_4.index t = ![0, t.val] := (by decide : ∀ t : Fin grid0.N, win0_4.index t = ![0, t.val])
theorem index0 : ∀ t : Fin cfg0.N, win0_0.index t = ![0, 0] := (by decide : ∀ t : Fin grid0.N, win0_0.index t = ![0, 0])
theorem point_val : ∀ t : Fin cfg0.N, (grid0.coords t 0).val = t.val := (by decide : ∀ t : Fin grid0.N, (grid0.coords t 0).val = t.val)

/-- A block of columns in its array: the rows as they are, the columns those of the point's pair of heads. -/
theorem emb_cols (w : Pipeline.Window sig grid0) (t : Fin grid0.N) (hk : w.kind = .blocked) (hr : w.shape.rank = 2)
    (hi : ∀ a, w.index t a * w.size a = (![0, 128 * t.val] : Fin 2 → ℕ) (a.cast hr)) (y) (a : Fin w.shape.rank) :
    ((w.rect t).emb y a : ℕ) = (![0, 128 * t.val] : Fin 2 → ℕ) (a.cast hr) + y a := by
  rw [w.rect_emb_val t y a hk, hi]

theorem cols_index {f : Fin 2 → ℕ} {n : ℕ} (h : f = ![0, n]) (a : Fin 2) : f a * (![2048, 128] : Fin 2 → ℕ) a = (![0, 128 * n] : Fin 2 → ℕ) a := by
  subst h; match a with | ⟨0, _⟩ => rfl | ⟨1, _⟩ => exact Nat.mul_comm _ _

theorem iblk1_apply (c : Dev nD) (t : Fin cfg0.N) (r : Fin 2048) (h : Fin 2) (d : Fin 64) :
    iblk m c 1 t (ix2 r (lane h d)) = m ((c : Thread nD τ).loc main_arg1) (ix4 (0 : Fin 1) r (headOf t h) d) := by
  refine Eq.trans ?_ ((congrFun (V_main_v0 m c) _).trans (flat_apply _ t r h d))
  unfold iblk
  rw [View.read_apply]
  refine congrArg (V m c main_v0) ?_
  funext a; apply Fin.ext
  refine (emb_cols win0_1 t rfl rfl (cols_index (index1 t)) (ix2 r (lane h d)) a).trans ?_
  match a with
  | ⟨0, _⟩ => exact Nat.zero_add _
  | ⟨1, _⟩ => rfl

theorem iblk2_apply (c : Dev nD) (t : Fin cfg0.N) (r : Fin 2048) (h : Fin 2) (d : Fin 64) :
    iblk m c 2 t (ix2 r (lane h d)) = m ((c : Thread nD τ).loc main_arg2) (ix4 (0 : Fin 1) r (headOf t h) d) := by
  refine Eq.trans ?_ ((congrFun (V_main_v1 m c) _).trans (flat_apply _ t r h d))
  unfold iblk
  rw [View.read_apply]
  refine congrArg (V m c main_v1) ?_
  funext a; apply Fin.ext
  refine (emb_cols win0_2 t rfl rfl (cols_index (index2 t)) (ix2 r (lane h d)) a).trans ?_
  match a with
  | ⟨0, _⟩ => exact Nat.zero_add _
  | ⟨1, _⟩ => rfl

theorem iblk3_apply (c : Dev nD) (t : Fin cfg0.N) (r : Fin 2048) (h : Fin 2) (d : Fin 64) :
    iblk m c 3 t (ix2 r (lane h d)) = m ((c : Thread nD τ).loc main_arg3) (ix4 (0 : Fin 1) r (headOf t h) d) := by
  refine Eq.trans ?_ ((congrFun (V_main_v2 m c) _).trans (flat_apply _ t r h d))
  unfold iblk
  rw [View.read_apply]
  refine congrArg (V m c main_v2) ?_
  funext a; apply Fin.ext
  refine (emb_cols win0_3 t rfl rfl (cols_index (index3 t)) (ix2 r (lane h d)) a).trans ?_
  match a with
  | ⟨0, _⟩ => exact Nat.zero_add _
  | ⟨1, _⟩ => rfl

theorem iblk0_apply (c : Dev nD) (t : Fin cfg0.N) (y : S16x128.Idx) : iblk m c 0 t y = m ((c : Thread nD τ).loc main_arg0) y := by
  refine Eq.trans ?_ (congrFun (V_main_arg0 m c) _)
  unfold iblk
  rw [View.read_apply]
  refine congrArg (V m c main_arg0) ?_
  funext a; apply Fin.ext
  exact win0_0.rect_emb_val_of_index_zero t a ((congrFun (index0 t) a).trans (by match a with | ⟨0, _⟩ => rfl | ⟨1, _⟩ => rfl)) y

/-- A word of the head's row is a word of the argument table. -/
theorem word_eq (hr : InRange m) (c : Dev nD) (t : Fin cfg0.N) (h : Fin 2) (n : Fin 40) :
    word (envAt m hr c t) h n = Spec.pick (m ((c : Thread nD τ).loc main_arg0)) (headOf t h) n := by
  unfold word
  have hrow : headRow (envAt m hr c t) h = 2 * t.val + h.val := (headRow_eq _ h).trans (by rw [show ((envAt m hr c t).i 0).val = t.val from point_val t])
  rw [load_apply _ _ rfl _ _ (ix2 (headOf t h) (⟨n.val, by have := n.isLt; omega⟩ : Fin 128)) (by show 2 * t.val + h.val = headRow (envAt m hr c t) h + 0; omega) (by show n.val = n.val + 0; rfl), Memref.IsWhole.read_unread]
  exact iblk0_apply m c t _

/-- The kernel's whole result. -/
abbrev result (c : Dev nD) : Buf (Elt Ideal) ((c : Thread nD τ).loc main_v3) :=
  Spec.flat (m ((c : Thread nD τ).loc main_arg0)) (m ((c : Thread nD τ).loc main_arg1)) (m ((c : Thread nD τ).loc main_arg2)) (m ((c : Thread nD τ).loc main_arg3))

/-- The queries and the keys are real. -/
def RealArgs : Prop := ∀ c : Dev nD, (∀ y, IsReal (m ((c : Thread nD τ).loc main_arg1) y)) ∧ (∀ y, IsReal (m ((c : Thread nD τ).loc main_arg2) y))

/-- What the body leaves of head `h` of the point's pair is the specification's row. -/
theorem headOut_eq (hr : InRange m) (c : Dev nD) (t : Fin cfg0.N) (h : Fin 2) (r : Fin 2048) (d : Fin 64) :
    headOut (envAt m hr c t) h r d
      = Spec.out (m ((c : Thread nD τ).loc main_arg0)) (m ((c : Thread nD τ).loc main_arg1)) (m ((c : Thread nD τ).loc main_arg2)) (m ((c : Thread nD τ).loc main_arg3)) r (headOf t h) d := by
  have hs : ∀ i, score (envAt m hr c t) h r i = Spec.score (m ((c : Thread nD τ).loc main_arg1)) (m ((c : Thread nD τ).loc main_arg2)) r (headOf t h) i := fun i =>
    congrArg (· * Ideal.ofBits .f32 0x3E000000#32) (Finset.sum_congr rfl fun l _ => congrArg₂ (· * ·) (iblk1_apply m c t r h l) (iblk2_apply m c t i h l))
  have hv : ∀ i, (envAt m hr c t).x3 (ix2 i (lane h d)) = m ((c : Thread nD τ).loc main_arg3) (ix4 (0 : Fin 1) i (headOf t h) d) := fun i => iblk3_apply m c t i h d
  have hsel : (∃ n : Fin 40, sel (envAt m hr c t) h n = r) ↔ ∃ n : Fin 40, (Spec.pick (m ((c : Thread nD τ).loc main_arg0)) (headOf t h) n).toNat = r.val :=
    exists_congr fun n => by rw [← word_eq m hr c t h n, Fin.ext_iff]; rfl
  unfold headOut Spec.out attnRow Spec.attn Spec.mean
  simp only [hs, hv, hsel, inv_rows]
  congr

/-- What a point writes back is its block of the result. -/
theorem flushed_eq (hr : InRange m) (hx : RealArgs m) (c : Dev nD) (t : Fin cfg0.N) :
    (dats m hr 0 c).flushed 4 t = (win0_4.blk t).view.read (Elt Ideal) (result m c) := by
  show (cfg0.win 4).cut (grid0.coords t) ((dats m hr 0 c).after 4 t) = _
  rw [after0_4]
  funext y
  rw [View.read_apply]
  obtain ⟨r, l, rfl⟩ : ∃ (r : Fin 2048) (l : Fin 128), y = ix2 r l := ⟨y 0, y 1, ValueIdx.eq_ix2 _⟩
  obtain ⟨h, d, rfl⟩ : ∃ (h : Fin 2) (d : Fin 64), l = lane h d :=
    ⟨⟨l.val / 64, by have := l.isLt; omega⟩, ⟨l.val % 64, Nat.mod_lt _ (by decide)⟩, Fin.ext (by simp [lane]; omega)⟩
  refine Eq.trans (b := outAt m hr c t (ix2 r (lane h d))) rfl ?_
  refine (out_apply (envAt m hr c t) ?_ ?_ _ _ _ h r d).trans ?_
  · intro y
    obtain ⟨r, l, rfl⟩ : ∃ (r : Fin 2048) (l : Fin 128), y = ix2 r l := ⟨y 0, y 1, ValueIdx.eq_ix2 _⟩
    obtain ⟨h, d, rfl⟩ : ∃ (h : Fin 2) (d : Fin 64), l = lane h d :=
      ⟨⟨l.val / 64, by have := l.isLt; omega⟩, ⟨l.val % 64, Nat.mod_lt _ (by decide)⟩, Fin.ext (by simp [lane]; omega)⟩
    exact (congrArg IsReal (iblk1_apply m c t r h d)).mpr ((hx c).1 _)
  · intro y
    obtain ⟨r, l, rfl⟩ : ∃ (r : Fin 2048) (l : Fin 128), y = ix2 r l := ⟨y 0, y 1, ValueIdx.eq_ix2 _⟩
    obtain ⟨h, d, rfl⟩ : ∃ (h : Fin 2) (d : Fin 64), l = lane h d :=
      ⟨⟨l.val / 64, by have := l.isLt; omega⟩, ⟨l.val % 64, Nat.mod_lt _ (by decide)⟩, Fin.ext (by simp [lane]; omega)⟩
    exact (congrArg IsReal (iblk2_apply m c t r h d)).mpr ((hx c).2 _)
  rw [headOut_eq]
  refine (Spec.flat_apply _ _ _ _ r (headOf t h) d (colOf t (lane h d)) (by simp [lane]; omega)).symm.trans ?_
  refine congrArg (result m c) ?_
  funext a; apply Fin.ext
  refine Eq.trans ?_ (emb_cols win0_4 t rfl rfl (cols_index (index4 t)) (ix2 r (lane h d)) a).symm
  match a with
  | ⟨0, _⟩ => exact (Nat.zero_add _).symm
  | ⟨1, _⟩ => rfl

/-- Every place of the result lies in some point's block. -/
theorem cover (i : S2048x1024.Idx) : ∃ t : Fin cfg0.N, (cfg0.win 4).flush t = true ∧ i ∈ ((cfg0.win 4).blk t).view.set := by
  have h0 : (i 0).val < 2048 := (i 0).isLt
  have h1 : (i 1).val < 1024 := (i 1).isLt
  let t : Fin cfg0.N := ⟨(i 1).val / 128, by rw [show cfg0.N = 8 from N_0]; omega⟩
  refine ⟨t, flush0_4 t, ?_⟩
  have e : ((cfg0.win 4).blk t).view.emb (ix2 (i 0) (⟨(i 1).val % 128, Nat.mod_lt _ (by decide)⟩ : Fin 128)) = i := by
    funext a; apply Fin.ext
    refine (emb_cols win0_4 t rfl rfl (cols_index (index4 t)) _ a).trans ?_
    match a with
    | ⟨0, _⟩ => exact Nat.zero_add _
    | ⟨1, _⟩ => show 128 * ((i 1).val / 128) + (i 1).val % 128 = (i 1).val; omega
  exact e ▸ ((cfg0.win 4).blk t).view.emb_mem_set _

/-- The result array after the run. -/
theorem final (hr : InRange m) (hx : RealArgs m) (c : Dev nD) : (dats m hr 0 c).arrAt 4 cfg0.N = result m c :=
  (dats m hr 0 c).arrAt_eq_of_cover 4 (result m c) (fun t _ => flushed_eq m hr hx c t) cover

/-- The kernel ends with the specification's result, its arguments unchanged. -/
theorem run_value (hr : InRange m) (hx : RealArgs m) : θ_run defs (onTc (τ := τ) (main (F := Ideal))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h.1.1 c).1 4).trans (final m hr hx c), h.2.1 c⟩)
    (θ_run_and (run_main m ρ hr) (frame_all m ρ hr))

end Cert.AttendIdeal.Hand

end
-- ==== Proof.Conditions.lean ====
module

public import proofs.«01_k».proof.Defs
public import proofs.«01_k».proof.Proof.AttendBlocks
public import proofs.«01_k».proof.Proof.AttendWordsFrame
public import Idealize.ShloMosaic.Lib.ReduceAll

@[expose] public section

noncomputable section

/-! What the stated preconditions say of the argument arrays: every word of the table is a row number below 2048, and,
for the value claim, the queries and the keys are real. -/

namespace Cert.Conditions

open Idealize.ShloMosaic Idealize.ShloMosaic.TcCoe Cert.Softmax

theorem andi_one {a b : BitVec 1} (h : IntOp.andi a b = 1#1) : a = 1#1 ∧ b = 1#1 := by revert a b; decide

theorem ofBool_one {b : Bool} (h : BitVec.ofBool b = 1#1) : b = true := by revert b; decide

/-- A word at least zero and below 2048, both read with its sign, is a natural number below 2048. -/
theorem word_lt {x : BitVec 32} (h0 : IntOp.cmpi .sge x 0#32 = 1#1) (h1 : IntOp.cmpi .slt x 2048#32 = 1#1) : x.toNat < 2048 := by
  have a := ofBool_one h0
  have b := ofBool_one h1
  simp only [BitVec.sle, BitVec.slt, decide_eq_true_eq, BitVec.toInt, BitVec.toNat_ofNat] at a b
  omega

/-- A magnitude compared below the pattern of infinity is that of a real. -/
theorem real_of_lt {x : EReal} (h : FloatOps.cmpf (F := Ideal) (φ := .f32) .olt (FloatOps.hostAbsf (F := Ideal) (φ := .f32) x) (FloatOps.ofBits (F := Ideal) .f32 0x7F800000#32) = 1#1) : IsReal x := by
  refine IsReal.of_abs_lt ?_
  have e := of_decide_eq_true (ofBool_one h)
  exact lt_of_lt_of_eq e Literals.plus_inf

instance : Subsingleton (Cert.Pre_in_range.S_).Idx := ⟨fun a b => funext fun i => i.elim0⟩
instance : Subsingleton (Cert.Pre_in_range_finite.S_).Idx := ⟨fun a b => funext fun i => i.elim0⟩

section
variable {F : FTy → Type} [FloatOps F] [Cert.Pre_in_range.Facts]

/-- The first precondition bounds the table. -/
theorem table_lt {w : Cert.Pre_in_range.S16x128.Idx → BitVec 32} {q k v} (h : Cert.Pre_in_range.fn (F := F) w q k v = fun _ => 1#1) (y : Cert.Pre_in_range.S16x128.Idx) : (w y).toNat < 2048 := by
  obtain ⟨h0, h1⟩ := andi_one (congrFun h (fun i => i.elim0))
  exact word_lt (Host.reduce_andi_all _ _ _ _ _ h0 y) (Host.reduce_andi_all _ _ _ _ _ h1 y)

end

section
variable [Cert.Pre_in_range_finite.Facts]

/-- The second precondition bounds the table and makes the queries and the keys real. -/
theorem table_lt_real {w : Cert.Pre_in_range_finite.S16x128.Idx → BitVec 32} {q k v} (h : Cert.Pre_in_range_finite.fn (F := Ideal) w q k v = fun _ => 1#1) :
    (∀ y, (w y).toNat < 2048) ∧ (∀ y, IsReal (q y)) ∧ ∀ y, IsReal (k y) := by
  obtain ⟨h2, hk⟩ := andi_one (congrFun h (fun i => i.elim0))
  obtain ⟨h3, hq⟩ := andi_one h2
  obtain ⟨h0, h1⟩ := andi_one h3
  exact ⟨fun y => word_lt (Host.reduce_andi_all _ _ _ _ _ h0 y) (Host.reduce_andi_all _ _ _ _ _ h1 y),
    fun y => real_of_lt (Host.reduce_andi_all _ _ _ _ _ hq y), fun y => real_of_lt (Host.reduce_andi_all _ _ _ _ _ hk y)⟩

end

theorem attend_inRange [Cert.Pre_in_range.Facts] (m : (ℓ : Loc Cert.Attend.nD Cert.Attend.τ Cert.Attend.sig) → Buf (Elt Bits) ℓ) (h : Cert.Pre_Attend m) :
    Cert.Attend.Hand.InRange m := fun c y => table_lt (h c) y

theorem attendIdeal_inRange [Cert.Pre_in_range.Facts] (m : (ℓ : Loc Cert.AttendIdeal.nD Cert.AttendIdeal.τ Cert.AttendIdeal.sig) → Buf (Elt Ideal) ℓ)
    (h : Cert.Pre_AttendIdeal m) : Cert.AttendIdeal.Hand.InRange m := fun c y => table_lt (h c) y

theorem attendIdeal_real [Cert.Pre_in_range_finite.Facts] (m : (ℓ : Loc Cert.AttendIdeal.nD Cert.AttendIdeal.τ Cert.AttendIdeal.sig) → Buf (Elt Ideal) ℓ)
    (h : Cert.Pre_AttendIdeal_in_range_finite m) : Cert.AttendIdeal.Hand.InRange m ∧ Cert.AttendIdeal.Hand.RealArgs m :=
  ⟨fun c y => (table_lt_real (h c)).1 y, fun c => (table_lt_real (h c)).2⟩

end Cert.Conditions

end
-- ==== Proof.ReferenceTerm.lean ====
module

public import proofs.«01_k».proof.Proof.Gen.AttendReferenceIdeal
public import proofs.«01_k».proof.Proof.Gen.AttendReferenceIdeal.Run

@[expose] public section

set_option maxRecDepth 16384

noncomputable section

/-! The reference's result in named pieces: the head-major arrays, the words, the gathered query rows, the scores, the softmax
weights, the attention rows, the mean, and the write of the rows into the mean. -/

namespace Cert.AttendReferenceIdeal.Hand

open Cert.AttendReferenceIdeal Cert.AttendReferenceIdeal.Gen
open Idealize.ShloMosaic Idealize.ShloMosaic.TcCoe

variable {F : FTy → Type} [FloatOps F]

/-- An array with its heads before its rows. -/
def headMajor (x : Vec F S1x2048x16x64 .f32) : Vec F S1x16x2048x64 .f32 := transpose S1x16x2048x64 [0, 2, 1, 3] x transposes_S1x2048x16x64_S1x16x2048x64_0_2_1_3

/-- The words that are read: 40 of each head. -/
def words (w : IVec S16x128 32) : IVec S1x16x40 32 := broadcastInDim S1x16x40 ![1, 2] bcast_S16x40_S1x16x40_1_2 (extractStridedSlice S16x40 ![0, 0] w slices_S16x128_S16x40_0_0)

/-- A negative word counts from the end. -/
def wrap {s : Shape} (hb : S_.BroadcastsInDim s ![]) (n : BitVec 32) (x : IVec s 32) : IVec s 32 :=
  select (cmpi .slt x (broadcastInDim s ![] hb (constantI S_ 32 0#32))) (addi x (broadcastInDim s ![] hb (constantI S_ 32 n))) x

/-- The words as the gather takes them. -/
def gatherWords (w : IVec S16x128 32) : IVec S16x40x1 32 :=
  shapeCast S16x40x1 (wrap bcast_S_S1x16x40x1 2048#32 (broadcastInDim S1x16x40x1 ![0, 1, 2] bcast_S1x16x40_S1x16x40x1_0_1_2 (words w))) shapeCasts_S1x16x40x1_S16x40x1

/-- Which words lie inside the operand. -/
def inside (i : IVec S16x40x1 32) : IVec S16x40 1 :=
  Host.reduce IntOp.andi (andi (cmpi .sge i (broadcastInDim S16x40x1 ![] bcast_S_S16x40x1 (constantI S_ 32 0#32)))
    (cmpi .sle i (broadcastInDim S16x40x1 ![0, 1, 2] bcast_S1x1x1_S16x40x1_0_1_2 (broadcastInDim S1x1x1 ![2] bcast_S1_S1x1x1_2 (constantI S1 32 2047#32)))))
    (constantI S_ 1 1#1) reducesTo_S16x40x1_S16x40_d2 h_S_

/-- The selected query rows. -/
def rows (i : IVec S16x40x1 32) (q : Vec F S1x2048x16x64 .f32) : Vec F S1x16x40x64 .f32 :=
  select (broadcastInDim S1x16x40x64 ![1, 2] bcast_S16x40_S1x16x40x64_1_2 (inside i))
    (Host.gather gather_S1x16x2048x64_S16x40x1_S1x16x40x64_03_2_1_0_2_2_11164 (headMajor q) i)
    (broadcastInDim S1x16x40x64 ![] bcast_S_S1x16x40x64 (constant S_ .f32 0x7FC00000#32))

/-- The scaled scores of given query rows against every key row. -/
def scores (Q : Vec F S1x16x40x64 .f32) (k : Vec F S1x2048x16x64 .f32) : Vec F S1x16x40x2048 .f32 :=
  mulf (broadcastInDim S1x16x40x2048 ![1, 2, 3] bcast_S16x40x2048_S1x16x40x2048_1_2_3
      (Host.dotGeneral dot_S16x40x64_S16x64x2048_S16x40x2048_2_1_1_2_0_0 none (shapeCast S16x40x64 Q shapeCasts_S1x16x40x64_S16x40x64)
        (shapeCast S16x64x2048 (transpose S1x16x64x2048 [0, 1, 3, 2] (headMajor k) transposes_S1x16x2048x64_S1x16x64x2048_0_1_3_2) shapeCasts_S1x16x64x2048_S16x64x2048)))
    (broadcastInDim S1x16x40x2048 ![] bcast_S_S1x16x40x2048 (constant S_ .f32 0x3E000000#32))

/-- One number per row, repeated along the row. -/
def along (x : Vec F S1x16x40 .f32) : Vec F S1x16x40x2048 .f32 :=
  broadcastInDim S1x16x40x2048 ![0, 1, 2, 3] bcast_S1x16x40x1_S1x16x40x2048_0_1_2_3 (broadcastInDim S1x16x40x1 ![0, 1, 2] bcast_S1x16x40_S1x16x40x1_0_1_2 x)

/-- Each row's largest score. -/
def largest (s : Vec F S1x16x40x2048 .f32) : Vec F S1x16x40 .f32 :=
  maximumf (broadcastInDim S1x16x40 ![] bcast_S_S1x16x40 (constant S_ .f32 0xFF800000#32))
    (Host.reduce FloatOps.maximumf s (constant S_ .f32 0xFF800000#32) reducesTo_S1x16x40x2048_S1x16x40_d3 h_S_)

/-- The exponentials of the scores below their row's largest. -/
def exps (s : Vec F S1x16x40x2048 .f32) : Vec F S1x16x40x2048 .f32 := Host.exp (subf s (along (largest s)))

/-- The softmax weights. -/
def weights (p : Vec F S1x16x40x2048 .f32) : Vec F S1x16x40x2048 .f32 :=
  Host.divf p (along (Host.reduceAdd p (constant S_ .f32 0x00000000#32) reducesTo_S1x16x40x2048_S1x16x40_d3 h_S_))

/-- The attention rows: the weights times the values. -/
def attended (a : Vec F S1x16x40x2048 .f32) (v : Vec F S1x2048x16x64 .f32) : Vec F S1x16x40x64 .f32 :=
  broadcastInDim S1x16x40x64 ![1, 2, 3] bcast_S16x40x64_S1x16x40x64_1_2_3
    (Host.dotGeneral dot_S16x40x2048_S16x2048x64_S16x40x64_2_1_1_2_0_0 none (shapeCast S16x40x2048 a shapeCasts_S1x16x40x2048_S16x40x2048)
      (shapeCast S16x2048x64 (headMajor v) shapeCasts_S1x16x2048x64_S16x2048x64))

/-- The mean of the values, in every row. -/
def means (v : Vec F S1x2048x16x64 .f32) : Vec F S1x16x2048x64 .f32 :=
  broadcastInDim S1x16x2048x64 ![0, 1, 2, 3] bcast_S1x16x1x64_S1x16x2048x64_0_1_2_3
    (Host.divf (broadcastInDim S1x16x1x64 ![0, 1, 3] bcast_S1x16x64_S1x16x1x64_0_1_3
        (Host.reduceAdd (headMajor v) (constant S_ .f32 0x00000000#32) reducesTo_S1x16x2048x64_S1x16x64_d2 h_S_))
      (broadcastInDim S1x16x1x64 ![] bcast_S_S1x16x1x64 (constant S_ .f32 0x45000000#32)))

/-- The batch's number in front of each word. -/
def batchCol : IVec S1x16x40x1 32 := broadcastInDim S1x16x40x1 ![0, 1, 2] bcast_S1x16x40_S1x16x40x1_0_1_2
  (broadcastInDim S1x16x40 ![0, 1, 2] bcast_S1x1x1_S1x16x40_0_1_2 (wrap bcast_S_S1x1x1 1#32 (broadcastInDim S1x1x1 ![0] bcast_S1_S1x1x1_0 (iotaInDim S1 32 0))))

/-- The head's number in front of each word. -/
def headCol : IVec S1x16x40x1 32 := broadcastInDim S1x16x40x1 ![0, 1, 2] bcast_S1x16x40_S1x16x40x1_0_1_2
  (broadcastInDim S1x16x40 ![0, 1, 2] bcast_S1x16x1_S1x16x40_0_1_2 (wrap bcast_S_S1x16x1 16#32 (broadcastInDim S1x16x1 ![1] bcast_S16_S1x16x1_1 (iotaInDim S16 32 0))))

/-- Each word's row number. -/
def rowCol (w : IVec S16x128 32) : IVec S1x16x40x1 32 := broadcastInDim S1x16x40x1 ![0, 1, 2] bcast_S1x16x40_S1x16x40x1_0_1_2 (wrap bcast_S_S1x16x40 2048#32 (words w))

/-- The places that the attention rows are written to. -/
def places (w : IVec S16x128 32) : IVec S1x16x40x3 32 := Value.fn_main_v58 (F := F) batchCol headCol (rowCol w)

/-- The whole result. -/
def whole (w : IVec S16x128 32) (q k v : Vec F S1x2048x16x64 .f32) : Vec F S2048x1024 .f32 :=
  shapeCast S2048x1024 (transpose S1x2048x16x64 [0, 2, 1, 3]
    (Host.scatter scatter_S1x16x2048x64_S1x16x40x3_S1x16x40x64_3_012_012_3 (fun _ b => b) (means v) (places (F := F) w)
      (attended (weights (exps (scores (rows (gatherWords w) q) k))) v)) transposes_S1x16x2048x64_S1x2048x16x64_0_2_1_3) shapeCasts_S1x2048x16x64_S2048x1024

/-- The generated result is that of the named pieces. -/
theorem res_eq (m : (ℓ : Loc nD τ sig) → Buf (Elt F) ℓ) (c : Dev nD) :
    Value.res_main_v61 m c = whole (m ((c : Thread nD τ).loc main_arg0)) (m ((c : Thread nD τ).loc main_arg1)) (m ((c : Thread nD τ).loc main_arg2)) (m ((c : Thread nD τ).loc main_arg3)) := rfl

end Cert.AttendReferenceIdeal.Hand

end
-- ==== Proof.ReferenceOps.lean ====
module

public import proofs.«01_k».proof.Proof.Gen.AttendReferenceIdeal
public import Idealize.ShloMosaic.Lib.Routing.OpsPair
public import Idealize.ShloMosaic.Lib.ValueIdx

@[expose] public section

noncomputable section

/-! The reference's gather of the selected rows and its write of them into the result, each read at one place. -/

namespace Cert.AttendReferenceIdeal.Hand

open Cert.AttendReferenceIdeal Cert.AttendReferenceIdeal.Gen
open Idealize.ShloMosaic
open Idealize.ShloMosaic.ValueIdx (ix2 ix3 ix4)

variable {α : Type}

/-- The gather of the selected rows. -/
abbrev dG : GatherDims S1x16x2048x64 S16x40x1 S1x16x40x64 := gather_S1x16x2048x64_S16x40x1_S1x16x40x64_03_2_1_0_2_2_11164
/-- The write of the selected rows. -/
abbrev dS : ScatterDims S1x16x2048x64 S1x16x40x3 S1x16x40x64 := scatter_S1x16x2048x64_S1x16x40x3_S1x16x40x64_3_012_012_3

/-- The gathered row: the operand's row that the word names, read with its sign and clamped into the operand. -/
theorem gather_apply (x : S1x16x2048x64.Idx → α) (idx : IVec S16x40x1 32) (h : Fin 16) (n : Fin 40) (d : Fin 64) :
    Host.gather dG x idx (ix4 (0 : Fin 1) h n d)
      = x (ix4 (0 : Fin 1) h (⟨min (idx (ix3 h n (0 : Fin 1))).toInt.toNat 2047, by omega⟩ : Fin 2048) d) := by
  unfold Host.gather
  congr 1
  funext a
  refine Fin.ext ?_
  have hsi : ∀ l, dG.siIdx (ix4 (0 : Fin 1) h n d) l = ix3 h n (0 : Fin 1) := fun l => by
    funext b; refine Fin.ext ?_
    match b with
    | ⟨0, _⟩ => rfl
    | ⟨1, _⟩ => rfl
    | ⟨2, _⟩ => exact Nat.lt_one_iff.mp (show l.val < 1 from l.isLt)
  show dG.start (ix4 (0 : Fin 1) h n d) idx a + dG.batchCoord (ix4 (0 : Fin 1) h n d) a + dG.offCoord (ix4 (0 : Fin 1) h n d) a = _
  match a with
  | ⟨0, _⟩ => rfl
  | ⟨1, _⟩ => exact Nat.zero_add _
  | ⟨2, _⟩ =>
    show dG.start (ix4 (0 : Fin 1) h n d) idx (2 : Fin 4) + 0 + 0 = _
    unfold GatherDims.start
    rw [dif_pos (show (2 : Fin 4) ∈ dG.startIndexMap from List.mem_singleton.mpr rfl), hsi]
    rfl
  | ⟨3, _⟩ => exact Nat.zero_add _

/-- Where an update lands: at the operand's place that its three words name, read with their signs, and its own lane. -/
theorem lands (idx : IVec S1x16x40x3 32) (g : Fin 16) (n : Fin 40) (l : Fin 64) (h : Fin 16) (r : Fin 2048) (d : Fin 64) :
    dS.resultIdx? (ix4 (0 : Fin 1) g n l) idx = some (ix4 (0 : Fin 1) h r d)
      ↔ (idx (ix4 (0 : Fin 1) g n (0 : Fin 3))).toInt = 0 ∧ (idx (ix4 (0 : Fin 1) g n (1 : Fin 3))).toInt = h.val
        ∧ (idx (ix4 (0 : Fin 1) g n (2 : Fin 3))).toInt = r.val ∧ l = d := by
  have hsi : ∀ q : Fin 3, dS.siIdx (ix4 (0 : Fin 1) g n l) q = ix4 (0 : Fin 1) g n q := fun q => by
    funext b; refine Fin.ext ?_
    match b with
    | ⟨0, _⟩ => rfl
    | ⟨1, _⟩ => rfl
    | ⟨2, _⟩ => rfl
    | ⟨3, _⟩ => rfl
  have s0 : dS.start (ix4 (0 : Fin 1) g n l) idx (0 : Fin 4) = (idx (ix4 (0 : Fin 1) g n (0 : Fin 3))).toInt := congrArg (fun z => (idx z).toInt) (hsi 0)
  have s1 : dS.start (ix4 (0 : Fin 1) g n l) idx (1 : Fin 4) = (idx (ix4 (0 : Fin 1) g n (1 : Fin 3))).toInt := congrArg (fun z => (idx z).toInt) (hsi 1)
  have s2 : dS.start (ix4 (0 : Fin 1) g n l) idx (2 : Fin 4) = (idx (ix4 (0 : Fin 1) g n (2 : Fin 3))).toInt := congrArg (fun z => (idx z).toInt) (hsi 2)
  have s3 : dS.start (ix4 (0 : Fin 1) g n l) idx (3 : Fin 4) = 0 := rfl
  have w0 : dS.window (ix4 (0 : Fin 1) g n l) (0 : Fin 4) = 0 := rfl
  have w1 : dS.window (ix4 (0 : Fin 1) g n l) (1 : Fin 4) = 0 := rfl
  have w2 : dS.window (ix4 (0 : Fin 1) g n l) (2 : Fin 4) = 0 := rfl
  have w3 : dS.window (ix4 (0 : Fin 1) g n l) (3 : Fin 4) = l.val := rfl
  unfold ScatterDims.resultIdx?
  constructor
  · intro e
    split at e
    · rename_i hb
      have e := Option.some.inj e
      have e0 : (dS.start (ix4 (0 : Fin 1) g n l) idx (0 : Fin 4) + dS.window (ix4 (0 : Fin 1) g n l) (0 : Fin 4)).toNat = 0 := congrArg Fin.val (congrFun e 0)
      have e1 : (dS.start (ix4 (0 : Fin 1) g n l) idx (1 : Fin 4) + dS.window (ix4 (0 : Fin 1) g n l) (1 : Fin 4)).toNat = h.val := congrArg Fin.val (congrFun e 1)
      have e2 : (dS.start (ix4 (0 : Fin 1) g n l) idx (2 : Fin 4) + dS.window (ix4 (0 : Fin 1) g n l) (2 : Fin 4)).toNat = r.val := congrArg Fin.val (congrFun e 2)
      have e3 : (dS.start (ix4 (0 : Fin 1) g n l) idx (3 : Fin 4) + dS.window (ix4 (0 : Fin 1) g n l) (3 : Fin 4)).toNat = d.val := congrArg Fin.val (congrFun e 3)
      have b0 := (hb (0 : Fin 4)).1
      have b1 := (hb (1 : Fin 4)).1
      have b2 := (hb (2 : Fin 4)).1
      rw [s0, w0] at e0 b0
      rw [s1, w1] at e1 b1
      rw [s2, w2] at e2 b2
      rw [s3, w3] at e3
      exact ⟨by omega, by omega, by omega, Fin.ext (by omega)⟩
    · cases e
  · rintro ⟨h0, h1, h2, rfl⟩
    have hh := h.isLt
    have hr := r.isLt
    have hl := l.isLt
    rw [dif_pos]
    · refine congrArg some (funext fun a => Fin.ext ?_)
      match a with
      | ⟨0, _⟩ => show (dS.start (ix4 (0 : Fin 1) g n l) idx (0 : Fin 4) + dS.window (ix4 (0 : Fin 1) g n l) (0 : Fin 4)).toNat = 0; rw [s0, w0, h0]; rfl
      | ⟨1, _⟩ => show (dS.start (ix4 (0 : Fin 1) g n l) idx (1 : Fin 4) + dS.window (ix4 (0 : Fin 1) g n l) (1 : Fin 4)).toNat = h.val; rw [s1, w1, h1]; omega
      | ⟨2, _⟩ => show (dS.start (ix4 (0 : Fin 1) g n l) idx (2 : Fin 4) + dS.window (ix4 (0 : Fin 1) g n l) (2 : Fin 4)).toNat = r.val; rw [s2, w2, h2]; omega
      | ⟨3, _⟩ => show (dS.start (ix4 (0 : Fin 1) g n l) idx (3 : Fin 4) + dS.window (ix4 (0 : Fin 1) g n l) (3 : Fin 4)).toNat = l.val; rw [s3, w3]; omega
    · intro a
      match a with
      | ⟨0, _⟩ => show 0 ≤ dS.start (ix4 (0 : Fin 1) g n l) idx (0 : Fin 4) + dS.window (ix4 (0 : Fin 1) g n l) (0 : Fin 4) ∧ dS.start (ix4 (0 : Fin 1) g n l) idx (0 : Fin 4) + dS.window (ix4 (0 : Fin 1) g n l) (0 : Fin 4) < 1; rw [s0, w0, h0]; decide
      | ⟨1, _⟩ => show 0 ≤ dS.start (ix4 (0 : Fin 1) g n l) idx (1 : Fin 4) + dS.window (ix4 (0 : Fin 1) g n l) (1 : Fin 4) ∧ dS.start (ix4 (0 : Fin 1) g n l) idx (1 : Fin 4) + dS.window (ix4 (0 : Fin 1) g n l) (1 : Fin 4) < 16; rw [s1, w1, h1]; omega
      | ⟨2, _⟩ => show 0 ≤ dS.start (ix4 (0 : Fin 1) g n l) idx (2 : Fin 4) + dS.window (ix4 (0 : Fin 1) g n l) (2 : Fin 4) ∧ dS.start (ix4 (0 : Fin 1) g n l) idx (2 : Fin 4) + dS.window (ix4 (0 : Fin 1) g n l) (2 : Fin 4) < 2048; rw [s2, w2, h2]; omega
      | ⟨3, _⟩ => show 0 ≤ dS.start (ix4 (0 : Fin 1) g n l) idx (3 : Fin 4) + dS.window (ix4 (0 : Fin 1) g n l) (3 : Fin 4) ∧ dS.start (ix4 (0 : Fin 1) g n l) idx (3 : Fin 4) + dS.window (ix4 (0 : Fin 1) g n l) (3 : Fin 4) < 64; rw [s3, w3]; omega

/-- Overwriting a place by updates that all carry the same value there: that value if any update lands, what was there if none does. -/
theorem fold_same {β : Type} (p : β → Prop) [DecidablePred p] (f : β → α) (V : α) (hV : ∀ b, p b → f b = V) (l : List β) (a : α) :
    l.foldl (fun a b => if p b then f b else a) a = open Classical in if ∃ b ∈ l, p b then V else a := by
  classical
  induction l generalizing a with
  | nil => simp
  | cons b l ih =>
    rw [List.foldl_cons, ih]
    by_cases hl : ∃ c ∈ l, p c
    · obtain ⟨c, hc, hp⟩ := hl
      rw [if_pos ⟨c, hc, hp⟩, if_pos ⟨c, List.mem_cons_of_mem _ hc, hp⟩]
    · rw [if_neg hl]
      by_cases hb : p b
      · rw [if_pos hb, if_pos ⟨b, List.mem_cons_self, hb⟩, hV b hb]
      · rw [if_neg hb, if_neg]
        rintro ⟨c, hc, hp⟩
        rcases List.mem_cons.1 hc with rfl | hc
        · exact hb hp
        · exact hl ⟨c, hc, hp⟩

/-- A scatter that overwrites, read at a place where every update that lands carries the same value. -/
theorem scatter_same {s si t : Shape} {w : ℕ} (D : ScatterDims s si t) (x : s.Idx → α) (idx : IVec si w) (u : t.Idx → α) (i : s.Idx) (V : α)
    (hV : ∀ y, D.resultIdx? y idx = some i → u y = V) :
    Host.scatter D (fun _ b => b) x idx u i = open Classical in if ∃ y, D.resultIdx? y idx = some i then V else x i := by
  have hiff : (∃ b ∈ List.finRange t.numel, D.resultIdx? (t.rowMajor.symm b) idx = some i) ↔ ∃ y, D.resultIdx? y idx = some i :=
    ⟨fun ⟨b, _, hb⟩ => ⟨_, hb⟩, fun ⟨y, hy⟩ => ⟨t.rowMajor y, List.mem_finRange _, by rw [Equiv.symm_apply_apply]; exact hy⟩⟩
  rw [Routing.scatter_at, fold_same _ _ V fun b hb => hV _ hb]
  by_cases h : ∃ y, D.resultIdx? y idx = some i
  · rw [if_pos h, if_pos (hiff.2 h)]
  · rw [if_neg h, if_neg fun q => h (hiff.1 q)]

/-- The write of the rows, read at one place: the common value of the updates that land there, or what was there. -/
theorem scatter_apply (x : S1x16x2048x64.Idx → α) (idx : IVec S1x16x40x3 32) (u : S1x16x40x64.Idx → α) (w : Fin 16 → Fin 40 → BitVec 32)
    (h0 : ∀ g n, (idx (ix4 (0 : Fin 1) g n (0 : Fin 3))).toInt = 0) (h1 : ∀ (g : Fin 16) n, (idx (ix4 (0 : Fin 1) g n (1 : Fin 3))).toInt = g.val)
    (h2 : ∀ g n, (idx (ix4 (0 : Fin 1) g n (2 : Fin 3))).toInt = (w g n).toNat)
    (h : Fin 16) (r : Fin 2048) (d : Fin 64) (V : α) (hV : ∀ n : Fin 40, (w h n).toNat = r.val → u (ix4 (0 : Fin 1) h n d) = V) :
    Host.scatter dS (fun _ b => b) x idx u (ix4 (0 : Fin 1) h r d)
      = open Classical in if ∃ n : Fin 40, (w h n).toNat = r.val then V else x (ix4 (0 : Fin 1) h r d) := by
  have key : ∀ y : S1x16x40x64.Idx, dS.resultIdx? y idx = some (ix4 (0 : Fin 1) h r d) ↔ ∃ n : Fin 40, (w h n).toNat = r.val ∧ y = ix4 (0 : Fin 1) h n d := fun y => by
    obtain ⟨z, g, n, l, rfl⟩ : ∃ (z : Fin 1) (g : Fin 16) (n : Fin 40) (l : Fin 64), y = ix4 z g n l := ⟨y 0, y 1, y 2, y 3, ValueIdx.eq_ix4 y⟩
    obtain rfl : z = 0 := Subsingleton.elim _ _
    rw [lands, h0, h1, h2]
    constructor
    · rintro ⟨-, hg, hn, rfl⟩
      obtain rfl : g = h := Fin.ext (by exact_mod_cast hg)
      exact ⟨n, by exact_mod_cast hn, rfl⟩
    · rintro ⟨n', hn, e⟩
      obtain rfl : g = h := congrFun e 1
      obtain rfl : n = n' := congrFun e 2
      exact ⟨rfl, rfl, by exact_mod_cast hn, congrFun e 3⟩
  rw [scatter_same dS x idx u _ V fun y hy => by
    obtain ⟨n, hn, e⟩ := (key y).1 hy
    rw [e]; exact hV n hn]
  by_cases hn : ∃ n : Fin 40, (w h n).toNat = r.val
  · rw [if_pos hn, if_pos (hn.elim fun n hn => ⟨_, (key _).2 ⟨n, hn, rfl⟩⟩)]
  · rw [if_neg hn, if_neg fun ⟨y, hy⟩ => hn (((key y).1 hy).imp fun _ q => q.1)]

end Cert.AttendReferenceIdeal.Hand

end
-- ==== Proof.ReferenceValue.lean ====
module

public import proofs.«01_k».proof.Proof.ReferenceTerm
public import proofs.«01_k».proof.Proof.ReferenceOps
public import proofs.«01_k».proof.Proof.Spec
public import Idealize.ShloMosaic.Lib.ReduceAll
public import Idealize.ShloMosaic.Lib.ValueLayout

@[expose] public section

set_option maxRecDepth 16384

noncomputable section

/-! The reference's pieces read at a place, up to the whole result. -/

namespace Cert.AttendReferenceIdeal.Hand

open Cert.AttendReferenceIdeal Cert.AttendReferenceIdeal.Gen Cert.Softmax
open Idealize.ShloMosaic Idealize.ShloMosaic.TcCoe
open Idealize.ShloMosaic.ValueIdx (ix0 ix1 ix2 ix3 ix4 contrEquiv1 broadcastInDim_scalar_apply)

theorem headMajor_apply (x : Vec Ideal S1x2048x16x64 .f32) (h : Fin 16) (r : Fin 2048) (d : Fin 64) :
    headMajor x (ix4 (0 : Fin 1) h r d) = x (ix4 (0 : Fin 1) r h d) :=
  transpose_apply _ _ _ _ _ (by intro b; match b with | ⟨0, _⟩ => rfl | ⟨1, _⟩ => rfl | ⟨2, _⟩ => rfl | ⟨3, _⟩ => rfl)

theorem words_apply (w : IVec S16x128 32) (h : Fin 16) (n : Fin 40) : words w (ix3 (0 : Fin 1) h n) = Spec.pick w h n :=
  (broadcastInDim_apply _ _ _ _ (ix2 h n) (by intro a; match a with | ⟨0, _⟩ => rfl | ⟨1, _⟩ => rfl)).trans
    (extractStridedSlice_apply _ _ _ _ _ (by intro a; match a with | ⟨0, _⟩ => exact (Nat.zero_add _).symm | ⟨1, _⟩ => exact (Nat.zero_add _).symm))

/-- A word that is a small natural number is not negative. -/
theorem slt_zero {x : BitVec 32} (h : x.toNat < 2048) : IntOp.cmpi .slt x 0#32 = 0#1 := by
  show BitVec.ofBool (x.slt 0#32) = 0#1
  have : x.slt 0#32 = false := by
    simp only [BitVec.slt, decide_eq_false_iff_not, BitVec.toInt, BitVec.toNat_ofNat]; omega
  rw [this]; rfl

/-- A small word read with its sign is its natural number. -/
theorem toInt_small {x : BitVec 32} (h : x.toNat < 2048) : x.toInt = x.toNat := by
  rw [BitVec.toInt]; rw [if_pos (by omega)]

/-- A small word is left as it is. -/
theorem wrap_apply {s : Shape} (hb : S_.BroadcastsInDim s ![]) (n : BitVec 32) (x : IVec s 32) (y : s.Idx) (h : (x y).toNat < 2048) : wrap hb n x y = x y := by
  show Scalar.select (IntOp.cmpi .slt (x y) (broadcastInDim s ![] hb (constantI S_ 32 0#32) y)) _ (x y) = x y
  rw [broadcastInDim_scalar_apply]
  show Scalar.select (IntOp.cmpi .slt (x y) 0#32) _ (x y) = x y
  rw [slt_zero h]
  rfl

section
variable (w : IVec S16x128 32) (hw : ∀ y, (w y).toNat < 2048)
include hw

theorem gatherWords_apply (h : Fin 16) (n : Fin 40) : gatherWords w (ix3 h n (0 : Fin 1)) = Spec.pick w h n := by
  unfold gatherWords
  have hv : broadcastInDim S1x16x40x1 ![0, 1, 2] bcast_S1x16x40_S1x16x40x1_0_1_2 (words w) (ix4 (0 : Fin 1) h n (0 : Fin 1)) = Spec.pick w h n :=
    (broadcastInDim_apply _ _ _ _ (ix3 (0 : Fin 1) h n) (by intro a; match a with | ⟨0, _⟩ => rfl | ⟨1, _⟩ => rfl | ⟨2, _⟩ => rfl)).trans (words_apply w h n)
  refine (shapeCast_apply _ _ _ (ix4 (0 : Fin 1) h n (0 : Fin 1)) (by
    rw [Shape.rowMajor_val_four, Shape.rowMajor_val_three]; simp [ix3, ix4])).trans ?_
  exact (wrap_apply _ _ _ _ (hv ▸ hw _)).trans hv

theorem inside_apply (h : Fin 16) (n : Fin 40) : inside (gatherWords w) (ix2 h n) = 1#1 := by
  refine Host.reduce_andi_one _ _ _ _ _ rfl fun y => ?_
  obtain ⟨g, u, z, rfl⟩ : ∃ (g : Fin 16) (u : Fin 40) (z : Fin 1), y = ix3 g u z := ⟨y 0, y 1, y 2, ValueIdx.eq_ix3 y⟩
  obtain rfl : z = 0 := Subsingleton.elim _ _
  show IntOp.andi (IntOp.cmpi .sge (gatherWords w (ix3 g u (0 : Fin 1))) 0#32) (IntOp.cmpi .sle (gatherWords w (ix3 g u (0 : Fin 1))) 2047#32) = 1#1
  rw [gatherWords_apply w hw]
  have hx : (Spec.pick w g u).toNat < 2048 := hw _
  generalize Spec.pick w g u = x at hx ⊢
  have a : (0#32 : BitVec 32).sle x = true := by simp only [BitVec.sle, decide_eq_true_eq, BitVec.toInt, BitVec.toNat_ofNat]; omega
  have b : x.sle 2047#32 = true := by simp only [BitVec.sle, decide_eq_true_eq, BitVec.toInt, BitVec.toNat_ofNat]; omega
  show IntOp.andi (BitVec.ofBool ((0#32 : BitVec 32).sle x)) (BitVec.ofBool (x.sle 2047#32)) = 1#1
  rw [a, b]; rfl

/-- The `n`-th word of head `h` as a row number. -/
def sel (h : Fin 16) (n : Fin 40) : Fin 2048 := ⟨(Spec.pick w h n).toNat, hw _⟩

theorem rows_apply (q : Vec Ideal S1x2048x16x64 .f32) (h : Fin 16) (n : Fin 40) (d : Fin 64) :
    rows (gatherWords w) q (ix4 (0 : Fin 1) h n d) = q (ix4 (0 : Fin 1) (sel w hw h n) h d) := by
  have hm : broadcastInDim S1x16x40x64 ![1, 2] bcast_S16x40_S1x16x40x64_1_2 (inside (gatherWords w)) (ix4 (0 : Fin 1) h n d) = 1#1 :=
    (broadcastInDim_apply _ _ _ _ (ix2 h n) (by intro a; match a with | ⟨0, _⟩ => rfl | ⟨1, _⟩ => rfl)).trans (inside_apply w hw h n)
  show Scalar.select (broadcastInDim S1x16x40x64 ![1, 2] bcast_S16x40_S1x16x40x64_1_2 (inside (gatherWords w)) (ix4 (0 : Fin 1) h n d))
    (Host.gather dG (headMajor q) (gatherWords w) (ix4 (0 : Fin 1) h n d)) _ = _
  rw [hm]
  refine (gather_apply (headMajor q) (gatherWords w) h n d).trans ?_
  rw [headMajor_apply]
  refine congrArg (fun r => q (ix4 (0 : Fin 1) r h d)) (Fin.ext ?_)
  show min (gatherWords w (ix3 h n (0 : Fin 1))).toInt.toNat 2047 = (Spec.pick w h n).toNat
  rw [gatherWords_apply w hw, toInt_small (hw _), Int.toNat_natCast]
  exact Nat.min_eq_left (Nat.le_of_lt_succ (hw _))

end

theorem scores_apply (Q : Vec Ideal S1x16x40x64 .f32) (k : Vec Ideal S1x2048x16x64 .f32) (h : Fin 16) (n : Fin 40) (i : Fin 2048) :
    scores Q k (ix4 (0 : Fin 1) h n i) = (∑ c : Fin 64, Q (ix4 (0 : Fin 1) h n c) * k (ix4 (0 : Fin 1) i h c)) * Ideal.ofBits .f32 0x3E000000#32 := by
  unfold scores
  refine congrArg₂ (· * ·) ?_ (broadcastInDim_scalar_apply _ _ _)
  refine (broadcastInDim_apply _ _ _ _ (ix3 h n i) (by intro a; match a with | ⟨0, _⟩ => rfl | ⟨1, _⟩ => rfl | ⟨2, _⟩ => rfl)).trans ?_
  simp only [Host.dotGeneral]
  refine (Ideal.dotGeneral_apply _ _ _ _ _ _).trans ?_
  rw [← Equiv.sum_comp (contrEquiv1 dot_S16x40x64_S16x64x2048_S16x40x2048_2_1_1_2_0_0 64 rfl rfl).symm]
  refine Finset.sum_congr rfl fun c _ => congrArg₂ (· * ·) ?_ ?_
  · refine shapeCast_apply _ _ _ (ix4 (0 : Fin 1) h n c) ?_
    rw [Shape.rowMajor_val_four, Shape.rowMajor_val_three]
    show ((0 * 16 + h.val) * 40 + n.val) * 64 + c.val = (h.val * 40 + n.val) * 64 + c.val
    omega
  · refine (shapeCast_apply _ _ _ (ix4 (0 : Fin 1) h c i) ?_).trans ?_
    · rw [Shape.rowMajor_val_four, Shape.rowMajor_val_three]
      show ((0 * 16 + h.val) * 64 + c.val) * 2048 + i.val = (h.val * 64 + c.val) * 2048 + i.val
      omega
    · exact (transpose_apply _ _ _ _ (ix4 (0 : Fin 1) h i c) (by intro b; match b with | ⟨0, _⟩ => rfl | ⟨1, _⟩ => rfl | ⟨2, _⟩ => rfl | ⟨3, _⟩ => rfl)).trans (headMajor_apply k h i c)

theorem along_apply (x : Vec Ideal S1x16x40 .f32) (h : Fin 16) (n : Fin 40) (i : Fin 2048) : along x (ix4 (0 : Fin 1) h n i) = x (ix3 (0 : Fin 1) h n) :=
  (broadcastInDim_apply _ _ _ _ (ix4 (0 : Fin 1) h n (0 : Fin 1)) (by intro a; match a with | ⟨0, _⟩ => rfl | ⟨1, _⟩ => rfl | ⟨2, _⟩ => rfl | ⟨3, _⟩ => rfl)).trans
    (broadcastInDim_apply _ _ _ _ (ix3 (0 : Fin 1) h n) (by intro a; match a with | ⟨0, _⟩ => rfl | ⟨1, _⟩ => rfl | ⟨2, _⟩ => rfl))

theorem reduces_rows : S1x16x40x2048.Reduces [3] S1x16x40 := by decide
theorem reduces_values : S1x16x2048x64.Reduces [2] S1x16x64 := by decide

theorem lift_rows (h : Fin 16) (n : Fin 40) (i : Fin 2048) : reduces_rows.lift (ix3 (0 : Fin 1) h n) i = ix4 (0 : Fin 1) h n i := by
  funext a; match a with | ⟨0, _⟩ => rfl | ⟨1, _⟩ => rfl | ⟨2, _⟩ => rfl | ⟨3, _⟩ => rfl

theorem lift_values (h : Fin 16) (d : Fin 64) (i : Fin 2048) : reduces_values.lift (ix3 (0 : Fin 1) h d) i = ix4 (0 : Fin 1) h i d := by
  funext a; match a with | ⟨0, _⟩ => rfl | ⟨1, _⟩ => rfl | ⟨2, _⟩ => rfl | ⟨3, _⟩ => rfl

/-- The first place of a row. -/
def first_row : Fin (S1x16x40x2048.size 3) := ⟨0, by decide⟩

/-- The largest of real scores is real. -/
theorem largest_isReal (s : Vec Ideal S1x16x40x2048 .f32) (h : Fin 16) (n : Fin 40) (hs : ∀ i, IsReal (s (ix4 (0 : Fin 1) h n i))) : IsReal (largest s (ix3 (0 : Fin 1) h n)) := by
  have e : largest s (ix3 (0 : Fin 1) h n) = Host.reduce (FloatOps.maximumf (F := Ideal) (φ := .f32)) s (constant S_ .f32 0xFF800000#32) reducesTo_S1x16x40x2048_S1x16x40_d3 h_S_ (ix3 (0 : Fin 1) h n) := by
    unfold largest
    generalize Host.reduce (FloatOps.maximumf (F := Ideal) (φ := .f32)) s (constant S_ .f32 0xFF800000#32) reducesTo_S1x16x40x2048_S1x16x40_d3 h_S_ = R
    exact (congrArg (fun z : EReal => max z (R (ix3 (0 : Fin 1) h n))) ((broadcastInDim_scalar_apply _ _ _).trans Literals.minus_inf)).trans (max_eq_right bot_le)
  rw [e]
  refine (congrArg IsReal (Host.reduce_eq_fold_single _ _ _ _ reduces_rows _ _)).mpr ?_
  have key : ∀ i : Fin (S1x16x40x2048.size 3), IsReal ((s ∘ reduces_rows.lift (ix3 (0 : Fin 1) h n)) i) := fun i =>
    Eq.mp (congrArg (fun y => IsReal (s y)) (lift_rows h n i).symm) (hs i)
  exact IsReal.fold_max key Finset.univ _ ((congrArg (· ≠ (⊤ : EReal)) Literals.minus_inf).mpr bot_ne_top) ⟨first_row, Finset.mem_univ _⟩

theorem total_apply (p : Vec Ideal S1x16x40x2048 .f32) (h : Fin 16) (n : Fin 40) :
    Host.reduceAdd (F := Ideal) p (constant S_ .f32 0x00000000#32) reducesTo_S1x16x40x2048_S1x16x40_d3 h_S_ (ix3 (0 : Fin 1) h n) = ∑ i : Fin 2048, p (ix4 (0 : Fin 1) h n i) := by
  refine (ValueIdx.hostReduceAdd_apply _ _ _ _ _).trans ((Ideal.hostReduceAdd_single _ reduces_rows _ _ _).trans ?_)
  refine (congrArg₂ (· + ·) Ideal.ofBits_zero_f32 ?_).trans (zero_add _)
  exact Finset.sum_congr rfl fun i _ => congrArg p (lift_rows h n i)

theorem means_apply (v : Vec Ideal S1x2048x16x64 .f32) (h : Fin 16) (r : Fin 2048) (d : Fin 64) : means v (ix4 (0 : Fin 1) h r d) = Spec.mean v h d := by
  refine (broadcastInDim_apply _ _ _ _ (ix4 (0 : Fin 1) h (0 : Fin 1) d) (by intro a; match a with | ⟨0, _⟩ => rfl | ⟨1, _⟩ => rfl | ⟨2, _⟩ => rfl | ⟨3, _⟩ => rfl)).trans ?_
  refine (ValueIdx.hostDivf_apply _ _ _).trans ?_
  have e1 : broadcastInDim S1x16x1x64 ![] bcast_S_S1x16x1x64 (constant (F := Ideal) S_ .f32 0x45000000#32) (ix4 (0 : Fin 1) h (0 : Fin 1) d) = ((2048 : ℝ) : EReal) :=
    (broadcastInDim_scalar_apply _ _ _).trans Literals.rows
  rw [e1, Softmax.div_pos (y := 2048) (by norm_num)]
  refine congrArg (· * _) ?_
  refine (broadcastInDim_apply _ _ _ _ (ix3 (0 : Fin 1) h d) (by intro a; match a with | ⟨0, _⟩ => rfl | ⟨1, _⟩ => rfl | ⟨2, _⟩ => rfl)).trans ?_
  refine (ValueIdx.hostReduceAdd_apply _ _ _ _ _).trans ((Ideal.hostReduceAdd_single _ reduces_values _ _ _).trans ?_)
  refine (congrArg₂ (· + ·) Ideal.ofBits_zero_f32 ?_).trans (zero_add _)
  exact Finset.sum_congr rfl fun i _ => (congrArg (headMajor v) (lift_values h d i)).trans (headMajor_apply v h i d)

theorem attended_apply (a : Vec Ideal S1x16x40x2048 .f32) (v : Vec Ideal S1x2048x16x64 .f32) (h : Fin 16) (n : Fin 40) (d : Fin 64) :
    attended a v (ix4 (0 : Fin 1) h n d) = ∑ i : Fin 2048, a (ix4 (0 : Fin 1) h n i) * v (ix4 (0 : Fin 1) i h d) := by
  unfold attended
  refine (broadcastInDim_apply _ _ _ _ (ix3 h n d) (by intro a; match a with | ⟨0, _⟩ => rfl | ⟨1, _⟩ => rfl | ⟨2, _⟩ => rfl)).trans ?_
  simp only [Host.dotGeneral]
  refine (Ideal.dotGeneral_apply _ _ _ _ _ _).trans ?_
  rw [← Equiv.sum_comp (contrEquiv1 dot_S16x40x2048_S16x2048x64_S16x40x64_2_1_1_2_0_0 2048 rfl rfl).symm]
  refine Finset.sum_congr rfl fun i _ => congrArg₂ (· * ·) ?_ ?_
  · refine shapeCast_apply _ _ _ (ix4 (0 : Fin 1) h n i) ?_
    rw [Shape.rowMajor_val_four, Shape.rowMajor_val_three]
    show ((0 * 16 + h.val) * 40 + n.val) * 2048 + i.val = (h.val * 40 + n.val) * 2048 + i.val
    omega
  · refine (shapeCast_apply _ _ _ (ix4 (0 : Fin 1) h i d) ?_).trans (headMajor_apply v h i d)
    rw [Shape.rowMajor_val_four, Shape.rowMajor_val_three]
    show ((0 * 16 + h.val) * 2048 + i.val) * 64 + d.val = (h.val * 2048 + i.val) * 64 + d.val
    omega

/-- Real scores give the softmax average of the values. -/
theorem softmax_apply (s : Vec Ideal S1x16x40x2048 .f32) (v : Vec Ideal S1x2048x16x64 .f32) (h : Fin 16) (n : Fin 40) (d : Fin 64)
    (hs : ∀ i, IsReal (s (ix4 (0 : Fin 1) h n i))) :
    attended (weights (exps s)) v (ix4 (0 : Fin 1) h n d) = average (fun i => (s (ix4 (0 : Fin 1) h n i)).toReal) (fun i => v (ix4 (0 : Fin 1) i h d)) := by
  obtain ⟨a, ha⟩ := largest_isReal s h n hs
  have he : ∀ i, exps s (ix4 (0 : Fin 1) h n i) = Ideal.exp ((((s (ix4 (0 : Fin 1) h n i)).toReal : ℝ) : EReal) - (a : EReal)) := fun i => by
    show Ideal.exp (s (ix4 (0 : Fin 1) h n i) - along (largest s) (ix4 (0 : Fin 1) h n i)) = _
    rw [along_apply, ha, (hs i).toReal]
  have hw : ∀ i, weights (exps s) (ix4 (0 : Fin 1) h n i)
      = Ideal.div (Ideal.exp ((((s (ix4 (0 : Fin 1) h n i)).toReal : ℝ) : EReal) - (a : EReal)))
          (∑ j, Ideal.exp ((((s (ix4 (0 : Fin 1) h n j)).toReal : ℝ) : EReal) - (a : EReal))) := fun i => by
    refine (ValueIdx.hostDivf_apply _ _ _).trans ?_
    rw [along_apply, total_apply, he]
    simp only [he]
  rw [attended_apply]
  simp only [hw]
  exact div_then_sum _ a _

/-- One column of numbers below 2048, as the write takes it. -/
theorem col_apply (x : IVec S1x16x40 32) (h : Fin 16) (n : Fin 40) :
    broadcastInDim S1x16x40x1 ![0, 1, 2] bcast_S1x16x40_S1x16x40x1_0_1_2 x (ix4 (0 : Fin 1) h n (0 : Fin 1)) = x (ix3 (0 : Fin 1) h n) :=
  broadcastInDim_apply _ _ _ _ _ (by intro a; match a with | ⟨0, _⟩ => rfl | ⟨1, _⟩ => rfl | ⟨2, _⟩ => rfl)

theorem batchCol_apply (h : Fin 16) (n : Fin 40) : batchCol (ix4 (0 : Fin 1) h n (0 : Fin 1)) = 0#32 := by
  refine (col_apply _ h n).trans ((broadcastInDim_apply _ _ _ _ (ix3 (0 : Fin 1) (0 : Fin 1) (0 : Fin 1)) (by intro a; match a with | ⟨0, _⟩ => rfl | ⟨1, _⟩ => rfl | ⟨2, _⟩ => rfl)).trans ?_)
  exact wrap_apply _ _ _ _ (by decide)

theorem headCol_apply (h : Fin 16) (n : Fin 40) : headCol (ix4 (0 : Fin 1) h n (0 : Fin 1)) = BitVec.ofNat 32 h.val := by
  refine (col_apply _ h n).trans ((broadcastInDim_apply _ _ _ _ (ix3 (0 : Fin 1) h (0 : Fin 1)) (by intro a; match a with | ⟨0, _⟩ => rfl | ⟨1, _⟩ => rfl | ⟨2, _⟩ => rfl)).trans ?_)
  have e : broadcastInDim S1x16x1 ![1] bcast_S16_S1x16x1_1 (iotaInDim S16 32 0) (ix3 (0 : Fin 1) h (0 : Fin 1)) = BitVec.ofNat 32 h.val :=
    broadcastInDim_apply _ _ _ _ (ix1 h) (by intro a; match a with | ⟨0, _⟩ => rfl)
  refine (wrap_apply _ _ _ _ ?_).trans e
  rw [e, BitVec.toNat_ofNat]
  have := h.isLt
  omega

theorem rowCol_apply (w : IVec S16x128 32) (hw : ∀ y, (w y).toNat < 2048) (h : Fin 16) (n : Fin 40) : rowCol w (ix4 (0 : Fin 1) h n (0 : Fin 1)) = Spec.pick w h n :=
  (col_apply _ h n).trans ((wrap_apply _ _ _ _ (words_apply w h n ▸ hw _)).trans (words_apply w h n))

/-- The three columns side by side. -/
abbrev pieces (w : IVec S16x128 32) : List ((s : Shape) × (s.Idx → BitVec 32)) := [⟨S1x16x40x1, batchCol⟩, ⟨S1x16x40x1, headCol⟩, ⟨S1x16x40x1, rowCol w⟩]

theorem off_last {q : Fin 3} (h : Fin 16) (n : Fin 40) (b : Fin 4) (hb : b ≠ 3) : (ix4 (0 : Fin 1) h n (0 : Fin 1) b).val = (ix4 (0 : Fin 1) h n q b).val := by
  match b with
  | ⟨0, _⟩ => rfl
  | ⟨1, _⟩ => rfl
  | ⟨2, _⟩ => rfl
  | ⟨3, _⟩ => exact absurd rfl hb

theorem places_apply (w : IVec S16x128 32) (q : Fin 3) (h : Fin 16) (n : Fin 40) :
    places (F := Ideal) w (ix4 (0 : Fin 1) h n q) = (![batchCol, headCol, rowCol w] : Fin 3 → IVec S1x16x40x1 32) q (ix4 (0 : Fin 1) h n (0 : Fin 1)) := by
  match q with
  | ⟨0, _⟩ => exact concatenate_apply_piece 3 (pieces w) concatenates_S1x16x40x1_S1x16x40x1_S1x16x40x1_S1x16x40x3_d3 _ 0 (by show 0 < 3; decide) S1x16x40x1 _ rfl rfl 0 rfl _ (off_last h n) rfl
  | ⟨1, _⟩ => exact concatenate_apply_piece 3 (pieces w) concatenates_S1x16x40x1_S1x16x40x1_S1x16x40x1_S1x16x40x3_d3 _ 1 (by show 1 < 3; decide) S1x16x40x1 _ rfl rfl 1 rfl _ (off_last h n) rfl
  | ⟨2, _⟩ => exact concatenate_apply_piece 3 (pieces w) concatenates_S1x16x40x1_S1x16x40x1_S1x16x40x1_S1x16x40x3_d3 _ 2 (by show 2 < 3; decide) S1x16x40x1 _ rfl rfl 2 rfl _ (off_last h n) rfl

/-- The reference's result at a place is the specification's. -/
theorem whole_apply (w : IVec S16x128 32) (q k v : Vec Ideal S1x2048x16x64 .f32) (hw : ∀ y, (w y).toNat < 2048) (hq : ∀ y, IsReal (q y)) (hk : ∀ y, IsReal (k y))
    (r : Fin 2048) (h : Fin 16) (d : Fin 64) (j : Fin 1024) (hj : j.val = 64 * h.val + d.val) : whole w q k v (ix2 r j) = Spec.out w q k v r h d := by
  unfold whole
  refine (shapeCast_apply _ _ _ (ix4 (0 : Fin 1) r h d) ?_).trans ?_
  · rw [Shape.rowMajor_val_four, Shape.rowMajor_val_two]
    show ((0 * 2048 + r.val) * 16 + h.val) * 64 + d.val = r.val * 1024 + j.val
    omega
  refine (transpose_apply _ _ _ _ (ix4 (0 : Fin 1) h r d) (by intro b; match b with | ⟨0, _⟩ => rfl | ⟨1, _⟩ => rfl | ⟨2, _⟩ => rfl | ⟨3, _⟩ => rfl)).trans ?_
  refine (scatter_apply _ _ _ (fun g n => Spec.pick w g n) (fun g n => ?_) (fun g n => ?_) (fun g n => ?_) h r d (Spec.attn q k v r h d) fun n hn => ?_).trans ?_
  · rw [places_apply]; exact (congrArg BitVec.toInt (batchCol_apply g n)).trans rfl
  · rw [places_apply]
    refine (congrArg BitVec.toInt (headCol_apply g n)).trans ?_
    have := g.isLt
    rw [toInt_small (by rw [BitVec.toNat_ofNat]; omega), BitVec.toNat_ofNat, Nat.mod_eq_of_lt (by omega)]
  · rw [places_apply]; exact (congrArg BitVec.toInt (rowCol_apply w hw g n)).trans (toInt_small (hw _))
  · have hr : sel w hw h n = r := Fin.ext hn
    have hs : ∀ i, scores (rows (gatherWords w) q) k (ix4 (0 : Fin 1) h n i) = Spec.score q k r h i := fun i => by
      rw [scores_apply]; unfold Spec.score; simp only [rows_apply w hw, hr]
    rw [softmax_apply _ _ _ _ _ fun i => by rw [hs]; exact Spec.score_isReal hq hk r h i]
    unfold Spec.attn
    simp only [hs]
  · unfold Spec.out
    rw [means_apply]
    congr

/-- The reference's result is the specification's, laid out flat. -/
theorem whole_eq (w : IVec S16x128 32) (q k v : Vec Ideal S1x2048x16x64 .f32) (hw : ∀ y, (w y).toNat < 2048) (hq : ∀ y, IsReal (q y)) (hk : ∀ y, IsReal (k y)) :
    whole w q k v = Spec.flat w q k v := by
  funext y
  obtain ⟨r, j, rfl⟩ : ∃ (r : Fin 2048) (j : Fin 1024), y = ix2 r j := ⟨y 0, y 1, ValueIdx.eq_ix2 y⟩
  have hj : j.val = 64 * (⟨j.val / 64, by have := j.isLt; omega⟩ : Fin 16).val + (⟨j.val % 64, Nat.mod_lt _ (by decide)⟩ : Fin 64).val := by show j.val = 64 * (j.val / 64) + j.val % 64; omega
  exact (whole_apply w q k v hw hq hk r _ _ j hj).trans (Spec.flat_apply w q k v r _ _ j hj).symm

end Cert.AttendReferenceIdeal.Hand

end
-- ==== Proof.lean ====
/- The certificate of the kernel's two calls: it assembles what the modules under Proof/ prove.

   The selection call's run is in `SelectFrame` and `SelectWordsFrame`. The attention launch's run and its unchanged arguments are in `AttendFrame` (at the extended reals) and `AttendWordsFrame` (at
   the words); what its result array holds is in `AttendBlocks`; the preconditions' meaning is in `Conditions`; the
   reference's array is computed in `ReferenceTerm` and `ReferenceValue`. Both arrays equal `Spec.flat`. -/
module

public import proofs.«01_k».proof.Defs
public import proofs.«01_k».proof.Proof.Gen.Select
public import proofs.«01_k».proof.Proof.Gen.Select.Skeleton
public import proofs.«01_k».proof.Proof.Gen.Select.Launch
public import proofs.«01_k».proof.Proof.Gen.Select.Points
public import proofs.«01_k».proof.Proof.Gen.Select.Frame
public import proofs.«01_k».proof.Proof.Gen.SelectIdeal
public import proofs.«01_k».proof.Proof.Gen.SelectIdeal.Skeleton
public import proofs.«01_k».proof.Proof.Gen.SelectIdeal.Launch
public import proofs.«01_k».proof.Proof.Gen.SelectIdeal.Points
public import proofs.«01_k».proof.Proof.Gen.SelectIdeal.Frame
public import proofs.«01_k».proof.Proof.Gen.Attend
public import proofs.«01_k».proof.Proof.Gen.Attend.Skeleton
public import proofs.«01_k».proof.Proof.Gen.Attend.Launch
public import proofs.«01_k».proof.Proof.Gen.Attend.Points
public import proofs.«01_k».proof.Proof.Gen.Attend.Frame
public import proofs.«01_k».proof.Proof.Gen.AttendIdeal
public import proofs.«01_k».proof.Proof.Gen.AttendIdeal.Skeleton
public import proofs.«01_k».proof.Proof.Gen.AttendIdeal.Launch
public import proofs.«01_k».proof.Proof.Gen.AttendIdeal.Points
public import proofs.«01_k».proof.Proof.Gen.AttendIdeal.Frame
public import proofs.«01_k».proof.Proof.Gen.AttendReferenceIdeal
public import proofs.«01_k».proof.Proof.Gen.ReferenceIdeal
public import proofs.«01_k».proof.Proof.Gen.ReferenceIdeal.Run
public import proofs.«01_k».proof.Proof.Gen.AttendReferenceIdeal.Run
public import proofs.«01_k».proof.Proof.Gen.Pre_in_range
public import proofs.«01_k».proof.Proof.Gen.Pre_in_range_finite
public import proofs.«01_k».proof.Proof.SelectWordsFrame
public import proofs.«01_k».proof.Proof.SelectFrame
public import proofs.«01_k».proof.Proof.AttendFrame
public import proofs.«01_k».proof.Proof.AttendWordsFrame
public import proofs.«01_k».proof.Proof.AttendBlocks
public import proofs.«01_k».proof.Proof.Conditions
public import proofs.«01_k».proof.Proof.ReferenceTerm
public import proofs.«01_k».proof.Proof.ReferenceValue
public import Idealize.ShloMosaic.Adequacy
public import Idealize.ShloMosaic.Init
public import Idealize.ShloMosaic.Lib.Quiescent

@[expose] public section

noncomputable section

namespace Cert.Proof

open Idealize.ShloMosaic Idealize.SL.Sem

/-- The selection call at the words runs to the end, with its arguments unchanged and its semaphores at zero. -/
theorem select_frame : Cert.quiescent_Select (hSelect := Cert.Select.Gen.facts) :=
  fun m g _ => Cert.Select.Hand.frame_all m g

/-- The same at the extended reals. -/
theorem selectIdeal_frame : Cert.quiescent_SelectIdeal (hSelectIdeal := Cert.SelectIdeal.Gen.facts) :=
  fun m g _ => Cert.SelectIdeal.Hand.frame_all m g

/-- The attention call at the words runs to the end, with its arguments unchanged and its semaphores at zero. -/
theorem attend_frame : Cert.quiescent_Attend (hAttend := Cert.Attend.Gen.facts) (hPre_in_range := Cert.Pre_in_range.Gen.facts) :=
  letI := Cert.Pre_in_range.Gen.facts
  fun m g h => Cert.Attend.Hand.frame_all m g (Conditions.attend_inRange m h)

/-- The same at the extended reals. -/
theorem attendIdeal_frame : Cert.quiescent_AttendIdeal (hAttendIdeal := Cert.AttendIdeal.Gen.facts) (hPre_in_range := Cert.Pre_in_range.Gen.facts) :=
  letI := Cert.Pre_in_range.Gen.facts
  fun m g h => Cert.AttendIdeal.Hand.frame_all m g (Conditions.attendIdeal_inRange m h)

/-- The same under the condition of the value claim. -/
theorem attendIdeal_frame_finite : Cert.quiescent_AttendIdeal_pre_in_range_finite (hAttendIdeal := Cert.AttendIdeal.Gen.facts)
    (hPre_in_range_finite := Cert.Pre_in_range_finite.Gen.facts) :=
  letI := Cert.Pre_in_range_finite.Gen.facts
  fun m g h => Cert.AttendIdeal.Hand.frame_all m g (Conditions.attendIdeal_real m h).1

/-- The plain attention runs to the end, with its arguments unchanged; it has no semaphores. -/
theorem attendReference_frame : Cert.quiescent_AttendReferenceIdeal (hAttendReferenceIdeal := Cert.AttendReferenceIdeal.Gen.facts) :=
  fun m g _ => (θ_run _ _ _).mono (fun r h => ⟨fun c => (h c).2, sem_eq_zero_of_no_sems (by decide) r.2⟩)
    (Cert.AttendReferenceIdeal.Value.run m g)

/-- The same under the condition of the value claim. -/
theorem attendReference_frame_finite : Cert.quiescent_AttendReferenceIdeal_pre_in_range_finite (hAttendReferenceIdeal := Cert.AttendReferenceIdeal.Gen.facts)
    (hPre_in_range_finite := Cert.Pre_in_range_finite.Gen.facts) :=
  fun m g _ => attendReference_frame m g trivial

/-- So does the whole reference. -/
theorem reference_frame : Cert.quiescent_ReferenceIdeal (hReferenceIdeal := Cert.ReferenceIdeal.Gen.facts) :=
  fun m g _ => (θ_run _ _ _).mono (fun r h => ⟨fun c => (h c).2, sem_eq_zero_of_no_sems (by decide) r.2⟩)
    (Cert.ReferenceIdeal.Value.run m g)

/-- The attention call and the plain attention leave the same array, where the selected rows are in range and the
    queries and keys are finite. -/
theorem attend_value : Cert.algebraic_AttendIdeal_AttendReferenceIdeal_pre_in_range_finite (hAttendIdeal := Cert.AttendIdeal.Gen.facts)
    (hAttendReferenceIdeal := Cert.AttendReferenceIdeal.Gen.facts) (hPre_in_range_finite := Cert.Pre_in_range_finite.Gen.facts) := by
  letI := Cert.Pre_in_range_finite.Gen.facts
  intro m g m' g' h e
  obtain ⟨hr, hx⟩ := Conditions.attendIdeal_real m h
  refine ⟨fun c => Cert.AttendIdeal.Hand.result m c, Cert.AttendIdeal.Hand.run_value m g hr hx, ?_⟩
  refine (θ_run _ _ _).mono (fun r k c => ⟨(k c).1.trans ?_, (k c).2⟩) (Cert.AttendReferenceIdeal.Value.run m' g')
  rw [Cert.AttendReferenceIdeal.Hand.res_eq, (e c).1, (e c).2.1, (e c).2.2.1, (e c).2.2.2]
  exact Cert.AttendReferenceIdeal.Hand.whole_eq _ _ _ _ (hr c) (hx c).1 (hx c).2

/-- All the claims. -/
theorem claim : Cert.Claim :=
  ⟨Cert.Select.Gen.facts, Cert.SelectIdeal.Gen.facts, Cert.Attend.Gen.facts, Cert.AttendIdeal.Gen.facts, Cert.AttendReferenceIdeal.Gen.facts, Cert.ReferenceIdeal.Gen.facts,
    Cert.Pre_in_range.Gen.facts, Cert.Pre_in_range_finite.Gen.facts,
    select_frame, selectIdeal_frame, attend_frame, attendIdeal_frame, attendIdeal_frame_finite, attendReference_frame, attendReference_frame_finite, reference_frame,
    trivial, trivial, attend_value⟩

end Cert.Proof

end
